-- ==== Defs.lean ====
def Pre_Matmul (m : (ℓ : Loc Cert.Matmul.nD Cert.Matmul.τ Cert.Matmul.sig) → Buf (Elt Bits) ℓ) : Prop :=
  True

def Pre_MatmulIdeal (m : (ℓ : Loc Cert.MatmulIdeal.nD Cert.MatmulIdeal.τ Cert.MatmulIdeal.sig) → Buf (Elt Ideal) ℓ) : Prop :=
  True

def Pre_RefMatmulIdeal (m : (ℓ : Loc Cert.RefMatmulIdeal.nD Cert.RefMatmulIdeal.τ Cert.RefMatmulIdeal.sig) → Buf (Elt Ideal) ℓ) : Prop :=
  True

def Pre_Rotate (m : (ℓ : Loc Cert.Rotate.nD Cert.Rotate.τ Cert.Rotate.sig) → Buf (Elt Bits) ℓ) : Prop :=
  True

def Pre_RotateIdeal (m : (ℓ : Loc Cert.RotateIdeal.nD Cert.RotateIdeal.τ Cert.RotateIdeal.sig) → Buf (Elt Ideal) ℓ) : Prop :=
  True

def Pre_RefRotateIdeal (m : (ℓ : Loc Cert.RefRotateIdeal.nD Cert.RefRotateIdeal.τ Cert.RefRotateIdeal.sig) → Buf (Elt Ideal) ℓ) : Prop :=
  True

def Pre_Decode (m : (ℓ : Loc Cert.Decode.nD Cert.Decode.τ Cert.Decode.sig) → Buf (Elt Bits) ℓ) : Prop :=
  True

def Pre_DecodeIdeal (m : (ℓ : Loc Cert.DecodeIdeal.nD Cert.DecodeIdeal.τ Cert.DecodeIdeal.sig) → Buf (Elt Ideal) ℓ) : Prop :=
  True

def Pre_RefDecodeIdeal (m : (ℓ : Loc Cert.RefDecodeIdeal.nD Cert.RefDecodeIdeal.τ Cert.RefDecodeIdeal.sig) → Buf (Elt Ideal) ℓ) : Prop :=
  True

def quiescent_Matmul [hMatmul : Cert.Matmul.Facts] : Prop :=
  ∀ (m : (ℓ : Loc Cert.Matmul.nD Cert.Matmul.τ Cert.Matmul.sig) → Buf (Elt Bits) ℓ) (g : Dev Cert.Matmul.nD → PrngReg), Pre_Matmul m →
    θ_run (Cert.Matmul.defs (F := Bits)) (onTc (τ := Cert.Matmul.τ) (Cert.Matmul.main (F := Bits))) ⟨m, fun _ => 0, g⟩ (fun r => (∀ c : Dev Cert.Matmul.nD,
      r.2.mem ((c.tc : Thread Cert.Matmul.nD Cert.Matmul.τ).loc Cert.Matmul.main_arg0) = m ((c.tc : Thread Cert.Matmul.nD Cert.Matmul.τ).loc Cert.Matmul.main_arg0)
      ∧ r.2.mem ((c.tc : Thread Cert.Matmul.nD Cert.Matmul.τ).loc Cert.Matmul.main_arg1) = m ((c.tc : Thread Cert.Matmul.nD Cert.Matmul.τ).loc Cert.Matmul.main_arg1)
      ∧ r.2.mem ((c.tc : Thread Cert.Matmul.nD Cert.Matmul.τ).loc Cert.Matmul.main_arg2) = m ((c.tc : Thread Cert.Matmul.nD Cert.Matmul.τ).loc Cert.Matmul.main_arg2)
      ∧ r.2.mem ((c.tc : Thread Cert.Matmul.nD Cert.Matmul.τ).loc Cert.Matmul.main_arg3) = m ((c.tc : Thread Cert.Matmul.nD Cert.Matmul.τ).loc Cert.Matmul.main_arg3))
      ∧ r.2.sem = fun _ => 0)

def quiescent_MatmulIdeal [hMatmulIdeal : Cert.MatmulIdeal.Facts] : Prop :=
  ∀ (m : (ℓ : Loc Cert.MatmulIdeal.nD Cert.MatmulIdeal.τ Cert.MatmulIdeal.sig) → Buf (Elt Ideal) ℓ) (g : Dev Cert.MatmulIdeal.nD → PrngReg), Pre_MatmulIdeal m →
    θ_run (Cert.MatmulIdeal.defs (F := Ideal)) (onTc (τ := Cert.MatmulIdeal.τ) (Cert.MatmulIdeal.main (F := Ideal))) ⟨m, fun _ => 0, g⟩ (fun r => (∀ c : Dev Cert.MatmulIdeal.nD,
      r.2.mem ((c.tc : Thread Cert.MatmulIdeal.nD Cert.MatmulIdeal.τ).loc Cert.MatmulIdeal.main_arg0) = m ((c.tc : Thread Cert.MatmulIdeal.nD Cert.MatmulIdeal.τ).loc Cert.MatmulIdeal.main_arg0)
      ∧ r.2.mem ((c.tc : Thread Cert.MatmulIdeal.nD Cert.MatmulIdeal.τ).loc Cert.MatmulIdeal.main_arg1) = m ((c.tc : Thread Cert.MatmulIdeal.nD Cert.MatmulIdeal.τ).loc Cert.MatmulIdeal.main_arg1)
      ∧ r.2.mem ((c.tc : Thread Cert.MatmulIdeal.nD Cert.MatmulIdeal.τ).loc Cert.MatmulIdeal.main_arg2) = m ((c.tc : Thread Cert.MatmulIdeal.nD Cert.MatmulIdeal.τ).loc Cert.MatmulIdeal.main_arg2)
      ∧ r.2.mem ((c.tc : Thread Cert.MatmulIdeal.nD Cert.MatmulIdeal.τ).loc Cert.MatmulIdeal.main_arg3) = m ((c.tc : Thread Cert.MatmulIdeal.nD Cert.MatmulIdeal.τ).loc Cert.MatmulIdeal.main_arg3))
      ∧ r.2.sem = fun _ => 0)

def quiescent_RefMatmulIdeal [hRefMatmulIdeal : Cert.RefMatmulIdeal.Facts] : Prop :=
  ∀ (m : (ℓ : Loc Cert.RefMatmulIdeal.nD Cert.RefMatmulIdeal.τ Cert.RefMatmulIdeal.sig) → Buf (Elt Ideal) ℓ) (g : Dev Cert.RefMatmulIdeal.nD → PrngReg), Pre_RefMatmulIdeal m →
    θ_run (Cert.RefMatmulIdeal.defs (F := Ideal)) (onTc (τ := Cert.RefMatmulIdeal.τ) (Cert.RefMatmulIdeal.main (F := Ideal))) ⟨m, fun _ => 0, g⟩ (fun r => (∀ c : Dev Cert.RefMatmulIdeal.nD,
      r.2.mem ((c.tc : Thread Cert.RefMatmulIdeal.nD Cert.RefMatmulIdeal.τ).loc Cert.RefMatmulIdeal.main_arg0) = m ((c.tc : Thread Cert.RefMatmulIdeal.nD Cert.RefMatmulIdeal.τ).loc Cert.RefMatmulIdeal.main_arg0)
      ∧ r.2.mem ((c.tc : Thread Cert.RefMatmulIdeal.nD Cert.RefMatmulIdeal.τ).loc Cert.RefMatmulIdeal.main_arg1) = m ((c.tc : Thread Cert.RefMatmulIdeal.nD Cert.RefMatmulIdeal.τ).loc Cert.RefMatmulIdeal.main_arg1)
      ∧ r.2.mem ((c.tc : Thread Cert.RefMatmulIdeal.nD Cert.RefMatmulIdeal.τ).loc Cert.RefMatmulIdeal.main_arg2) = m ((c.tc : Thread Cert.RefMatmulIdeal.nD Cert.RefMatmulIdeal.τ).loc Cert.RefMatmulIdeal.main_arg2)
      ∧ r.2.mem ((c.tc : Thread Cert.RefMatmulIdeal.nD Cert.RefMatmulIdeal.τ).loc Cert.RefMatmulIdeal.main_arg3) = m ((c.tc : Thread Cert.RefMatmulIdeal.nD Cert.RefMatmulIdeal.τ).loc Cert.RefMatmulIdeal.main_arg3))
      ∧ r.2.sem = fun _ => 0)

def quiescent_Rotate [hRotate : Cert.Rotate.Facts] : Prop :=
  ∀ (m : (ℓ : Loc Cert.Rotate.nD Cert.Rotate.τ Cert.Rotate.sig) → Buf (Elt Bits) ℓ) (g : Dev Cert.Rotate.nD → PrngReg), Pre_Rotate m →
    θ_run (Cert.Rotate.defs (F := Bits)) (onTc (τ := Cert.Rotate.τ) (Cert.Rotate.main (F := Bits))) ⟨m, fun _ => 0, g⟩ (fun r => (∀ c : Dev Cert.Rotate.nD,
      r.2.mem ((c.tc : Thread Cert.Rotate.nD Cert.Rotate.τ).loc Cert.Rotate.main_arg0) = m ((c.tc : Thread Cert.Rotate.nD Cert.Rotate.τ).loc Cert.Rotate.main_arg0)
      ∧ r.2.mem ((c.tc : Thread Cert.Rotate.nD Cert.Rotate.τ).loc Cert.Rotate.main_arg1) = m ((c.tc : Thread Cert.Rotate.nD Cert.Rotate.τ).loc Cert.Rotate.main_arg1))
      ∧ r.2.sem = fun _ => 0)

def quiescent_RotateIdeal [hRotateIdeal : Cert.RotateIdeal.Facts] : Prop :=
  ∀ (m : (ℓ : Loc Cert.RotateIdeal.nD Cert.RotateIdeal.τ Cert.RotateIdeal.sig) → Buf (Elt Ideal) ℓ) (g : Dev Cert.RotateIdeal.nD → PrngReg), Pre_RotateIdeal m →
    θ_run (Cert.RotateIdeal.defs (F := Ideal)) (onTc (τ := Cert.RotateIdeal.τ) (Cert.RotateIdeal.main (F := Ideal))) ⟨m, fun _ => 0, g⟩ (fun r => (∀ c : Dev Cert.RotateIdeal.nD,
      r.2.mem ((c.tc : Thread Cert.RotateIdeal.nD Cert.RotateIdeal.τ).loc Cert.RotateIdeal.main_arg0) = m ((c.tc : Thread Cert.RotateIdeal.nD Cert.RotateIdeal.τ).loc Cert.RotateIdeal.main_arg0)
      ∧ r.2.mem ((c.tc : Thread Cert.RotateIdeal.nD Cert.RotateIdeal.τ).loc Cert.RotateIdeal.main_arg1) = m ((c.tc : Thread Cert.RotateIdeal.nD Cert.RotateIdeal.τ).loc Cert.RotateIdeal.main_arg1))
      ∧ r.2.sem = fun _ => 0)

def quiescent_RefRotateIdeal [hRefRotateIdeal : Cert.RefRotateIdeal.Facts] : Prop :=
  ∀ (m : (ℓ : Loc Cert.RefRotateIdeal.nD Cert.RefRotateIdeal.τ Cert.RefRotateIdeal.sig) → Buf (Elt Ideal) ℓ) (g : Dev Cert.RefRotateIdeal.nD → PrngReg), Pre_RefRotateIdeal m →
    θ_run (Cert.RefRotateIdeal.defs (F := Ideal)) (onTc (τ := Cert.RefRotateIdeal.τ) (Cert.RefRotateIdeal.main (F := Ideal))) ⟨m, fun _ => 0, g⟩ (fun r => (∀ c : Dev Cert.RefRotateIdeal.nD,
      r.2.mem ((c.tc : Thread Cert.RefRotateIdeal.nD Cert.RefRotateIdeal.τ).loc Cert.RefRotateIdeal.main_arg0) = m ((c.tc : Thread Cert.RefRotateIdeal.nD Cert.RefRotateIdeal.τ).loc Cert.RefRotateIdeal.main_arg0)
      ∧ r.2.mem ((c.tc : Thread Cert.RefRotateIdeal.nD Cert.RefRotateIdeal.τ).loc Cert.RefRotateIdeal.main_arg1) = m ((c.tc : Thread Cert.RefRotateIdeal.nD Cert.RefRotateIdeal.τ).loc Cert.RefRotateIdeal.main_arg1))
      ∧ r.2.sem = fun _ => 0)

def quiescent_Decode [hDecode : Cert.Decode.Facts] : Prop :=
  ∀ (m : (ℓ : Loc Cert.Decode.nD Cert.Decode.τ Cert.Decode.sig) → Buf (Elt Bits) ℓ) (g : Dev Cert.Decode.nD → PrngReg), Pre_Decode m →
    θ_run (Cert.Decode.defs (F := Bits)) (onTc (τ := Cert.Decode.τ) (Cert.Decode.main (F := Bits))) ⟨m, fun _ => 0, g⟩ (fun r => (∀ c : Dev Cert.Decode.nD,
      r.2.mem ((c.tc : Thread Cert.Decode.nD Cert.Decode.τ).loc Cert.Decode.main_arg0) = m ((c.tc : Thread Cert.Decode.nD Cert.Decode.τ).loc Cert.Decode.main_arg0)
      ∧ r.2.mem ((c.tc : Thread Cert.Decode.nD Cert.Decode.τ).loc Cert.Decode.main_arg1) = m ((c.tc : Thread Cert.Decode.nD Cert.Decode.τ).loc Cert.Decode.main_arg1))
      ∧ r.2.sem = fun _ => 0)

def quiescent_DecodeIdeal [hDecodeIdeal : Cert.DecodeIdeal.Facts] : Prop :=
  ∀ (m : (ℓ : Loc Cert.DecodeIdeal.nD Cert.DecodeIdeal.τ Cert.DecodeIdeal.sig) → Buf (Elt Ideal) ℓ) (g : Dev Cert.DecodeIdeal.nD → PrngReg), Pre_DecodeIdeal m →
    θ_run (Cert.DecodeIdeal.defs (F := Ideal)) (onTc (τ := Cert.DecodeIdeal.τ) (Cert.DecodeIdeal.main (F := Ideal))) ⟨m, fun _ => 0, g⟩ (fun r => (∀ c : Dev Cert.DecodeIdeal.nD,
      r.2.mem ((c.tc : Thread Cert.DecodeIdeal.nD Cert.DecodeIdeal.τ).loc Cert.DecodeIdeal.main_arg0) = m ((c.tc : Thread Cert.DecodeIdeal.nD Cert.DecodeIdeal.τ).loc Cert.DecodeIdeal.main_arg0)
      ∧ r.2.mem ((c.tc : Thread Cert.DecodeIdeal.nD Cert.DecodeIdeal.τ).loc Cert.DecodeIdeal.main_arg1) = m ((c.tc : Thread Cert.DecodeIdeal.nD Cert.DecodeIdeal.τ).loc Cert.DecodeIdeal.main_arg1))
      ∧ r.2.sem = fun _ => 0)

def quiescent_RefDecodeIdeal [hRefDecodeIdeal : Cert.RefDecodeIdeal.Facts] : Prop :=
  ∀ (m : (ℓ : Loc Cert.RefDecodeIdeal.nD Cert.RefDecodeIdeal.τ Cert.RefDecodeIdeal.sig) → Buf (Elt Ideal) ℓ) (g : Dev Cert.RefDecodeIdeal.nD → PrngReg), Pre_RefDecodeIdeal m →
    θ_run (Cert.RefDecodeIdeal.defs (F := Ideal)) (onTc (τ := Cert.RefDecodeIdeal.τ) (Cert.RefDecodeIdeal.main (F := Ideal))) ⟨m, fun _ => 0, g⟩ (fun r => (∀ c : Dev Cert.RefDecodeIdeal.nD,
      r.2.mem ((c.tc : Thread Cert.RefDecodeIdeal.nD Cert.RefDecodeIdeal.τ).loc Cert.RefDecodeIdeal.main_arg0) = m ((c.tc : Thread Cert.RefDecodeIdeal.nD Cert.RefDecodeIdeal.τ).loc Cert.RefDecodeIdeal.main_arg0)
      ∧ r.2.mem ((c.tc : Thread Cert.RefDecodeIdeal.nD Cert.RefDecodeIdeal.τ).loc Cert.RefDecodeIdeal.main_arg1) = m ((c.tc : Thread Cert.RefDecodeIdeal.nD Cert.RefDecodeIdeal.τ).loc Cert.RefDecodeIdeal.main_arg1))
      ∧ r.2.sem = fun _ => 0)

def preserves_Matmul_MatmulIdeal : Prop :=
  True

def algebraic_MatmulIdeal_RefMatmulIdeal [hMatmulIdeal : Cert.MatmulIdeal.Facts] [hRefMatmulIdeal : Cert.RefMatmulIdeal.Facts] : Prop :=
  ∀ (m : (ℓ : Loc Cert.MatmulIdeal.nD Cert.MatmulIdeal.τ Cert.MatmulIdeal.sig) → Buf (Elt Ideal) ℓ) (g : Dev Cert.MatmulIdeal.nD → PrngReg)
    (m' : (ℓ : Loc Cert.RefMatmulIdeal.nD Cert.RefMatmulIdeal.τ Cert.RefMatmulIdeal.sig) → Buf (Elt Ideal) ℓ) (g' : Dev Cert.RefMatmulIdeal.nD → PrngReg), Pre_MatmulIdeal m →
    (∀ c : Dev Cert.MatmulIdeal.nD,
      m' ((c.tc : Thread Cert.RefMatmulIdeal.nD Cert.RefMatmulIdeal.τ).loc Cert.RefMatmulIdeal.main_arg0) = m ((c.tc : Thread Cert.MatmulIdeal.nD Cert.MatmulIdeal.τ).loc Cert.MatmulIdeal.main_arg0)
      ∧ m' ((c.tc : Thread Cert.RefMatmulIdeal.nD Cert.RefMatmulIdeal.τ).loc Cert.RefMatmulIdeal.main_arg1) = m ((c.tc : Thread Cert.MatmulIdeal.nD Cert.MatmulIdeal.τ).loc Cert.MatmulIdeal.main_arg1)
      ∧ m' ((c.tc : Thread Cert.RefMatmulIdeal.nD Cert.RefMatmulIdeal.τ).loc Cert.RefMatmulIdeal.main_arg2) = m ((c.tc : Thread Cert.MatmulIdeal.nD Cert.MatmulIdeal.τ).loc Cert.MatmulIdeal.main_arg2)
      ∧ m' ((c.tc : Thread Cert.RefMatmulIdeal.nD Cert.RefMatmulIdeal.τ).loc Cert.RefMatmulIdeal.main_arg3) = m ((c.tc : Thread Cert.MatmulIdeal.nD Cert.MatmulIdeal.τ).loc Cert.MatmulIdeal.main_arg3)) →
    ∃ (v0 : (c : Dev Cert.MatmulIdeal.nD) → Buf (Elt Ideal) ((c.tc : Thread Cert.MatmulIdeal.nD Cert.MatmulIdeal.τ).loc Cert.MatmulIdeal.main_v3)),
      θ_run (Cert.MatmulIdeal.defs (F := Ideal)) (onTc (τ := Cert.MatmulIdeal.τ) (Cert.MatmulIdeal.main (F := Ideal))) ⟨m, fun _ => 0, g⟩ (fun r => ∀ c : Dev Cert.MatmulIdeal.nD,
          r.2.mem ((c.tc : Thread Cert.MatmulIdeal.nD Cert.MatmulIdeal.τ).loc Cert.MatmulIdeal.main_v3) = v0 c
          ∧ r.2.mem ((c.tc : Thread Cert.MatmulIdeal.nD Cert.MatmulIdeal.τ).loc Cert.MatmulIdeal.main_arg0) = m ((c.tc : Thread Cert.MatmulIdeal.nD Cert.MatmulIdeal.τ).loc Cert.MatmulIdeal.main_arg0)
          ∧ r.2.mem ((c.tc : Thread Cert.MatmulIdeal.nD Cert.MatmulIdeal.τ).loc Cert.MatmulIdeal.main_arg1) = m ((c.tc : Thread Cert.MatmulIdeal.nD Cert.MatmulIdeal.τ).loc Cert.MatmulIdeal.main_arg1)
          ∧ r.2.mem ((c.tc : Thread Cert.MatmulIdeal.nD Cert.MatmulIdeal.τ).loc Cert.MatmulIdeal.main_arg2) = m ((c.tc : Thread Cert.MatmulIdeal.nD Cert.MatmulIdeal.τ).loc Cert.MatmulIdeal.main_arg2)
          ∧ r.2.mem ((c.tc : Thread Cert.MatmulIdeal.nD Cert.MatmulIdeal.τ).loc Cert.MatmulIdeal.main_arg3) = m ((c.tc : Thread Cert.MatmulIdeal.nD Cert.MatmulIdeal.τ).loc Cert.MatmulIdeal.main_arg3))
      ∧ θ_run (Cert.RefMatmulIdeal.defs (F := Ideal)) (onTc (τ := Cert.RefMatmulIdeal.τ) (Cert.RefMatmulIdeal.main (F := Ideal))) ⟨m', fun _ => 0, g'⟩ (fun r => ∀ c : Dev Cert.RefMatmulIdeal.nD,
          r.2.mem ((c.tc : Thread Cert.RefMatmulIdeal.nD Cert.RefMatmulIdeal.τ).loc Cert.RefMatmulIdeal.main_v2) = v0 c
          ∧ r.2.mem ((c.tc : Thread Cert.RefMatmulIdeal.nD Cert.RefMatmulIdeal.τ).loc Cert.RefMatmulIdeal.main_arg0) = m' ((c.tc : Thread Cert.RefMatmulIdeal.nD Cert.RefMatmulIdeal.τ).loc Cert.RefMatmulIdeal.main_arg0)
          ∧ r.2.mem ((c.tc : Thread Cert.RefMatmulIdeal.nD Cert.RefMatmulIdeal.τ).loc Cert.RefMatmulIdeal.main_arg1) = m' ((c.tc : Thread Cert.RefMatmulIdeal.nD Cert.RefMatmulIdeal.τ).loc Cert.RefMatmulIdeal.main_arg1)
          ∧ r.2.mem ((c.tc : Thread Cert.RefMatmulIdeal.nD Cert.RefMatmulIdeal.τ).loc Cert.RefMatmulIdeal.main_arg2) = m' ((c.tc : Thread Cert.RefMatmulIdeal.nD Cert.RefMatmulIdeal.τ).loc Cert.RefMatmulIdeal.main_arg2)
          ∧ r.2.mem ((c.tc : Thread Cert.RefMatmulIdeal.nD Cert.RefMatmulIdeal.τ).loc Cert.RefMatmulIdeal.main_arg3) = m' ((c.tc : Thread Cert.RefMatmulIdeal.nD Cert.RefMatmulIdeal.τ).loc Cert.RefMatmulIdeal.main_arg3))

def preserves_Rotate_RotateIdeal : Prop :=
  True

def algebraic_RotateIdeal_RefRotateIdeal [hRotateIdeal : Cert.RotateIdeal.Facts] [hRefRotateIdeal : Cert.RefRotateIdeal.Facts] : Prop :=
  ∀ (m : (ℓ : Loc Cert.RotateIdeal.nD Cert.RotateIdeal.τ Cert.RotateIdeal.sig) → Buf (Elt Ideal) ℓ) (g : Dev Cert.RotateIdeal.nD → PrngReg)
    (m' : (ℓ : Loc Cert.RefRotateIdeal.nD Cert.RefRotateIdeal.τ Cert.RefRotateIdeal.sig) → Buf (Elt Ideal) ℓ) (g' : Dev Cert.RefRotateIdeal.nD → PrngReg), Pre_RotateIdeal m →
    (∀ c : Dev Cert.RotateIdeal.nD,
      m' ((c.tc : Thread Cert.RefRotateIdeal.nD Cert.RefRotateIdeal.τ).loc Cert.RefRotateIdeal.main_arg0) = m ((c.tc : Thread Cert.RotateIdeal.nD Cert.RotateIdeal.τ).loc Cert.RotateIdeal.main_arg0)
      ∧ m' ((c.tc : Thread Cert.RefRotateIdeal.nD Cert.RefRotateIdeal.τ).loc Cert.RefRotateIdeal.main_arg1) = m ((c.tc : Thread Cert.RotateIdeal.nD Cert.RotateIdeal.τ).loc Cert.RotateIdeal.main_arg1)) →
    ∃ (v0 : (c : Dev Cert.RotateIdeal.nD) → Buf (Elt Ideal) ((c.tc : Thread Cert.RotateIdeal.nD Cert.RotateIdeal.τ).loc Cert.RotateIdeal.main_v12_0)) (v1 : (c : Dev Cert.RotateIdeal.nD) → Buf (Elt Ideal) ((c.tc : Thread Cert.RotateIdeal.nD Cert.RotateIdeal.τ).loc Cert.RotateIdeal.main_v12_1)),
      θ_run (Cert.RotateIdeal.defs (F := Ideal)) (onTc (τ := Cert.RotateIdeal.τ) (Cert.RotateIdeal.main (F := Ideal))) ⟨m, fun _ => 0, g⟩ (fun r => ∀ c : Dev Cert.RotateIdeal.nD,
          r.2.mem ((c.tc : Thread Cert.RotateIdeal.nD Cert.RotateIdeal.τ).loc Cert.RotateIdeal.main_v12_0) = v0 c
          ∧ r.2.mem ((c.tc : Thread Cert.RotateIdeal.nD Cert.RotateIdeal.τ).loc Cert.RotateIdeal.main_v12_1) = v1 c
          ∧ r.2.mem ((c.tc : Thread Cert.RotateIdeal.nD Cert.RotateIdeal.τ).loc Cert.RotateIdeal.main_arg0) = m ((c.tc : Thread Cert.RotateIdeal.nD Cert.RotateIdeal.τ).loc Cert.RotateIdeal.main_arg0)
          ∧ r.2.mem ((c.tc : Thread Cert.RotateIdeal.nD Cert.RotateIdeal.τ).loc Cert.RotateIdeal.main_arg1) = m ((c.tc : Thread Cert.RotateIdeal.nD Cert.RotateIdeal.τ).loc Cert.RotateIdeal.main_arg1))
      ∧ θ_run (Cert.RefRotateIdeal.defs (F := Ideal)) (onTc (τ := Cert.RefRotateIdeal.τ) (Cert.RefRotateIdeal.main (F := Ideal))) ⟨m', fun _ => 0, g'⟩ (fun r => ∀ c : Dev Cert.RefRotateIdeal.nD,
          r.2.mem ((c.tc : Thread Cert.RefRotateIdeal.nD Cert.RefRotateIdeal.τ).loc Cert.RefRotateIdeal.main_v19_0) = v0 c
          ∧ r.2.mem ((c.tc : Thread Cert.RefRotateIdeal.nD Cert.RefRotateIdeal.τ).loc Cert.RefRotateIdeal.main_v19_1) = v1 c
          ∧ r.2.mem ((c.tc : Thread Cert.RefRotateIdeal.nD Cert.RefRotateIdeal.τ).loc Cert.RefRotateIdeal.main_arg0) = m' ((c.tc : Thread Cert.RefRotateIdeal.nD Cert.RefRotateIdeal.τ).loc Cert.RefRotateIdeal.main_arg0)
          ∧ r.2.mem ((c.tc : Thread Cert.RefRotateIdeal.nD Cert.RefRotateIdeal.τ).loc Cert.RefRotateIdeal.main_arg1) = m' ((c.tc : Thread Cert.RefRotateIdeal.nD Cert.RefRotateIdeal.τ).loc Cert.RefRotateIdeal.main_arg1))

def preserves_Decode_DecodeIdeal : Prop :=
  True

def algebraic_DecodeIdeal_RefDecodeIdeal [hDecodeIdeal : Cert.DecodeIdeal.Facts] [hRefDecodeIdeal : Cert.RefDecodeIdeal.Facts] : Prop :=
  ∀ (m : (ℓ : Loc Cert.DecodeIdeal.nD Cert.DecodeIdeal.τ Cert.DecodeIdeal.sig) → Buf (Elt Ideal) ℓ) (g : Dev Cert.DecodeIdeal.nD → PrngReg)
    (m' : (ℓ : Loc Cert.RefDecodeIdeal.nD Cert.RefDecodeIdeal.τ Cert.RefDecodeIdeal.sig) → Buf (Elt Ideal) ℓ) (g' : Dev Cert.RefDecodeIdeal.nD → PrngReg), Pre_DecodeIdeal m →
    (∀ c : Dev Cert.DecodeIdeal.nD,
      m' ((c.tc : Thread Cert.RefDecodeIdeal.nD Cert.RefDecodeIdeal.τ).loc Cert.RefDecodeIdeal.main_arg0) = m ((c.tc : Thread Cert.DecodeIdeal.nD Cert.DecodeIdeal.τ).loc Cert.DecodeIdeal.main_arg0)
      ∧ m' ((c.tc : Thread Cert.RefDecodeIdeal.nD Cert.RefDecodeIdeal.τ).loc Cert.RefDecodeIdeal.main_arg1) = m ((c.tc : Thread Cert.DecodeIdeal.nD Cert.DecodeIdeal.τ).loc Cert.DecodeIdeal.main_arg1)) →
    ∃ (v0 : (c : Dev Cert.DecodeIdeal.nD) → Buf (Elt Ideal) ((c.tc : Thread Cert.DecodeIdeal.nD Cert.DecodeIdeal.τ).loc Cert.DecodeIdeal.main_v0)),
      θ_run (Cert.DecodeIdeal.defs (F := Ideal)) (onTc (τ := Cert.DecodeIdeal.τ) (Cert.DecodeIdeal.main (F := Ideal))) ⟨m, fun _ => 0, g⟩ (fun r => ∀ c : Dev Cert.DecodeIdeal.nD,
          r.2.mem ((c.tc : Thread Cert.DecodeIdeal.nD Cert.DecodeIdeal.τ).loc Cert.DecodeIdeal.main_v0) = v0 c
          ∧ r.2.mem ((c.tc : Thread Cert.DecodeIdeal.nD Cert.DecodeIdeal.τ).loc Cert.DecodeIdeal.main_arg0) = m ((c.tc : Thread Cert.DecodeIdeal.nD Cert.DecodeIdeal.τ).loc Cert.DecodeIdeal.main_arg0)
          ∧ r.2.mem ((c.tc : Thread Cert.DecodeIdeal.nD Cert.DecodeIdeal.τ).loc Cert.DecodeIdeal.main_arg1) = m ((c.tc : Thread Cert.DecodeIdeal.nD Cert.DecodeIdeal.τ).loc Cert.DecodeIdeal.main_arg1))
      ∧ θ_run (Cert.RefDecodeIdeal.defs (F := Ideal)) (onTc (τ := Cert.RefDecodeIdeal.τ) (Cert.RefDecodeIdeal.main (F := Ideal))) ⟨m', fun _ => 0, g'⟩ (fun r => ∀ c : Dev Cert.RefDecodeIdeal.nD,
          r.2.mem ((c.tc : Thread Cert.RefDecodeIdeal.nD Cert.RefDecodeIdeal.τ).loc Cert.RefDecodeIdeal.main_v13) = v0 c
          ∧ r.2.mem ((c.tc : Thread Cert.RefDecodeIdeal.nD Cert.RefDecodeIdeal.τ).loc Cert.RefDecodeIdeal.main_arg0) = m' ((c.tc : Thread Cert.RefDecodeIdeal.nD Cert.RefDecodeIdeal.τ).loc Cert.RefDecodeIdeal.main_arg0)
          ∧ r.2.mem ((c.tc : Thread Cert.RefDecodeIdeal.nD Cert.RefDecodeIdeal.τ).loc Cert.RefDecodeIdeal.main_arg1) = m' ((c.tc : Thread Cert.RefDecodeIdeal.nD Cert.RefDecodeIdeal.τ).loc Cert.RefDecodeIdeal.main_arg1))

def Claim : Prop :=
  ∃ (hMatmul : Cert.Matmul.Facts) (hMatmulIdeal : Cert.MatmulIdeal.Facts) (hRefMatmulIdeal : Cert.RefMatmulIdeal.Facts) (hRotate : Cert.Rotate.Facts) (hRotateIdeal : Cert.RotateIdeal.Facts) (hRefRotateIdeal : Cert.RefRotateIdeal.Facts) (hDecode : Cert.Decode.Facts) (hDecodeIdeal : Cert.DecodeIdeal.Facts) (hRefDecodeIdeal : Cert.RefDecodeIdeal.Facts),
    quiescent_Matmul (hMatmul := hMatmul)
    ∧ quiescent_MatmulIdeal (hMatmulIdeal := hMatmulIdeal)
    ∧ quiescent_RefMatmulIdeal (hRefMatmulIdeal := hRefMatmulIdeal)
    ∧ quiescent_Rotate (hRotate := hRotate)
    ∧ quiescent_RotateIdeal (hRotateIdeal := hRotateIdeal)
    ∧ quiescent_RefRotateIdeal (hRefRotateIdeal := hRefRotateIdeal)
    ∧ quiescent_Decode (hDecode := hDecode)
    ∧ quiescent_DecodeIdeal (hDecodeIdeal := hDecodeIdeal)
    ∧ quiescent_RefDecodeIdeal (hRefDecodeIdeal := hRefDecodeIdeal)
    ∧ preserves_Matmul_MatmulIdeal
    ∧ algebraic_MatmulIdeal_RefMatmulIdeal (hMatmulIdeal := hMatmulIdeal) (hRefMatmulIdeal := hRefMatmulIdeal)
    ∧ preserves_Rotate_RotateIdeal
    ∧ algebraic_RotateIdeal_RefRotateIdeal (hRotateIdeal := hRotateIdeal) (hRefRotateIdeal := hRefRotateIdeal)
    ∧ preserves_Decode_DecodeIdeal
    ∧ algebraic_DecodeIdeal_RefDecodeIdeal (hDecodeIdeal := hDecodeIdeal) (hRefDecodeIdeal := hRefDecodeIdeal)
-- ==== Matmul.lean ====
abbrev S6144x24576 : Shape := ⟨2, ![6144, 24576]⟩
abbrev S3072x24576 : Shape := ⟨2, ![3072, 24576]⟩
abbrev S6144 : Shape := ⟨1, ![6144]⟩
abbrev S3072 : Shape := ⟨1, ![3072]⟩
abbrev S6144x1 : Shape := ⟨2, ![6144, 1]⟩
abbrev S6144x128 : Shape := ⟨2, ![6144, 128]⟩
abbrev S1x3072 : Shape := ⟨2, ![1, 3072]⟩
abbrev S6144x3072 : Shape := ⟨2, ![6144, 3072]⟩
abbrev S1024x4096 : Shape := ⟨2, ![1024, 4096]⟩
abbrev S1024x128 : Shape := ⟨2, ![1024, 128]⟩
abbrev S1x1024 : Shape := ⟨2, ![1, 1024]⟩
abbrev S1024x1024 : Shape := ⟨2, ![1024, 1024]⟩
abbrev S1x128 : Shape := ⟨2, ![1, 128]⟩

abbrev nBuf : Space → Nat
  | .hbm => 8
  | .vmem => 11
  | .smem => 0
  | _ => 0

abbrev bufTy : (tb : Table) → Fin (tcTables nBuf tb) → BufTy
  | .hbm, ⟨0, _⟩ => ⟨S6144x24576, .i8⟩
  | .hbm, ⟨1, _⟩ => ⟨S3072x24576, .fp8e4m3⟩
  | .hbm, ⟨2, _⟩ => ⟨S6144, .f32⟩
  | .hbm, ⟨3, _⟩ => ⟨S3072, .f32⟩
  | .hbm, ⟨4, _⟩ => ⟨S6144x1, .f32⟩
  | .hbm, ⟨5, _⟩ => ⟨S6144x128, .f32⟩
  | .hbm, ⟨6, _⟩ => ⟨S1x3072, .f32⟩
  | .hbm, ⟨7, _⟩ => ⟨S6144x3072, .bf16⟩
  | .local _ .vmem, ⟨0, _⟩ => ⟨S1024x4096, .i8⟩
  | .local _ .vmem, ⟨1, _⟩ => ⟨S1024x4096, .i8⟩
  | .local _ .vmem, ⟨2, _⟩ => ⟨S1024x4096, .fp8e4m3⟩
  | .local _ .vmem, ⟨3, _⟩ => ⟨S1024x4096, .fp8e4m3⟩
  | .local _ .vmem, ⟨4, _⟩ => ⟨S1024x128, .f32⟩
  | .local _ .vmem, ⟨5, _⟩ => ⟨S1024x128, .f32⟩
  | .local _ .vmem, ⟨6, _⟩ => ⟨S1x1024, .f32⟩
  | .local _ .vmem, ⟨7, _⟩ => ⟨S1x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | _, _ => ⟨S6144x24576, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![6, 3, 6], ![false, false, false]⟩

def k0_cond2 (i : grid0.Coords) : BitVec 1 :=
  let arg2 : BitVec 32 := BitVec.ofNat 32 (i 2).val
  let c5_i32 : BitVec 32 := 5#32
  let v13 : BitVec 1 := Scalar.cmpi .eq arg2 c5_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x4096 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== RefMatmulIdeal.lean ====
abbrev S6144x24576 : Shape := ⟨2, ![6144, 24576]⟩
abbrev S3072x24576 : Shape := ⟨2, ![3072, 24576]⟩
abbrev S6144 : Shape := ⟨1, ![6144]⟩
abbrev S3072 : Shape := ⟨1, ![3072]⟩
abbrev S6144x1 : Shape := ⟨2, ![6144, 1]⟩
abbrev S1x3072 : Shape := ⟨2, ![1, 3072]⟩
abbrev S6144x3072 : Shape := ⟨2, ![6144, 3072]⟩
abbrev S6144x12288 : Shape := ⟨2, ![6144, 12288]⟩
abbrev S3072x12288 : Shape := ⟨2, ![3072, 12288]⟩

abbrev nBuf : Space → Nat
  | .hbm => 7
  | .vmem => 5
  | .smem => 0
  | _ => 0

abbrev bufTy : (tb : Table) → Fin (tcTables nBuf tb) → BufTy
  | .hbm, ⟨0, _⟩ => ⟨S6144x24576, .i8⟩
  | .hbm, ⟨1, _⟩ => ⟨S3072x24576, .fp8e4m3⟩
  | .hbm, ⟨2, _⟩ => ⟨S6144, .f32⟩
  | .hbm, ⟨3, _⟩ => ⟨S3072, .f32⟩
  | .hbm, ⟨4, _⟩ => ⟨S6144x1, .f32⟩
  | .hbm, ⟨5, _⟩ => ⟨S1x3072, .f32⟩
  | .hbm, ⟨6, _⟩ => ⟨S6144x3072, .bf16⟩
  | .local _ .vmem, ⟨0, _⟩ => ⟨S6144x24576, .i8⟩
  | .local _ .vmem, ⟨1, _⟩ => ⟨S3072x24576, .fp8e4m3⟩
  | .local _ .vmem, ⟨2, _⟩ => ⟨S6144x1, .f32⟩
  | .local _ .vmem, ⟨3, _⟩ => ⟨S1x3072, .f32⟩
  | .local _ .vmem, ⟨4, _⟩ => ⟨S6144x3072, .bf16⟩
  | _, _ => ⟨S6144x24576, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S6144x24576 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3072x24576 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6144x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6144x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Rotate.lean ====
abbrev S6x1024x24576 : Shape := ⟨3, ![6, 1024, 24576]⟩
abbrev S12x12 : Shape := ⟨2, ![12, 12]⟩
abbrev S6144x24576 : Shape := ⟨2, ![6144, 24576]⟩
abbrev S256x256 : Shape := ⟨2, ![256, 256]⟩
abbrev S_ : Shape := ⟨0, ![]⟩
abbrev S6144x128 : Shape := ⟨2, ![6144, 128]⟩
abbrev S32x24576 : Shape := ⟨2, ![32, 24576]⟩
abbrev S32x128 : Shape := ⟨2, ![32, 128]⟩
abbrev S96x32x256 : Shape := ⟨3, ![96, 32, 256]⟩
abbrev S32x256 : Shape := ⟨2, ![32, 256]⟩
abbrev S8x32x256 : Shape := ⟨3, ![8, 32, 256]⟩
abbrev S1x32x256 : Shape := ⟨3, ![1, 32, 256]⟩
abbrev S8x256 : Shape := ⟨2, ![8, 256]⟩
abbrev S1x8x256 : Shape := ⟨3, ![1, 8, 256]⟩
abbrev S1x1 : Shape := ⟨2, ![1, 1]⟩
abbrev S8 : Shape := ⟨1, ![8]⟩
abbrev S8x1 : Shape := ⟨2, ![8, 1]⟩
abbrev S8x128 : Shape := ⟨2, ![8, 128]⟩
abbrev S1x32x128 : Shape := ⟨3, ![1, 32, 128]⟩

abbrev nBuf : Space → Nat
  | .hbm => 19
  | .vmem => 8
  | .smem => 1
  | _ => 0

abbrev bufTy : (tb : Table) → Fin (tcTables nBuf tb) → BufTy
  | .hbm, ⟨0, _⟩ => ⟨S6x1024x24576, .bf16⟩
  | .hbm, ⟨1, _⟩ => ⟨S12x12, .f32⟩
  | .hbm, ⟨2, _⟩ => ⟨S6144x24576, .bf16⟩
  | .hbm, ⟨3, _⟩ => ⟨S256x256, .i32⟩
  | .hbm, ⟨4, _⟩ => ⟨S256x256, .i32⟩
  | .hbm, ⟨5, _⟩ => ⟨S256x256, .i32⟩
  | .hbm, ⟨6, _⟩ => ⟨S256x256, .i32⟩
  | .hbm, ⟨7, _⟩ => ⟨S_, .i32⟩
  | .hbm, ⟨8, _⟩ => ⟨S256x256, .i32⟩
  | .hbm, ⟨9, _⟩ => ⟨S256x256, .i32⟩
  | .hbm, ⟨10, _⟩ => ⟨S_, .i32⟩
  | .hbm, ⟨11, _⟩ => ⟨S256x256, .i32⟩
  | .hbm, ⟨12, _⟩ => ⟨S256x256, .i32⟩
  | .hbm, ⟨13, _⟩ => ⟨S_, .i32⟩
  | .hbm, ⟨14, _⟩ => ⟨S256x256, .i32⟩
  | .hbm, ⟨15, _⟩ => ⟨S256x256, .i32⟩
  | .hbm, ⟨16, _⟩ => ⟨S256x256, .bf16⟩
  | .hbm, ⟨17, _⟩ => ⟨S6144x24576, .i8⟩
  | .hbm, ⟨18, _⟩ => ⟨S6144x128, .f32⟩
  | .local _ .vmem, ⟨0, _⟩ => ⟨S32x24576, .bf16⟩
  | .local _ .vmem, ⟨1, _⟩ => ⟨S32x24576, .bf16⟩
  | .local _ .vmem, ⟨2, _⟩ => ⟨S256x256, .bf16⟩
  | .local _ .vmem, ⟨3, _⟩ => ⟨S32x24576, .i8⟩
  | .local _ .vmem, ⟨4, _⟩ => ⟨S32x24576, .i8⟩
  | .local _ .vmem, ⟨5, _⟩ => ⟨S32x128, .f32⟩
  | .local _ .vmem, ⟨6, _⟩ => ⟨S32x128, .f32⟩
  | .local _ .vmem, ⟨7, _⟩ => ⟨S96x32x256, .f32⟩
  | .local _ .smem, ⟨0, _⟩ => ⟨S12x12, .f32⟩
  | _, _ => ⟨S6x1024x24576, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_v5 : Ref sig .tc := ⟨.hbm, 8, rfl⟩
abbrev main_v6 : Ref sig .tc := ⟨.hbm, 9, rfl⟩
abbrev main_c_0 : Ref sig .tc := ⟨.hbm, 10, rfl⟩
abbrev main_v7 : Ref sig .tc := ⟨.hbm, 11, rfl⟩
abbrev main_v8 : Ref sig .tc := ⟨.hbm, 12, rfl⟩
abbrev main_c_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12_0 : Ref sig .tc := ⟨.hbm, 17, rfl⟩
abbrev main_v12_1 : Ref sig .tc := ⟨.hbm, 18, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![192], ![false]⟩

@[reducible] def k0_t1_loop : Scf.Loop 32 :=
  let c0_i32 : BitVec 32 := 0#32
  let c8_i32 : BitVec 32 := 8#32
  let v1021 : BitVec 32 := Scalar.addi c0_i32 c8_i32
  let c1_i32 : BitVec 32 := 1#32
  ⟨c0_i32, v1021, c1_i32⟩
def k0_off1 (k0_t1 : Fin k0_t1_loop.trips) (c0_i32_1620 : BitVec 32) : Fin 3 → Nat :=
  let c0_i32 : BitVec 32 := 0#32
  let c1_i32 : BitVec 32 := 1#32
  let arg7 : BitVec 32 := Scf.iv c0_i32 c1_i32 k0_t1
  let v3008 : BitVec 32 := Scalar.addi c0_i32_1620 arg7
  let v3009 : Index := Scalar.indexCast v3008
  let c0_1621 : Index := 0#32
  let c0_1622 : Index := 0#32
  ![v3009.toNat, 0, 0]
@[reducible] def k0_t2_loop : Scf.Loop 32 :=
  let c0_i32_334 : BitVec 32 := 0#32
  let c8_i32_335 : BitVec 32 := 8#32
  let v1037 : BitVec 32 := Scalar.addi c0_i32_334 c8_i32_335
  let c1_i32_336 : BitVec 32 := 1#32
  ⟨c0_i32_334, v1037, c1_i32_336⟩
def k0_off2 (k0_t2 : Fin k0_t2_loop.trips) (c0_i32_1620 : BitVec 32) : Fin 3 → Nat :=
  let c0_i32_334 : BitVec 32 := 0#32
  let c1_i32_336 : BitVec 32 := 1#32
  let arg7 : BitVec 32 := Scf.iv c0_i32_334 c1_i32_336 k0_t2
  let v3008 : BitVec 32 := Scalar.addi c0_i32_1620 arg7
  let v3009 : Index := Scalar.indexCast v3008
  let c8_1621 : Index := 8#32
  let c0_1622 : Index := 0#32
  ![v3009.toNat, 8, 0]
@[reducible] def k0_t3_loop : Scf.Loop 32 :=
  let c0_i32_346 : BitVec 32 := 0#32
  let c8_i32_347 : BitVec 32 := 8#32
  let v1053 : BitVec 32 := Scalar.addi c0_i32_346 c8_i32_347
  let c1_i32_348 : BitVec 32 := 1#32
  ⟨c0_i32_346, v1053, c1_i32_348⟩
def k0_off3 (k0_t3 : Fin k0_t3_loop.trips) (c0_i32_1620 : BitVec 32) : Fin 3 → Nat :=
  let c0_i32_346 : BitVec 32 := 0#32
  let c1_i32_348 : BitVec 32 := 1#32
  let arg7 : BitVec 32 := Scf.iv c0_i32_346 c1_i32_348 k0_t3
  let v3008 : BitVec 32 := Scalar.addi c0_i32_1620 arg7
  let v3009 : Index := Scalar.indexCast v3008
  let c16_1621 : Index := 16#32
  let c0_1622 : Index := 0#32
  ![v3009.toNat, 16, 0]
@[reducible] def k0_t4_loop : Scf.Loop 32 :=
  let c0_i32_358 : BitVec 32 := 0#32
  let c8_i32_359 : BitVec 32 := 8#32
  let v1069 : BitVec 32 := Scalar.addi c0_i32_358 c8_i32_359
  let c1_i32_360 : BitVec 32 := 1#32
  ⟨c0_i32_358, v1069, c1_i32_360⟩
def k0_off4 (k0_t4 : Fin k0_t4_loop.trips) (c0_i32_1620 : BitVec 32) : Fin 3 → Nat :=
  let c0_i32_358 : BitVec 32 := 0#32
  let c1_i32_360 : BitVec 32 := 1#32
  let arg7 : BitVec 32 := Scf.iv c0_i32_358 c1_i32_360 k0_t4
  let v3008 : BitVec 32 := Scalar.addi c0_i32_1620 arg7
  let v3009 : Index := Scalar.indexCast v3008
  let c24_1621 : Index := 24#32
  let c0_1622 : Index := 0#32
  ![v3009.toNat, 24, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S12x12 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S32x24576 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S32x24576 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RefRotateIdeal.lean ====
abbrev S6x1024x24576 : Shape := ⟨3, ![6, 1024, 24576]⟩
abbrev S12x12 : Shape := ⟨2, ![12, 12]⟩
abbrev S6x1024x12x2048 : Shape := ⟨4, ![6, 1024, 12, 2048]⟩
abbrev S2048x2048 : Shape := ⟨2, ![2048, 2048]⟩
abbrev S_ : Shape := ⟨0, ![]⟩
abbrev S6x1024x2048x12 : Shape := ⟨4, ![6, 1024, 2048, 12]⟩
abbrev S6144x24576 : Shape := ⟨2, ![6144, 24576]⟩
abbrev S6144x128 : Shape := ⟨2, ![6144, 128]⟩
abbrev S6144 : Shape := ⟨1, ![6144]⟩
abbrev S6144x1 : Shape := ⟨2, ![6144, 1]⟩

abbrev nBuf : Space → Nat
  | .hbm => 27
  | .vmem => 3
  | .smem => 0
  | _ => 0

abbrev bufTy : (tb : Table) → Fin (tcTables nBuf tb) → BufTy
  | .hbm, ⟨0, _⟩ => ⟨S6x1024x24576, .bf16⟩
  | .hbm, ⟨1, _⟩ => ⟨S12x12, .f32⟩
  | .hbm, ⟨2, _⟩ => ⟨S6x1024x24576, .f32⟩
  | .hbm, ⟨3, _⟩ => ⟨S6x1024x12x2048, .f32⟩
  | .hbm, ⟨4, _⟩ => ⟨S2048x2048, .i32⟩
  | .hbm, ⟨5, _⟩ => ⟨S2048x2048, .i32⟩
  | .hbm, ⟨6, _⟩ => ⟨S2048x2048, .i32⟩
  | .hbm, ⟨7, _⟩ => ⟨S2048x2048, .i32⟩
  | .hbm, ⟨8, _⟩ => ⟨S_, .i32⟩
  | .hbm, ⟨9, _⟩ => ⟨S2048x2048, .i32⟩
  | .hbm, ⟨10, _⟩ => ⟨S2048x2048, .i32⟩
  | .hbm, ⟨11, _⟩ => ⟨S_, .i32⟩
  | .hbm, ⟨12, _⟩ => ⟨S2048x2048, .i32⟩
  | .hbm, ⟨13, _⟩ => ⟨S2048x2048, .i32⟩
  | .hbm, ⟨14, _⟩ => ⟨S_, .i32⟩
  | .hbm, ⟨15, _⟩ => ⟨S2048x2048, .i32⟩
  | .hbm, ⟨16, _⟩ => ⟨S2048x2048, .i32⟩
  | .hbm, ⟨17, _⟩ => ⟨S2048x2048, .f32⟩
  | .hbm, ⟨18, _⟩ => ⟨S6x1024x12x2048, .f32⟩
  | .hbm, ⟨19, _⟩ => ⟨S6x1024x2048x12, .f32⟩
  | .hbm, ⟨20, _⟩ => ⟨S6x1024x12x2048, .f32⟩
  | .hbm, ⟨21, _⟩ => ⟨S_, .f32⟩
  | .hbm, ⟨22, _⟩ => ⟨S6x1024x12x2048, .f32⟩
  | .hbm, ⟨23, _⟩ => ⟨S6x1024x12x2048, .f32⟩
  | .hbm, ⟨24, _⟩ => ⟨S6144x24576, .f32⟩
  | .hbm, ⟨25, _⟩ => ⟨S6144x24576, .i8⟩
  | .hbm, ⟨26, _⟩ => ⟨S6144x128, .f32⟩
  | .local _ .vmem, ⟨0, _⟩ => ⟨S6144x24576, .f32⟩
  | .local _ .vmem, ⟨1, _⟩ => ⟨S6144x24576, .i8⟩
  | .local _ .vmem, ⟨2, _⟩ => ⟨S6144x128, .f32⟩
  | _, _ => ⟨S6x1024x24576, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_v6 : Ref sig .tc := ⟨.hbm, 9, rfl⟩
abbrev main_v7 : Ref sig .tc := ⟨.hbm, 10, rfl⟩
abbrev main_c_0 : Ref sig .tc := ⟨.hbm, 11, rfl⟩
abbrev main_v8 : Ref sig .tc := ⟨.hbm, 12, rfl⟩
abbrev main_v9 : Ref sig .tc := ⟨.hbm, 13, rfl⟩
abbrev main_c_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19_0 : Ref sig .tc := ⟨.hbm, 25, rfl⟩
abbrev main_v19_1 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S6144x24576 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6144x24576 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6144x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Decode.lean ====
abbrev S3072x12288 : Shape := ⟨2, ![3072, 12288]⟩
abbrev S3072x192 : Shape := ⟨2, ![3072, 192]⟩
abbrev S3072x24576 : Shape := ⟨2, ![3072, 24576]⟩
abbrev S64x12288 : Shape := ⟨2, ![64, 12288]⟩
abbrev S64x192 : Shape := ⟨2, ![64, 192]⟩
abbrev S64x24576 : Shape := ⟨2, ![64, 24576]⟩
abbrev S64x128 : Shape := ⟨2, ![64, 128]⟩
abbrev S64x1 : Shape := ⟨2, ![64, 1]⟩

abbrev nBuf : Space → Nat
  | .hbm => 3
  | .vmem => 6
  | .smem => 0
  | _ => 0

abbrev bufTy : (tb : Table) → Fin (tcTables nBuf tb) → BufTy
  | .hbm, ⟨0, _⟩ => ⟨S3072x12288, .i8⟩
  | .hbm, ⟨1, _⟩ => ⟨S3072x192, .i8⟩
  | .hbm, ⟨2, _⟩ => ⟨S3072x24576, .fp8e4m3⟩
  | .local _ .vmem, ⟨0, _⟩ => ⟨S64x12288, .i8⟩
  | .local _ .vmem, ⟨1, _⟩ => ⟨S64x12288, .i8⟩
  | .local _ .vmem, ⟨2, _⟩ => ⟨S64x192, .i8⟩
  | .local _ .vmem, ⟨3, _⟩ => ⟨S64x192, .i8⟩
  | .local _ .vmem, ⟨4, _⟩ => ⟨S64x24576, .fp8e4m3⟩
  | .local _ .vmem, ⟨5, _⟩ => ⟨S64x24576, .fp8e4m3⟩
  | _, _ => ⟨S3072x12288, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x12288 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x192 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x24576 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RefDecodeIdeal.lean ====
abbrev S3072x12288 : Shape := ⟨2, ![3072, 12288]⟩
abbrev S3072x192 : Shape := ⟨2, ![3072, 192]⟩
abbrev S_ : Shape := ⟨0, ![]⟩
abbrev S3072x192x1 : Shape := ⟨3, ![3072, 192, 1]⟩
abbrev S3072x192x128 : Shape := ⟨3, ![3072, 192, 128]⟩
abbrev S3072x24576 : Shape := ⟨2, ![3072, 24576]⟩

abbrev nBuf : Space → Nat
  | .hbm => 19
  | .vmem => 3
  | .smem => 0
  | _ => 0

abbrev bufTy : (tb : Table) → Fin (tcTables nBuf tb) → BufTy
  | .hbm, ⟨0, _⟩ => ⟨S3072x12288, .i8⟩
  | .hbm, ⟨1, _⟩ => ⟨S3072x192, .i8⟩
  | .hbm, ⟨2, _⟩ => ⟨S3072x192, .i32⟩
  | .hbm, ⟨3, _⟩ => ⟨S3072x192, .f32⟩
  | .hbm, ⟨4, _⟩ => ⟨S3072x192, .f32⟩
  | .hbm, ⟨5, _⟩ => ⟨S_, .f32⟩
  | .hbm, ⟨6, _⟩ => ⟨S3072x192, .f32⟩
  | .hbm, ⟨7, _⟩ => ⟨S3072x192, .f32⟩
  | .hbm, ⟨8, _⟩ => ⟨S_, .i32⟩
  | .hbm, ⟨9, _⟩ => ⟨S3072x192, .i32⟩
  | .hbm, ⟨10, _⟩ => ⟨S3072x192, .i1⟩
  | .hbm, ⟨11, _⟩ => ⟨S_, .f32⟩
  | .hbm, ⟨12, _⟩ => ⟨S3072x192, .f32⟩
  | .hbm, ⟨13, _⟩ => ⟨S3072x192, .f32⟩
  | .hbm, ⟨14, _⟩ => ⟨S3072x192, .bf16⟩
  | .hbm, ⟨15, _⟩ => ⟨S3072x192x1, .bf16⟩
  | .hbm, ⟨16, _⟩ => ⟨S3072x192x128, .bf16⟩
  | .hbm, ⟨17, _⟩ => ⟨S3072x24576, .bf16⟩
  | .hbm, ⟨18, _⟩ => ⟨S3072x24576, .fp8e4m3⟩
  | .local _ .vmem, ⟨0, _⟩ => ⟨S3072x12288, .i8⟩
  | .local _ .vmem, ⟨1, _⟩ => ⟨S3072x24576, .bf16⟩
  | .local _ .vmem, ⟨2, _⟩ => ⟨S3072x24576, .fp8e4m3⟩
  | _, _ => ⟨S3072x12288, .i8⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S3072x12288 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3072x24576 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3072x24576 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.MatmulBlocks.lean ====
/-
  What one grid point of the matrix product does, read at one entry: the product of a 1024x4096 block of codes with a
  1024x4096 block of weights, added to the running sum, and at the last point of a run the two scale factors.
-/
module

public import proofs.«01_k».proof.Proof.Gen.MatmulIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.MatmulIdeal.Hand

open Cert.MatmulIdeal Cert.MatmulIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The product of a block of codes with a block of weights (both with the contracted axis last), at entry `(a, b)`. -/
def prodAt (x0 : Vec Ideal S1024x4096 .i8) (x1 : Vec Ideal S1024x4096 .fp8e4m3) (j : S1024x1024.Idx) : EReal :=
  ∑ k : Fin 4096, (FloatOps.sitofp (F := Ideal) .bf16 (x0 (ix2 (j 0) k)) : EReal) * x1 (ix2 (j 1) k)

theorem pay2_apply (x0 : Vec Ideal S1024x4096 .i8) (s : Vec Ideal S1024x1024 .f32) (x1 : Vec Ideal S1024x4096 .fp8e4m3)
    (j : S1024x1024.Idx) : k0_pay2 (F := Ideal) x0 s x1 j = (s j : EReal) + prodAt x0 x1 j := by
  pointwise [k0_pay2, prodAt]

theorem pay1_apply (j : S1024x1024.Idx) : k0_pay1 (F := Ideal) j = (0 : EReal) := by
  pointwise [k0_pay1]

/-- The first point of a run leaves `0 +` its product in the running sum. -/
theorem sout_A (c : Dev nD) (i : grid0.Coords) (arg3 : Memref sig .tc .vmem S1024x4096 .i8) (harg3 : arg3.IsWhole) (arg4 : Memref sig .tc .vmem S1024x4096 .fp8e4m3) (harg4 : arg4.IsWhole) (arg5 : Memref sig .tc .vmem S1024x128 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : cond0_0 i) (hc1 : ¬cond0_1 i) (x0 : Vec Ideal S1024x4096 .i8) (x1 : Vec Ideal S1024x4096 .fp8e4m3) (x2 : Vec Ideal S1024x128 .f32) (x3 : Vec Ideal S1x1024 .f32) (j : S1024x1024.Idx) :
    (sout0_A_0 (F := Ideal) c i arg3 harg3 arg4 harg4 arg5 harg5 arg6 harg6 arg7 harg7 arg8 harg8 hc0 hc1 x0 x1 x2 x3 j : EReal) = 0 + prodAt x0 x1 j := by
  frame_out
  rw [pay2_apply, pay1_apply]

/-- A point inside a run adds its product to the running sum. -/
theorem sout_B (c : Dev nD) (i : grid0.Coords) (arg3 : Memref sig .tc .vmem S1024x4096 .i8) (harg3 : arg3.IsWhole) (arg4 : Memref sig .tc .vmem S1024x4096 .fp8e4m3) (harg4 : arg4.IsWhole) (arg5 : Memref sig .tc .vmem S1024x128 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond0_0 i) (hc1 : ¬cond0_1 i) (x0 : Vec Ideal S1024x4096 .i8) (x1 : Vec Ideal S1024x4096 .fp8e4m3) (x2 : Vec Ideal S1024x128 .f32) (x3 : Vec Ideal S1x1024 .f32) (s : Vec Ideal S1024x1024 .f32) (j : S1024x1024.Idx) :
    (sout0_B_0 (F := Ideal) c i arg3 harg3 arg4 harg4 arg5 harg5 arg6 harg6 arg7 harg7 arg8 harg8 hc0 hc1 x0 x1 x2 x3 s j : EReal) = s j + prodAt x0 x1 j := by
  frame_out
  rw [pay2_apply]

/-- So does the last point of a run. -/
theorem sout_C (c : Dev nD) (i : grid0.Coords) (arg3 : Memref sig .tc .vmem S1024x4096 .i8) (harg3 : arg3.IsWhole) (arg4 : Memref sig .tc .vmem S1024x4096 .fp8e4m3) (harg4 : arg4.IsWhole) (arg5 : Memref sig .tc .vmem S1024x128 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond0_0 i) (hc1 : cond0_1 i) (x0 : Vec Ideal S1024x4096 .i8) (x1 : Vec Ideal S1024x4096 .fp8e4m3) (x2 : Vec Ideal S1024x128 .f32) (x3 : Vec Ideal S1x1024 .f32) (s : Vec Ideal S1024x1024 .f32) (j : S1024x1024.Idx) :
    (sout0_C_0 (F := Ideal) c i arg3 harg3 arg4 harg4 arg5 harg5 arg6 harg6 arg7 harg7 arg8 harg8 hc0 hc1 x0 x1 x2 x3 s j : EReal) = s j + prodAt x0 x1 j := by
  frame_out
  rw [pay2_apply]

/-- What the last point of a run writes: the running sum with its own product added, times the row's scale (read in the
    lane of the entry's column), times the column's scale. -/
theorem out_C (c : Dev nD) (i : grid0.Coords) (arg3 : Memref sig .tc .vmem S1024x4096 .i8) (harg3 : arg3.IsWhole) (arg4 : Memref sig .tc .vmem S1024x4096 .fp8e4m3) (harg4 : arg4.IsWhole) (arg5 : Memref sig .tc .vmem S1024x128 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond0_0 i) (hc1 : cond0_1 i) (x0 : Vec Ideal S1024x4096 .i8) (x1 : Vec Ideal S1024x4096 .fp8e4m3) (x2 : Vec Ideal S1024x128 .f32) (x3 : Vec Ideal S1x1024 .f32) (s : Vec Ideal S1024x1024 .f32) (a b : Fin 1024) :
    (out0_C_4 (F := Ideal) c i arg3 harg3 arg4 harg4 arg5 harg5 arg6 harg6 arg7 harg7 arg8 harg8 hc0 hc1 x0 x1 x2 x3 s (ix2 a b) : EReal)
      = (s (ix2 a b) + prodAt x0 x1 (ix2 a b)) * x2 (ix2 a ⟨b.val % 128, Nat.mod_lt _ (by decide)⟩) * x3 (ix2 0 b) := by
  frame_out
  canon_tiles x h
  all_goals open_payloads
  all_goals
    idx_vars x
    rw [View.readCov_fill (s := S1024x1024) _ _ _ _ _ (by decide)]
    pointwise [prodAt]
    simp only [ix2, Matrix.cons_val_zero, Matrix.cons_val_one] at h0 h1
    obtain rfl : a = x0 := Fin.ext h0
    have hb : ∀ h, (⟨b.val % 128, h⟩ : Fin 128) = x1 := fun h => Fin.ext (by show b.val % 128 = x1.val; omega)
    rw [hb]
    obtain ⟨bv, hbv⟩ := b
    simp only at h1
    subst h1
    rfl

end Cert.MatmulIdeal.Hand

end
-- ==== Proof.MatmulRun.lean ====
/-
  The result array of the matrix product kernel, entry by entry: the sum over all 24576 contracted positions of a code
  times a weight, times the row's scale, times the column's scale.
-/
module

public import proofs.«01_k».proof.Proof.MatmulBlocks
public import Idealize.ShloMosaic.Lib.Pointwise
public import Idealize.ShloMosaic.Lib.Pipeline.ValueKit
public import Idealize.ShloMosaic.Lib.Pipeline.ReadBack

@[expose] public section

set_option maxRecDepth 16384

noncomputable section

namespace Cert.MatmulIdeal.Hand

open Cert.MatmulIdeal Cert.MatmulIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- Point `t` of the grid works on row block `t / 18`, column block `t / 6 % 3` and contracted block `t % 6`. -/
theorem idx : ∀ t : Fin grid0.N,
    win0_0.index t = ![t.val / 18, t.val % 6] ∧ win0_1.index t = ![t.val / 6 % 3, t.val % 6]
    ∧ win0_2.index t = ![t.val / 18, 0] ∧ win0_3.index t = ![0, t.val / 6 % 3]
    ∧ win0_4.index t = ![t.val / 18, t.val / 6 % 3] := by decide +kernel

/-- Point `t`'s block product, as a function of the point. -/
def term (c : Dev nD) (t : Fin cfg0.N) (j : S1024x1024.Idx) : EReal := prodAt (iblk m c 0 t) (iblk m c 1 t) j

theorem step_A (c : Dev nD) (t : Fin cfg0.N) (h : t.val % 6 = 0) (j : S1024x1024.Idx) :
    ((outsAt0 m c t.val t.isLt).2 j : EReal) = 0 + term m c t j := by
  have h1 : ¬t.val % 6 = 5 := by omega
  rw [outsAt0_A m c t h h1]
  dsimp only
  rw [sout_A, term]

theorem step_BC (c : Dev nD) (t : Fin cfg0.N) (h : ¬t.val % 6 = 0) (j : S1024x1024.Idx) :
    ((outsAt0 m c t.val t.isLt).2 j : EReal)
      = (outsAt0 m c (t.val - 1) (Nat.lt_of_le_of_lt (Nat.sub_le _ _) t.isLt)).2 j + term m c t j := by
  by_cases h1 : t.val % 6 = 5
  · rw [outsAt0_C m c t h h1]
    dsimp only
    rw [sout_C, term]
  · rw [outsAt0_B m c t h h1]
    dsimp only
    rw [sout_B, term]

attribute [local irreducible] term outsAt0 in
/-- The running sum after the last point of a run is the sum of the six block products. -/
theorem scratch_eq (c : Dev nD) (t : Fin cfg0.N) (ht : t.val % 6 = 5) (j : S1024x1024.Idx) :
    ((outsAt0 m c t.val t.isLt).2 j : EReal)
      = 0 + ∑ s : Fin 6, term m c ⟨6 * (t.val / 6) + s.val, Pipeline.run_point_lt_of_flush t ht s⟩ j :=
  Pipeline.eq_sum_fin_of_reset_step_apply_of_flush (M := EReal) (fun n h j => ((outsAt0 m c n h).2 j : EReal)) 6 (fun _ => 0)
    (term m c) (step_A m c) (step_BC m c) t ht j

/-- What the last point of a run writes is the running sum times the two scales. -/
theorem out_eq (c : Dev nD) (t : Fin cfg0.N) (ht : t.val % 6 = 5) (a b : Fin 1024) :
    ((outsAt0 m c t.val t.isLt).1 (ix2 a b) : EReal)
      = (outsAt0 m c t.val t.isLt).2 (ix2 a b) * iblk m c 2 t (ix2 a ⟨b.val % 128, Nat.mod_lt _ (by decide)⟩)
        * iblk m c 3 t (ix2 0 b) := by
  have h0 : ¬t.val % 6 = 0 := by omega
  rw [outsAt0_C m c t h0 ht]
  dsimp only
  rw [out_C, sout_C]

/-- The product at an entry: 24576 terms, times the two scales. -/
def prod (codes : Vec Ideal S6144x24576 .i8) (w : Vec Ideal S3072x24576 .fp8e4m3) (a_scale : Vec Ideal S6144 .f32)
    (w_scale : Vec Ideal S3072 .f32) : Vec Ideal S6144x3072 .bf16 := fun j =>
  ((0 + ∑ k : Fin 24576, (FloatOps.sitofp (F := Ideal) .bf16 (codes (ix2 (j 0) k)) : EReal) * w (ix2 (j 1) k)) * a_scale (ix1 (j 0))
    * w_scale (ix1 (j 1)) : EReal)

theorem final (c : Dev nD) : (dats m 0 c).arrAt 4 cfg0.N
    = prod (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ (by decide +kernel) fun t hf y => ?_
  have ht : t.val % 6 = 5 := (flush0_4 t).mp hf
  have ht' : t.val < 108 := lt_of_lt_of_eq t.isLt N_0
  blk_simp
  rw [after0_4]
  idx_vars y
  refine (out_eq m c t ht y0 y1).trans ?_
  rw [scratch_eq m c t ht]
  unfold prod term prodAt
  have hidx := idx
  rw [← Fin.sum_mul_add_congr (L := 24576) (S := 6) (n := 4096) (F := fun s k =>
    (FloatOps.sitofp (F := Ideal) .bf16 (iblk m c 0 ⟨6 * (t.val / 6) + s.val, Pipeline.run_point_lt_of_flush t ht s⟩ (ix2 y0 k)) : EReal)
      * iblk m c 1 ⟨6 * (t.val / 6) + s.val, Pipeline.run_point_lt_of_flush t ht s⟩ (ix2 y1 k))]
  · congr 1
    · congr 1
      blk_ext! [iblk, V, idx t]
    · blk_ext! [iblk, V, idx t]
  · intro s k hl
    have e0 := (idx ⟨6 * (t.val / 6) + s.val, Pipeline.run_point_lt_of_flush t ht s⟩).1
    have e1 := (idx ⟨6 * (t.val / 6) + s.val, Pipeline.run_point_lt_of_flush t ht s⟩).2.1
    congr 1
    · congr 1
      blk_ext [iblk, V, idx t, e0]
    · blk_ext [iblk, V, idx t, e1]

end Cert.MatmulIdeal.Hand

end
-- ==== Proof.RefMatmul.lean ====
/-
  The result array of the matrix product reference, entry by entry: the sums over the two halves of the contracted axis,
  added, times the row's scale, times the column's scale.
-/
module

public import proofs.«01_k».proof.Proof.Gen.RefMatmulIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.RefMatmulIdeal.Hand

open Cert.RefMatmulIdeal Cert.RefMatmulIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The reference's value at an entry. -/
def prod (codes : Vec Ideal S6144x24576 .i8) (w : Vec Ideal S3072x24576 .fp8e4m3) (a_scale : Vec Ideal S6144 .f32)
    (w_scale : Vec Ideal S3072 .f32) : Vec Ideal S6144x3072 .bf16 := fun j =>
  (((∑ k : Fin 12288, (FloatOps.sitofp (F := Ideal) .bf16 (codes (ix2 (j 0) ⟨k.val, by omega⟩)) : EReal) * w (ix2 (j 1) ⟨k.val, by omega⟩))
    + (∑ k : Fin 12288, (FloatOps.sitofp (F := Ideal) .bf16 (codes (ix2 (j 0) ⟨12288 + k.val, by omega⟩)) : EReal)
        * w (ix2 (j 1) ⟨12288 + k.val, by omega⟩)))
    * a_scale (ix1 (j 0)) * w_scale (ix1 (j 1)) : EReal)

theorem idx : ∀ t : Fin grid0.N,
    win0_0.index t = ![0, 0] ∧ win0_1.index t = ![0, 0] ∧ win0_2.index t = ![0, 0] ∧ win0_3.index t = ![0, 0]
    ∧ win0_4.index t = ![0, 0] := by decide +kernel

theorem final (c : Dev nD) : (dats m 0 c).arrAt 4 cfg0.N
    = prod (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ (by decide +kernel) fun t hf y => ?_
  blk_simp
  rw [after0_4]
  frame_out
  idx_vars y
  pointwise [k0_pay1, prod]
  blk_point [iblk, V, idx t]

end Cert.RefMatmulIdeal.Hand

end
-- ==== Proof.MatmulClaim.lean ====
/-
  The matrix product kernel and its reference end at equal arrays.
-/
module

public import proofs.«01_k».proof.Defs
public import proofs.«01_k».proof.Proof.MatmulRun
public import proofs.«01_k».proof.Proof.RefMatmul

@[expose] public section

set_option maxRecDepth 16384

noncomputable section

namespace Cert.Proof.MatmulClaim

open Idealize.ShloMosaic Idealize.ShloMosaic.TcCoe Idealize.SL.Sem

/-- A sum over the contracted axis is the sum over its first half and the sum over its second half; the kernel's value at
    an entry is therefore the reference's. -/
theorem prod_eq (codes : Vec Ideal Cert.MatmulIdeal.S6144x24576 .i8) (w : Vec Ideal Cert.MatmulIdeal.S3072x24576 .fp8e4m3)
    (a_scale : Vec Ideal Cert.MatmulIdeal.S6144 .f32) (w_scale : Vec Ideal Cert.MatmulIdeal.S3072 .f32) :
    Cert.MatmulIdeal.Hand.prod codes w a_scale w_scale = Cert.RefMatmulIdeal.Hand.prod codes w a_scale w_scale := by
  funext j
  unfold Cert.MatmulIdeal.Hand.prod Cert.RefMatmulIdeal.Hand.prod
  rw [zero_add, Fin.sum_univ_two_halves 12288 12288 rfl]

theorem algebraic [hMatmulIdeal : Cert.MatmulIdeal.Facts] [hRefMatmulIdeal : Cert.RefMatmulIdeal.Facts] :
    Cert.algebraic_MatmulIdeal_RefMatmulIdeal := by
  intro m ρ m' ρ' _ hagree
  refine ⟨fun c => (Cert.MatmulIdeal.Gen.dats m 0 c).arrAt 4 Cert.MatmulIdeal.cfg0.N, Cert.MatmulIdeal.Value.run_blocks m ρ, ?_⟩
  refine (θ_run Cert.RefMatmulIdeal.defs _ _).mono (fun _ h c => ⟨(h c).1.trans ?_, (h c).2⟩)
    (Cert.RefMatmulIdeal.Value.run_blocks (F := Ideal) m' ρ')
  have e := hagree c
  beta_reduce
  rw [Cert.RefMatmulIdeal.Hand.final, Cert.MatmulIdeal.Hand.final, e.1, e.2.1, e.2.2.1, e.2.2.2]
  exact (prod_eq ..).symm

end Cert.Proof.MatmulClaim

end
-- ==== Proof.RotateStep.lean ====
module

public import proofs.«01_k».proof.Proof.Gen.RotateIdeal.Value
public import Idealize.ShloMosaic.Lib.Pointwise
public import Idealize.ShloMosaic.Lib.Pipeline.ValueKit
public import Idealize.ShloMosaic.Lib.Pipeline.ReadBack
public import Idealize.ShloMosaic.Lib.WritesUnit

@[expose] public section

set_option maxRecDepth 16384

noncomputable section

namespace Cert.RotateIdeal.Hand

open Cert.RotateIdeal Cert.RotateIdeal.Gen
open Idealize.ShloMosaic Idealize.ShloMosaic.TcCoe Idealize.SL.Sem

/-- Twelve segments of one row mixed by row `j` of the 12 x 12 matrix, summed from the left as the kernel does:
    segment `k` of half-transformed block `d` lies at place `8 k + d` of the scratch. -/
def mixd (H : S12x12.Idx → EReal) (S : S96x32x256.Idx → EReal) (j : Fin 12) (d : Fin 8) (r : Fin 32) (l : Fin 256) : EReal :=
  S (ix3 ⟨d.val, by omega⟩ r l) * H (ix2 j 0)
    + S (ix3 ⟨8 + d.val, by omega⟩ r l) * H (ix2 j 1)
    + S (ix3 ⟨16 + d.val, by omega⟩ r l) * H (ix2 j 2)
    + S (ix3 ⟨24 + d.val, by omega⟩ r l) * H (ix2 j 3)
    + S (ix3 ⟨32 + d.val, by omega⟩ r l) * H (ix2 j 4)
    + S (ix3 ⟨40 + d.val, by omega⟩ r l) * H (ix2 j 5)
    + S (ix3 ⟨48 + d.val, by omega⟩ r l) * H (ix2 j 6)
    + S (ix3 ⟨56 + d.val, by omega⟩ r l) * H (ix2 j 7)
    + S (ix3 ⟨64 + d.val, by omega⟩ r l) * H (ix2 j 8)
    + S (ix3 ⟨72 + d.val, by omega⟩ r l) * H (ix2 j 9)
    + S (ix3 ⟨80 + d.val, by omega⟩ r l) * H (ix2 j 10)
    + S (ix3 ⟨88 + d.val, by omega⟩ r l) * H (ix2 j 11)

/-- The mixed value that belongs at place `a = 8 j + d` of the scratch. -/
def mixAll (H : S12x12.Idx → EReal) (S : S96x32x256.Idx → EReal) (a : Fin 96) (r : Fin 32) (l : Fin 256) : EReal :=
  mixd H S ⟨a.val / 8, by omega⟩ ⟨a.val % 8, by omega⟩ r l

theorem mixAll_eq (H : S12x12.Idx → EReal) (S : S96x32x256.Idx → EReal) (j : Fin 12) (d : Fin 8) (r : Fin 32) (l : Fin 256)
    (h : 8 * j.val + d.val < 96) : mixAll H S ⟨8 * j.val + d.val, h⟩ r l = mixd H S j d r l := by
  have e1 : (⟨(8 * j.val + d.val) / 8, by omega⟩ : Fin 12) = j := Fin.ext (by show (8 * j.val + d.val) / 8 = j.val; omega)
  have e2 : (⟨(8 * j.val + d.val) % 8, by omega⟩ : Fin 8) = d := Fin.ext (by show (8 * j.val + d.val) % 8 = d.val; omega)
  show mixd H S ⟨(8 * j.val + d.val) / 8, by omega⟩ ⟨(8 * j.val + d.val) % 8, by omega⟩ r l = _
  rw [e1, e2]

/-- The mix of block `d` looks at the scratch only at places `8 k + d`. -/
theorem mixd_congr (H : S12x12.Idx → EReal) (S S' : S96x32x256.Idx → EReal) (j : Fin 12) (d : Fin 8) (r : Fin 32) (l : Fin 256)
    (h : ∀ a : Fin 96, a.val % 8 = d.val → S (ix3 a r l) = S' (ix3 a r l)) : mixd H S j d r l = mixd H S' j d r l := by
  unfold mixd
  simp only [h ⟨d.val, by omega⟩ (show (d.val) % 8 = d.val by omega), h ⟨8 + d.val, by omega⟩ (show (8 + d.val) % 8 = d.val by omega), h ⟨16 + d.val, by omega⟩ (show (16 + d.val) % 8 = d.val by omega), h ⟨24 + d.val, by omega⟩ (show (24 + d.val) % 8 = d.val by omega), h ⟨32 + d.val, by omega⟩ (show (32 + d.val) % 8 = d.val by omega), h ⟨40 + d.val, by omega⟩ (show (40 + d.val) % 8 = d.val by omega), h ⟨48 + d.val, by omega⟩ (show (48 + d.val) % 8 = d.val by omega), h ⟨56 + d.val, by omega⟩ (show (56 + d.val) % 8 = d.val by omega), h ⟨64 + d.val, by omega⟩ (show (64 + d.val) % 8 = d.val by omega), h ⟨72 + d.val, by omega⟩ (show (72 + d.val) % 8 = d.val by omega), h ⟨80 + d.val, by omega⟩ (show (80 + d.val) % 8 = d.val by omega), h ⟨88 + d.val, by omega⟩ (show (88 + d.val) % 8 = d.val by omega)]

section Step
variable (arg6 : Memref sig .tc .vmem S96x32x256 .f32)

/-- One store of a mixed block: if the writes so far leave the first `j` mixed blocks of residue `d`, in eight rows from `lo`, and
    everything else as `S` has it, then with the store at place `8 j + d` the first `j + 1` are there. -/
theorem step (f : BufTy.Contents (Elt Ideal) arg6.view.ty) {off : Fin 3 → ℕ} (inb : ∀ a, off a + (![1, 8, 256] : Fin 3 → ℕ) a ≤ S96x32x256.size a)
    (w : S1x8x256.Idx → EReal) (L : List (View.Piece (Elt Ideal) S96x32x256 .f32))
    (M : Fin 96 → Fin 32 → Fin 256 → EReal) (S : S96x32x256.Idx → EReal) (d lo : ℕ) (j : ℕ) (hd : d < 8) (hj : j < 12) (hlo : lo ≤ 24)
    (hoff : off = ![8 * j + d, lo, 0])
    (hw : ∀ (r : Fin 8) (l : Fin 256), w (ix3 0 r l) = M ⟨8 * j + d, by omega⟩ ⟨lo + r.val, by omega⟩ l)
    (hL : ∀ (a : Fin 96) (r : Fin 32) (l : Fin 256), arg6.view.read (Elt Ideal) (arg6.view.writes (Elt Ideal) f L) (ix3 a r l)
      = if a.val % 8 = d ∧ a.val / 8 < j ∧ lo ≤ r.val ∧ r.val < lo + 8 then M a r l else S (ix3 a r l))
    (a : Fin 96) (r : Fin 32) (l : Fin 256) :
    arg6.view.read (Elt Ideal) (arg6.view.writes (Elt Ideal) f ((⟨Rect.unit off ![1, 8, 256] inb, w⟩ : View.Piece (Elt Ideal) S96x32x256 .f32) :: L)) (ix3 a r l)
      = if a.val % 8 = d ∧ a.val / 8 < j + 1 ∧ lo ≤ r.val ∧ r.val < lo + 8 then M a r l else S (ix3 a r l) := by
  by_cases h : a.val = 8 * j + d
  · by_cases hr : lo ≤ r.val ∧ r.val < lo + 8
    · rw [if_pos (by omega)]
      have e : r = ⟨lo + (r.val - lo), by omega⟩ := Fin.ext (by show r.val = lo + (r.val - lo); omega)
      refine (View.read_writes_cons_unit_of_mem (off' := ![8 * j + d, lo, 0]) arg6.view f inb w L _ (ix3 0 ⟨r.val - lo, by omega⟩ l) hoff ?_).trans ((hw _ _).trans ?_)
      · intro ax
        match ax with
        | ⟨0, _⟩ => show a.val = 8 * j + d + 0; omega
        | ⟨1, _⟩ => show r.val = lo + (r.val - lo); omega
        | ⟨2, _⟩ => show l.val = 0 + l.val; omega
      · congr 1
        · exact Fin.ext h.symm
        · exact e.symm
    · refine (View.read_writes_cons_unit_of_not_mem (off' := ![8 * j + d, lo, 0]) arg6.view f inb w L _ hoff 1 ?_).trans ?_
      · show r.val < lo ∨ lo + 8 ≤ r.val
        omega
      · rw [hL, if_neg (by omega), if_neg (by omega)]
  · refine (View.read_writes_cons_unit_of_not_mem (off' := ![8 * j + d, lo, 0]) arg6.view f inb w L _ hoff 0 ?_).trans ?_
    · show a.val < 8 * j + d ∨ 8 * j + d + 1 ≤ a.val
      omega
    · rw [hL]
      exact if_congr (by omega) rfl rfl

end Step

/-- A chain of maxima lies below a bound exactly when its start and each of the twelve magnitudes do. -/
theorem chain_le (z a : EReal) (g : Fin 12 → EReal) :
    max (max (max (max (max (max (max (max (max (max (max (max a (g 0)) (g 1)) (g 2)) (g 3)) (g 4)) (g 5)) (g 6)) (g 7)) (g 8)) (g 9)) (g 10)) (g 11) ≤ z ↔ a ≤ z ∧ ∀ j : Fin 12, g j ≤ z := by
  simp only [max_le_iff, Fin.forall_fin_succ, Fin.isValue]
  constructor
  · rintro ⟨⟨⟨⟨⟨⟨⟨⟨⟨⟨⟨⟨h, h0⟩, h1⟩, h2⟩, h3⟩, h4⟩, h5⟩, h6⟩, h7⟩, h8⟩, h9⟩, h10⟩, h11⟩
    exact ⟨h, h0, h1, h2, h3, h4, h5, h6, h7, h8, h9, h10, h11, fun i => i.elim0⟩
  · rintro ⟨h, h0, h1, h2, h3, h4, h5, h6, h7, h8, h9, h10, h11, -⟩
    exact ⟨⟨⟨⟨⟨⟨⟨⟨⟨⟨⟨⟨h, h0⟩, h1⟩, h2⟩, h3⟩, h4⟩, h5⟩, h6⟩, h7⟩, h8⟩, h9⟩, h10⟩, h11⟩

end Cert.RotateIdeal.Hand

end
-- ==== Proof.RotateLoop1.lean ====
module

public import proofs.«01_k».proof.Proof.Gen.RotateIdeal.Value
public import Idealize.ShloMosaic.Lib.Pointwise
public import Idealize.ShloMosaic.Lib.Pipeline.ValueKit
public import Idealize.ShloMosaic.Lib.Pipeline.ReadBack
public import Idealize.ShloMosaic.Lib.WritesUnit
public import proofs.«01_k».proof.Proof.RotateStep

@[expose] public section

set_option maxRecDepth 16384

noncomputable section

namespace Cert.RotateIdeal.Hand

open Cert.RotateIdeal Cert.RotateIdeal.Gen
open Idealize.ShloMosaic Idealize.ShloMosaic.TcCoe Idealize.SL.Sem

theorem trips1 : k0_t1_loop.trips = 8 := by decide +kernel

/-- Where the accesses of trip `k` of row group 1 lie. -/
theorem off1 (k : Fin k0_t1_loop.trips) : k0_off1 k 0#32 = ![k.val, 0, 0] ∧ k0_off1 k 8#32 = ![8 + k.val, 0, 0] ∧ k0_off1 k 16#32 = ![16 + k.val, 0, 0] ∧ k0_off1 k 24#32 = ![24 + k.val, 0, 0] ∧ k0_off1 k 32#32 = ![32 + k.val, 0, 0] ∧ k0_off1 k 40#32 = ![40 + k.val, 0, 0] ∧ k0_off1 k 48#32 = ![48 + k.val, 0, 0] ∧ k0_off1 k 56#32 = ![56 + k.val, 0, 0] ∧ k0_off1 k 64#32 = ![64 + k.val, 0, 0] ∧ k0_off1 k 72#32 = ![72 + k.val, 0, 0] ∧ k0_off1 k 80#32 = ![80 + k.val, 0, 0] ∧ k0_off1 k 88#32 = ![88 + k.val, 0, 0] := by
  revert k; decide +kernel

section
variable (c : Dev nD) (i : grid0.Coords) (arg1 : Memref sig .tc .smem S12x12 .f32) (harg1 : arg1.IsWhole) (arg2 : Memref sig .tc .vmem S32x24576 .bf16) (harg2 : arg2.IsWhole) (arg3 : Memref sig .tc .vmem S256x256 .bf16) (harg3 : arg3.IsWhole) (arg4 : Memref sig .tc .vmem S32x24576 .i8) (harg4 : arg4.IsWhole) (arg5 : Memref sig .tc .vmem S32x128 .f32) (harg5 : arg5.IsWhole) (arg6 : Memref sig .tc .vmem S96x32x256 .f32) (harg6 : arg6.IsWhole)
variable (v993 v995 : FVec Ideal S32x256 .f32) (X : BufTy.Contents (Elt Ideal) arg1.view.ty)

/-- What trip `k` of row group 1 stores: the twelve mixed blocks of residue `k`, in the group's eight rows; everything else stays. -/
theorem trip_read1 (k : Fin k0_t1_loop.trips) (hk : k.val < 8) (acc : FVec Ideal S8x256 .f32) (f : BufTy.Contents (Elt Ideal) arg6.view.ty)
    (a : Fin 96) (r : Fin 32) (l : Fin 256) :
    arg6.view.read (Elt Ideal) (arg6.view.writes (Elt Ideal) f (tripL_k0_t1 (F := Ideal) Variants.none c none i arg1 harg1 arg2 harg2 arg3 harg3 arg4 harg4 arg5 harg5 arg6 harg6 v993 v995 X k acc f)) (ix3 a r l)
      = if a.val % 8 = k.val ∧ a.val / 8 < 12 ∧ 0 ≤ r.val ∧ r.val < 0 + 8
        then mixAll (arg1.view.read (Elt Ideal) X) (arg6.view.read (Elt Ideal) f) a r l else arg6.view.read (Elt Ideal) f (ix3 a r l) := by
  unfold tripL_k0_t1 trip_k0_t1
  dsimp only
  revert a r l
  refine step arg6 f _ _ _ (mixAll (arg1.view.read (Elt Ideal) X) (arg6.view.read (Elt Ideal) f)) (arg6.view.read (Elt Ideal) f) k.val 0 11 hk (by omega) (by omega) ((off1 k).2.2.2.2.2.2.2.2.2.2.2.trans (by simp)) ?_ ?_
  · intro r l
    refine Eq.trans ?_ (mixAll_eq _ _ 11 ⟨k.val, hk⟩ _ _ _).symm
    frame_out
    open_payloads
    pointwise [off1 k, mixd]
    try rfl
  refine step arg6 f _ _ _ (mixAll (arg1.view.read (Elt Ideal) X) (arg6.view.read (Elt Ideal) f)) (arg6.view.read (Elt Ideal) f) k.val 0 10 hk (by omega) (by omega) ((off1 k).2.2.2.2.2.2.2.2.2.2.1.trans (by simp)) ?_ ?_
  · intro r l
    refine Eq.trans ?_ (mixAll_eq _ _ 10 ⟨k.val, hk⟩ _ _ _).symm
    frame_out
    open_payloads
    pointwise [off1 k, mixd]
    try rfl
  refine step arg6 f _ _ _ (mixAll (arg1.view.read (Elt Ideal) X) (arg6.view.read (Elt Ideal) f)) (arg6.view.read (Elt Ideal) f) k.val 0 9 hk (by omega) (by omega) ((off1 k).2.2.2.2.2.2.2.2.2.1.trans (by simp)) ?_ ?_
  · intro r l
    refine Eq.trans ?_ (mixAll_eq _ _ 9 ⟨k.val, hk⟩ _ _ _).symm
    frame_out
    open_payloads
    pointwise [off1 k, mixd]
    try rfl
  refine step arg6 f _ _ _ (mixAll (arg1.view.read (Elt Ideal) X) (arg6.view.read (Elt Ideal) f)) (arg6.view.read (Elt Ideal) f) k.val 0 8 hk (by omega) (by omega) ((off1 k).2.2.2.2.2.2.2.2.1.trans (by simp)) ?_ ?_
  · intro r l
    refine Eq.trans ?_ (mixAll_eq _ _ 8 ⟨k.val, hk⟩ _ _ _).symm
    frame_out
    open_payloads
    pointwise [off1 k, mixd]
    try rfl
  refine step arg6 f _ _ _ (mixAll (arg1.view.read (Elt Ideal) X) (arg6.view.read (Elt Ideal) f)) (arg6.view.read (Elt Ideal) f) k.val 0 7 hk (by omega) (by omega) ((off1 k).2.2.2.2.2.2.2.1.trans (by simp)) ?_ ?_
  · intro r l
    refine Eq.trans ?_ (mixAll_eq _ _ 7 ⟨k.val, hk⟩ _ _ _).symm
    frame_out
    open_payloads
    pointwise [off1 k, mixd]
    try rfl
  refine step arg6 f _ _ _ (mixAll (arg1.view.read (Elt Ideal) X) (arg6.view.read (Elt Ideal) f)) (arg6.view.read (Elt Ideal) f) k.val 0 6 hk (by omega) (by omega) ((off1 k).2.2.2.2.2.2.1.trans (by simp)) ?_ ?_
  · intro r l
    refine Eq.trans ?_ (mixAll_eq _ _ 6 ⟨k.val, hk⟩ _ _ _).symm
    frame_out
    open_payloads
    pointwise [off1 k, mixd]
    try rfl
  refine step arg6 f _ _ _ (mixAll (arg1.view.read (Elt Ideal) X) (arg6.view.read (Elt Ideal) f)) (arg6.view.read (Elt Ideal) f) k.val 0 5 hk (by omega) (by omega) ((off1 k).2.2.2.2.2.1.trans (by simp)) ?_ ?_
  · intro r l
    refine Eq.trans ?_ (mixAll_eq _ _ 5 ⟨k.val, hk⟩ _ _ _).symm
    frame_out
    open_payloads
    pointwise [off1 k, mixd]
    try rfl
  refine step arg6 f _ _ _ (mixAll (arg1.view.read (Elt Ideal) X) (arg6.view.read (Elt Ideal) f)) (arg6.view.read (Elt Ideal) f) k.val 0 4 hk (by omega) (by omega) ((off1 k).2.2.2.2.1.trans (by simp)) ?_ ?_
  · intro r l
    refine Eq.trans ?_ (mixAll_eq _ _ 4 ⟨k.val, hk⟩ _ _ _).symm
    frame_out
    open_payloads
    pointwise [off1 k, mixd]
    try rfl
  refine step arg6 f _ _ _ (mixAll (arg1.view.read (Elt Ideal) X) (arg6.view.read (Elt Ideal) f)) (arg6.view.read (Elt Ideal) f) k.val 0 3 hk (by omega) (by omega) ((off1 k).2.2.2.1.trans (by simp)) ?_ ?_
  · intro r l
    refine Eq.trans ?_ (mixAll_eq _ _ 3 ⟨k.val, hk⟩ _ _ _).symm
    frame_out
    open_payloads
    pointwise [off1 k, mixd]
    try rfl
  refine step arg6 f _ _ _ (mixAll (arg1.view.read (Elt Ideal) X) (arg6.view.read (Elt Ideal) f)) (arg6.view.read (Elt Ideal) f) k.val 0 2 hk (by omega) (by omega) ((off1 k).2.2.1.trans (by simp)) ?_ ?_
  · intro r l
    refine Eq.trans ?_ (mixAll_eq _ _ 2 ⟨k.val, hk⟩ _ _ _).symm
    frame_out
    open_payloads
    pointwise [off1 k, mixd]
    try rfl
  refine step arg6 f _ _ _ (mixAll (arg1.view.read (Elt Ideal) X) (arg6.view.read (Elt Ideal) f)) (arg6.view.read (Elt Ideal) f) k.val 0 1 hk (by omega) (by omega) ((off1 k).2.1.trans (by simp)) ?_ ?_
  · intro r l
    refine Eq.trans ?_ (mixAll_eq _ _ 1 ⟨k.val, hk⟩ _ _ _).symm
    frame_out
    open_payloads
    pointwise [off1 k, mixd]
    try rfl
  refine step arg6 f _ _ _ (mixAll (arg1.view.read (Elt Ideal) X) (arg6.view.read (Elt Ideal) f)) (arg6.view.read (Elt Ideal) f) k.val 0 0 hk (by omega) (by omega) ((off1 k).1.trans (by simp)) ?_ ?_
  · intro r l
    refine Eq.trans ?_ (mixAll_eq _ _ 0 ⟨k.val, hk⟩ _ _ _).symm
    frame_out
    open_payloads
    pointwise [off1 k, mixd]
    try rfl
  intro a r l
  rw [if_neg (by omega)]
  rfl

/-- What trip `k` of row group 1 carries on: the old maximum and the magnitudes of the twelve mixed blocks of residue `k`. -/
theorem trip_max1 (k : Fin k0_t1_loop.trips) (hk : k.val < 8) (acc : FVec Ideal S8x256 .f32) (f : BufTy.Contents (Elt Ideal) arg6.view.ty)
    (r : Fin 8) (l : Fin 256) (z : EReal) :
    tripR_k0_t1 (F := Ideal) Variants.none c none i arg1 harg1 arg2 harg2 arg3 harg3 arg4 harg4 arg5 harg5 arg6 harg6 v993 v995 X k acc f (ix2 r l) ≤ z
      ↔ acc (ix2 r l) ≤ z ∧ ∀ j : Fin 12, max (mixd (arg1.view.read (Elt Ideal) X) (arg6.view.read (Elt Ideal) f) j ⟨k.val, hk⟩ ⟨0 + r.val, by omega⟩ l) (-(mixd (arg1.view.read (Elt Ideal) X) (arg6.view.read (Elt Ideal) f) j ⟨k.val, hk⟩ ⟨0 + r.val, by omega⟩ l)) ≤ z := by
  rw [← chain_le z (acc (ix2 r l)) (fun j => (max (mixd (arg1.view.read (Elt Ideal) X) (arg6.view.read (Elt Ideal) f) j ⟨k.val, hk⟩ ⟨0 + r.val, by omega⟩ l) (-(mixd (arg1.view.read (Elt Ideal) X) (arg6.view.read (Elt Ideal) f) j ⟨k.val, hk⟩ ⟨0 + r.val, by omega⟩ l))))]
  refine iff_of_eq (congrArg (· ≤ z) ?_)
  unfold tripR_k0_t1 trip_k0_t1
  dsimp only
  frame_out
  open_payloads
  pointwise [off1 k, mixd]
  try rfl

/-- The state before trip `n` of row group 1: residues below `n` are mixed in the group's eight rows, everything else is as it was; the
    carried maximum is that of the start and the mixed magnitudes so far. -/
theorem loop1 (G : BufTy.Contents (Elt Ideal) arg6.view.ty) (init : FVec Ideal S8x256 .f32) (n : ℕ) (hn : n ≤ 8) :
    (∀ (a : Fin 96) (r : Fin 32) (l : Fin 256),
      arg6.view.read (Elt Ideal) (arg6.view.writes (Elt Ideal) G (st_k0_t1 (F := Ideal) Variants.none c none i arg1 harg1 arg2 harg2 arg3 harg3 arg4 harg4 arg5 harg5 arg6 harg6 v993 v995 X G init n).2) (ix3 a r l)
      = if a.val % 8 < n ∧ 0 ≤ r.val ∧ r.val < 0 + 8
        then mixAll (arg1.view.read (Elt Ideal) X) (arg6.view.read (Elt Ideal) G) a r l else arg6.view.read (Elt Ideal) G (ix3 a r l))
    ∧ (∀ (r : Fin 8) (l : Fin 256) (z : EReal), (st_k0_t1 (F := Ideal) Variants.none c none i arg1 harg1 arg2 harg2 arg3 harg3 arg4 harg4 arg5 harg5 arg6 harg6 v993 v995 X G init n).1 (ix2 r l) ≤ z
      ↔ init (ix2 r l) ≤ z ∧ ∀ d : Fin 8, d.val < n → ∀ j : Fin 12, max (mixd (arg1.view.read (Elt Ideal) X) (arg6.view.read (Elt Ideal) G) j d ⟨0 + r.val, by omega⟩ l) (-(mixd (arg1.view.read (Elt Ideal) X) (arg6.view.read (Elt Ideal) G) j d ⟨0 + r.val, by omega⟩ l)) ≤ z) := by
  induction n with
  | zero =>
    refine ⟨fun a r l => ?_, fun r l z => ?_⟩
    · rw [if_neg (by omega)]; rfl
    · rw [st_k0_t1_zero]
      exact ⟨fun h => ⟨h, fun d hd => absurd hd (by omega)⟩, fun h => h.1⟩
  | succ n ih =>
    obtain ⟨ih1, ih2⟩ := ih (by omega)
    have hs := st_k0_t1_succ (F := Ideal) Variants.none c none i arg1 harg1 arg2 harg2 arg3 harg3 arg4 harg4 arg5 harg5 arg6 harg6 v993 v995 X G init ⟨n, by rw [trips1]; omega⟩
    have key : ∀ (j : Fin 12) (d : Fin 8) (r : Fin 32) (l : Fin 256), d.val = n →
        mixd (arg1.view.read (Elt Ideal) X) (arg6.view.read (Elt Ideal) (arg6.view.writes (Elt Ideal) G (st_k0_t1 (F := Ideal) Variants.none c none i arg1 harg1 arg2 harg2 arg3 harg3 arg4 harg4 arg5 harg5 arg6 harg6 v993 v995 X G init n).2)) j d r l
          = mixd (arg1.view.read (Elt Ideal) X) (arg6.view.read (Elt Ideal) G) j d r l := by
      intro j d r l hd
      exact mixd_congr _ _ _ _ _ _ _ fun a ha => by rw [ih1, if_neg (by omega)]
    dsimp only at hs
    refine ⟨fun a r l => ?_, fun r l z => ?_⟩
    · rw [hs]
      dsimp only
      rw [View.writes_append, trip_read1 _ _ _ _ _ _ _ _ _ _ _ _ _ _ _ _ _ _ (by show n < 8; omega), ih1]
      by_cases h : a.val % 8 = n ∧ 0 ≤ r.val ∧ r.val < 0 + 8
      · rw [if_pos (by show a.val % 8 = n ∧ _; omega), if_pos (by omega)]
        exact key _ _ _ _ h.1
      · rw [if_neg (by show ¬ (a.val % 8 = n ∧ _); omega)]
        exact if_congr (by omega) rfl rfl
    · rw [hs]
      dsimp only
      rw [trip_max1 _ _ _ _ _ _ _ _ _ _ _ _ _ _ _ _ _ _ (by show n < 8; omega), ih2]
      constructor
      · rintro ⟨⟨h1, h2⟩, h3⟩
        refine ⟨h1, fun d hd j => ?_⟩
        by_cases e : d.val = n
        · have := h3 j
          rw [key _ _ _ _ rfl] at this
          have e' : (⟨n, by omega⟩ : Fin 8) = d := Fin.ext e.symm
          rw [e'] at this
          exact this
        · exact h2 d (by omega) j
      · rintro ⟨h1, h2⟩
        refine ⟨⟨h1, fun d hd => h2 d (by omega)⟩, fun j => ?_⟩
        rw [key _ _ _ _ rfl]
        exact h2 ⟨n, by omega⟩ (by show n < n + 1; omega) j
end

end Cert.RotateIdeal.Hand

end
-- ==== Proof.RotateLoop2.lean ====
module

public import proofs.«01_k».proof.Proof.Gen.RotateIdeal.Value
public import Idealize.ShloMosaic.Lib.Pointwise
public import Idealize.ShloMosaic.Lib.Pipeline.ValueKit
public import Idealize.ShloMosaic.Lib.Pipeline.ReadBack
public import Idealize.ShloMosaic.Lib.WritesUnit
public import proofs.«01_k».proof.Proof.RotateStep

@[expose] public section

set_option maxRecDepth 16384

noncomputable section

namespace Cert.RotateIdeal.Hand

open Cert.RotateIdeal Cert.RotateIdeal.Gen
open Idealize.ShloMosaic Idealize.ShloMosaic.TcCoe Idealize.SL.Sem

theorem trips2 : k0_t2_loop.trips = 8 := by decide +kernel

/-- Where the accesses of trip `k` of row group 2 lie. -/
theorem off2 (k : Fin k0_t2_loop.trips) : k0_off2 k 0#32 = ![k.val, 8, 0] ∧ k0_off2 k 8#32 = ![8 + k.val, 8, 0] ∧ k0_off2 k 16#32 = ![16 + k.val, 8, 0] ∧ k0_off2 k 24#32 = ![24 + k.val, 8, 0] ∧ k0_off2 k 32#32 = ![32 + k.val, 8, 0] ∧ k0_off2 k 40#32 = ![40 + k.val, 8, 0] ∧ k0_off2 k 48#32 = ![48 + k.val, 8, 0] ∧ k0_off2 k 56#32 = ![56 + k.val, 8, 0] ∧ k0_off2 k 64#32 = ![64 + k.val, 8, 0] ∧ k0_off2 k 72#32 = ![72 + k.val, 8, 0] ∧ k0_off2 k 80#32 = ![80 + k.val, 8, 0] ∧ k0_off2 k 88#32 = ![88 + k.val, 8, 0] := by
  revert k; decide +kernel

section
variable (c : Dev nD) (i : grid0.Coords) (arg1 : Memref sig .tc .smem S12x12 .f32) (harg1 : arg1.IsWhole) (arg2 : Memref sig .tc .vmem S32x24576 .bf16) (harg2 : arg2.IsWhole) (arg3 : Memref sig .tc .vmem S256x256 .bf16) (harg3 : arg3.IsWhole) (arg4 : Memref sig .tc .vmem S32x24576 .i8) (harg4 : arg4.IsWhole) (arg5 : Memref sig .tc .vmem S32x128 .f32) (harg5 : arg5.IsWhole) (arg6 : Memref sig .tc .vmem S96x32x256 .f32) (harg6 : arg6.IsWhole)
variable (v993 v995 : FVec Ideal S32x256 .f32) (X : BufTy.Contents (Elt Ideal) arg1.view.ty)

/-- What trip `k` of row group 2 stores: the twelve mixed blocks of residue `k`, in the group's eight rows; everything else stays. -/
theorem trip_read2 (k : Fin k0_t2_loop.trips) (hk : k.val < 8) (acc : FVec Ideal S8x256 .f32) (f : BufTy.Contents (Elt Ideal) arg6.view.ty)
    (a : Fin 96) (r : Fin 32) (l : Fin 256) :
    arg6.view.read (Elt Ideal) (arg6.view.writes (Elt Ideal) f (tripL_k0_t2 (F := Ideal) Variants.none c none i arg1 harg1 arg2 harg2 arg3 harg3 arg4 harg4 arg5 harg5 arg6 harg6 v993 v995 X k acc f)) (ix3 a r l)
      = if a.val % 8 = k.val ∧ a.val / 8 < 12 ∧ 8 ≤ r.val ∧ r.val < 8 + 8
        then mixAll (arg1.view.read (Elt Ideal) X) (arg6.view.read (Elt Ideal) f) a r l else arg6.view.read (Elt Ideal) f (ix3 a r l) := by
  unfold tripL_k0_t2 trip_k0_t2
  dsimp only
  revert a r l
  refine step arg6 f _ _ _ (mixAll (arg1.view.read (Elt Ideal) X) (arg6.view.read (Elt Ideal) f)) (arg6.view.read (Elt Ideal) f) k.val 8 11 hk (by omega) (by omega) ((off2 k).2.2.2.2.2.2.2.2.2.2.2.trans (by simp)) ?_ ?_
  · intro r l
    refine Eq.trans ?_ (mixAll_eq _ _ 11 ⟨k.val, hk⟩ _ _ _).symm
    frame_out
    open_payloads
    pointwise [off2 k, mixd]
    try rfl
  refine step arg6 f _ _ _ (mixAll (arg1.view.read (Elt Ideal) X) (arg6.view.read (Elt Ideal) f)) (arg6.view.read (Elt Ideal) f) k.val 8 10 hk (by omega) (by omega) ((off2 k).2.2.2.2.2.2.2.2.2.2.1.trans (by simp)) ?_ ?_
  · intro r l
    refine Eq.trans ?_ (mixAll_eq _ _ 10 ⟨k.val, hk⟩ _ _ _).symm
    frame_out
    open_payloads
    pointwise [off2 k, mixd]
    try rfl
  refine step arg6 f _ _ _ (mixAll (arg1.view.read (Elt Ideal) X) (arg6.view.read (Elt Ideal) f)) (arg6.view.read (Elt Ideal) f) k.val 8 9 hk (by omega) (by omega) ((off2 k).2.2.2.2.2.2.2.2.2.1.trans (by simp)) ?_ ?_
  · intro r l
    refine Eq.trans ?_ (mixAll_eq _ _ 9 ⟨k.val, hk⟩ _ _ _).symm
    frame_out
    open_payloads
    pointwise [off2 k, mixd]
    try rfl
  refine step arg6 f _ _ _ (mixAll (arg1.view.read (Elt Ideal) X) (arg6.view.read (Elt Ideal) f)) (arg6.view.read (Elt Ideal) f) k.val 8 8 hk (by omega) (by omega) ((off2 k).2.2.2.2.2.2.2.2.1.trans (by simp)) ?_ ?_
  · intro r l
    refine Eq.trans ?_ (mixAll_eq _ _ 8 ⟨k.val, hk⟩ _ _ _).symm
    frame_out
    open_payloads
    pointwise [off2 k, mixd]
    try rfl
  refine step arg6 f _ _ _ (mixAll (arg1.view.read (Elt Ideal) X) (arg6.view.read (Elt Ideal) f)) (arg6.view.read (Elt Ideal) f) k.val 8 7 hk (by omega) (by omega) ((off2 k).2.2.2.2.2.2.2.1.trans (by simp)) ?_ ?_
  · intro r l
    refine Eq.trans ?_ (mixAll_eq _ _ 7 ⟨k.val, hk⟩ _ _ _).symm
    frame_out
    open_payloads
    pointwise [off2 k, mixd]
    try rfl
  refine step arg6 f _ _ _ (mixAll (arg1.view.read (Elt Ideal) X) (arg6.view.read (Elt Ideal) f)) (arg6.view.read (Elt Ideal) f) k.val 8 6 hk (by omega) (by omega) ((off2 k).2.2.2.2.2.2.1.trans (by simp)) ?_ ?_
  · intro r l
    refine Eq.trans ?_ (mixAll_eq _ _ 6 ⟨k.val, hk⟩ _ _ _).symm
    frame_out
    open_payloads
    pointwise [off2 k, mixd]
    try rfl
  refine step arg6 f _ _ _ (mixAll (arg1.view.read (Elt Ideal) X) (arg6.view.read (Elt Ideal) f)) (arg6.view.read (Elt Ideal) f) k.val 8 5 hk (by omega) (by omega) ((off2 k).2.2.2.2.2.1.trans (by simp)) ?_ ?_
  · intro r l
    refine Eq.trans ?_ (mixAll_eq _ _ 5 ⟨k.val, hk⟩ _ _ _).symm
    frame_out
    open_payloads
    pointwise [off2 k, mixd]
    try rfl
  refine step arg6 f _ _ _ (mixAll (arg1.view.read (Elt Ideal) X) (arg6.view.read (Elt Ideal) f)) (arg6.view.read (Elt Ideal) f) k.val 8 4 hk (by omega) (by omega) ((off2 k).2.2.2.2.1.trans (by simp)) ?_ ?_
  · intro r l
    refine Eq.trans ?_ (mixAll_eq _ _ 4 ⟨k.val, hk⟩ _ _ _).symm
    frame_out
    open_payloads
    pointwise [off2 k, mixd]
    try rfl
  refine step arg6 f _ _ _ (mixAll (arg1.view.read (Elt Ideal) X) (arg6.view.read (Elt Ideal) f)) (arg6.view.read (Elt Ideal) f) k.val 8 3 hk (by omega) (by omega) ((off2 k).2.2.2.1.trans (by simp)) ?_ ?_
  · intro r l
    refine Eq.trans ?_ (mixAll_eq _ _ 3 ⟨k.val, hk⟩ _ _ _).symm
    frame_out
    open_payloads
    pointwise [off2 k, mixd]
    try rfl
  refine step arg6 f _ _ _ (mixAll (arg1.view.read (Elt Ideal) X) (arg6.view.read (Elt Ideal) f)) (arg6.view.read (Elt Ideal) f) k.val 8 2 hk (by omega) (by omega) ((off2 k).2.2.1.trans (by simp)) ?_ ?_
  · intro r l
    refine Eq.trans ?_ (mixAll_eq _ _ 2 ⟨k.val, hk⟩ _ _ _).symm
    frame_out
    open_payloads
    pointwise [off2 k, mixd]
    try rfl
  refine step arg6 f _ _ _ (mixAll (arg1.view.read (Elt Ideal) X) (arg6.view.read (Elt Ideal) f)) (arg6.view.read (Elt Ideal) f) k.val 8 1 hk (by omega) (by omega) ((off2 k).2.1.trans (by simp)) ?_ ?_
  · intro r l
    refine Eq.trans ?_ (mixAll_eq _ _ 1 ⟨k.val, hk⟩ _ _ _).symm
    frame_out
    open_payloads
    pointwise [off2 k, mixd]
    try rfl
  refine step arg6 f _ _ _ (mixAll (arg1.view.read (Elt Ideal) X) (arg6.view.read (Elt Ideal) f)) (arg6.view.read (Elt Ideal) f) k.val 8 0 hk (by omega) (by omega) ((off2 k).1.trans (by simp)) ?_ ?_
  · intro r l
    refine Eq.trans ?_ (mixAll_eq _ _ 0 ⟨k.val, hk⟩ _ _ _).symm
    frame_out
    open_payloads
    pointwise [off2 k, mixd]
    try rfl
  intro a r l
  rw [if_neg (by omega)]
  rfl

/-- What trip `k` of row group 2 carries on: the old maximum and the magnitudes of the twelve mixed blocks of residue `k`. -/
theorem trip_max2 (k : Fin k0_t2_loop.trips) (hk : k.val < 8) (acc : FVec Ideal S8x256 .f32) (f : BufTy.Contents (Elt Ideal) arg6.view.ty)
    (r : Fin 8) (l : Fin 256) (z : EReal) :
    tripR_k0_t2 (F := Ideal) Variants.none c none i arg1 harg1 arg2 harg2 arg3 harg3 arg4 harg4 arg5 harg5 arg6 harg6 v993 v995 X k acc f (ix2 r l) ≤ z
      ↔ acc (ix2 r l) ≤ z ∧ ∀ j : Fin 12, max (mixd (arg1.view.read (Elt Ideal) X) (arg6.view.read (Elt Ideal) f) j ⟨k.val, hk⟩ ⟨8 + r.val, by omega⟩ l) (-(mixd (arg1.view.read (Elt Ideal) X) (arg6.view.read (Elt Ideal) f) j ⟨k.val, hk⟩ ⟨8 + r.val, by omega⟩ l)) ≤ z := by
  rw [← chain_le z (acc (ix2 r l)) (fun j => (max (mixd (arg1.view.read (Elt Ideal) X) (arg6.view.read (Elt Ideal) f) j ⟨k.val, hk⟩ ⟨8 + r.val, by omega⟩ l) (-(mixd (arg1.view.read (Elt Ideal) X) (arg6.view.read (Elt Ideal) f) j ⟨k.val, hk⟩ ⟨8 + r.val, by omega⟩ l))))]
  refine iff_of_eq (congrArg (· ≤ z) ?_)
  unfold tripR_k0_t2 trip_k0_t2
  dsimp only
  frame_out
  open_payloads
  pointwise [off2 k, mixd]
  try rfl

/-- The state before trip `n` of row group 2: residues below `n` are mixed in the group's eight rows, everything else is as it was; the
    carried maximum is that of the start and the mixed magnitudes so far. -/
theorem loop2 (G : BufTy.Contents (Elt Ideal) arg6.view.ty) (init : FVec Ideal S8x256 .f32) (n : ℕ) (hn : n ≤ 8) :
    (∀ (a : Fin 96) (r : Fin 32) (l : Fin 256),
      arg6.view.read (Elt Ideal) (arg6.view.writes (Elt Ideal) G (st_k0_t2 (F := Ideal) Variants.none c none i arg1 harg1 arg2 harg2 arg3 harg3 arg4 harg4 arg5 harg5 arg6 harg6 v993 v995 X G init n).2) (ix3 a r l)
      = if a.val % 8 < n ∧ 8 ≤ r.val ∧ r.val < 8 + 8
        then mixAll (arg1.view.read (Elt Ideal) X) (arg6.view.read (Elt Ideal) G) a r l else arg6.view.read (Elt Ideal) G (ix3 a r l))
    ∧ (∀ (r : Fin 8) (l : Fin 256) (z : EReal), (st_k0_t2 (F := Ideal) Variants.none c none i arg1 harg1 arg2 harg2 arg3 harg3 arg4 harg4 arg5 harg5 arg6 harg6 v993 v995 X G init n).1 (ix2 r l) ≤ z
      ↔ init (ix2 r l) ≤ z ∧ ∀ d : Fin 8, d.val < n → ∀ j : Fin 12, max (mixd (arg1.view.read (Elt Ideal) X) (arg6.view.read (Elt Ideal) G) j d ⟨8 + r.val, by omega⟩ l) (-(mixd (arg1.view.read (Elt Ideal) X) (arg6.view.read (Elt Ideal) G) j d ⟨8 + r.val, by omega⟩ l)) ≤ z) := by
  induction n with
  | zero =>
    refine ⟨fun a r l => ?_, fun r l z => ?_⟩
    · rw [if_neg (by omega)]; rfl
    · rw [st_k0_t2_zero]
      exact ⟨fun h => ⟨h, fun d hd => absurd hd (by omega)⟩, fun h => h.1⟩
  | succ n ih =>
    obtain ⟨ih1, ih2⟩ := ih (by omega)
    have hs := st_k0_t2_succ (F := Ideal) Variants.none c none i arg1 harg1 arg2 harg2 arg3 harg3 arg4 harg4 arg5 harg5 arg6 harg6 v993 v995 X G init ⟨n, by rw [trips2]; omega⟩
    have key : ∀ (j : Fin 12) (d : Fin 8) (r : Fin 32) (l : Fin 256), d.val = n →
        mixd (arg1.view.read (Elt Ideal) X) (arg6.view.read (Elt Ideal) (arg6.view.writes (Elt Ideal) G (st_k0_t2 (F := Ideal) Variants.none c none i arg1 harg1 arg2 harg2 arg3 harg3 arg4 harg4 arg5 harg5 arg6 harg6 v993 v995 X G init n).2)) j d r l
          = mixd (arg1.view.read (Elt Ideal) X) (arg6.view.read (Elt Ideal) G) j d r l := by
      intro j d r l hd
      exact mixd_congr _ _ _ _ _ _ _ fun a ha => by rw [ih1, if_neg (by omega)]
    dsimp only at hs
    refine ⟨fun a r l => ?_, fun r l z => ?_⟩
    · rw [hs]
      dsimp only
      rw [View.writes_append, trip_read2 _ _ _ _ _ _ _ _ _ _ _ _ _ _ _ _ _ _ (by show n < 8; omega), ih1]
      by_cases h : a.val % 8 = n ∧ 8 ≤ r.val ∧ r.val < 8 + 8
      · rw [if_pos (by show a.val % 8 = n ∧ _; omega), if_pos (by omega)]
        exact key _ _ _ _ h.1
      · rw [if_neg (by show ¬ (a.val % 8 = n ∧ _); omega)]
        exact if_congr (by omega) rfl rfl
    · rw [hs]
      dsimp only
      rw [trip_max2 _ _ _ _ _ _ _ _ _ _ _ _ _ _ _ _ _ _ (by show n < 8; omega), ih2]
      constructor
      · rintro ⟨⟨h1, h2⟩, h3⟩
        refine ⟨h1, fun d hd j => ?_⟩
        by_cases e : d.val = n
        · have := h3 j
          rw [key _ _ _ _ rfl] at this
          have e' : (⟨n, by omega⟩ : Fin 8) = d := Fin.ext e.symm
          rw [e'] at this
          exact this
        · exact h2 d (by omega) j
      · rintro ⟨h1, h2⟩
        refine ⟨⟨h1, fun d hd => h2 d (by omega)⟩, fun j => ?_⟩
        rw [key _ _ _ _ rfl]
        exact h2 ⟨n, by omega⟩ (by show n < n + 1; omega) j
end

end Cert.RotateIdeal.Hand

end
-- ==== Proof.RotateLoop3.lean ====
module

public import proofs.«01_k».proof.Proof.Gen.RotateIdeal.Value
public import Idealize.ShloMosaic.Lib.Pointwise
public import Idealize.ShloMosaic.Lib.Pipeline.ValueKit
public import Idealize.ShloMosaic.Lib.Pipeline.ReadBack
public import Idealize.ShloMosaic.Lib.WritesUnit
public import proofs.«01_k».proof.Proof.RotateStep

@[expose] public section

set_option maxRecDepth 16384

noncomputable section

namespace Cert.RotateIdeal.Hand

open Cert.RotateIdeal Cert.RotateIdeal.Gen
open Idealize.ShloMosaic Idealize.ShloMosaic.TcCoe Idealize.SL.Sem

theorem trips3 : k0_t3_loop.trips = 8 := by decide +kernel

/-- Where the accesses of trip `k` of row group 3 lie. -/
theorem off3 (k : Fin k0_t3_loop.trips) : k0_off3 k 0#32 = ![k.val, 16, 0] ∧ k0_off3 k 8#32 = ![8 + k.val, 16, 0] ∧ k0_off3 k 16#32 = ![16 + k.val, 16, 0] ∧ k0_off3 k 24#32 = ![24 + k.val, 16, 0] ∧ k0_off3 k 32#32 = ![32 + k.val, 16, 0] ∧ k0_off3 k 40#32 = ![40 + k.val, 16, 0] ∧ k0_off3 k 48#32 = ![48 + k.val, 16, 0] ∧ k0_off3 k 56#32 = ![56 + k.val, 16, 0] ∧ k0_off3 k 64#32 = ![64 + k.val, 16, 0] ∧ k0_off3 k 72#32 = ![72 + k.val, 16, 0] ∧ k0_off3 k 80#32 = ![80 + k.val, 16, 0] ∧ k0_off3 k 88#32 = ![88 + k.val, 16, 0] := by
  revert k; decide +kernel

section
variable (c : Dev nD) (i : grid0.Coords) (arg1 : Memref sig .tc .smem S12x12 .f32) (harg1 : arg1.IsWhole) (arg2 : Memref sig .tc .vmem S32x24576 .bf16) (harg2 : arg2.IsWhole) (arg3 : Memref sig .tc .vmem S256x256 .bf16) (harg3 : arg3.IsWhole) (arg4 : Memref sig .tc .vmem S32x24576 .i8) (harg4 : arg4.IsWhole) (arg5 : Memref sig .tc .vmem S32x128 .f32) (harg5 : arg5.IsWhole) (arg6 : Memref sig .tc .vmem S96x32x256 .f32) (harg6 : arg6.IsWhole)
variable (v1042 : FVec Ideal S8x1 .f32) (v1044 : IVec S8x1 1) (cst_341 : Ideal .f32) (X : BufTy.Contents (Elt Ideal) arg1.view.ty)

/-- What trip `k` of row group 3 stores: the twelve mixed blocks of residue `k`, in the group's eight rows; everything else stays. -/
theorem trip_read3 (k : Fin k0_t3_loop.trips) (hk : k.val < 8) (acc : FVec Ideal S8x256 .f32) (f : BufTy.Contents (Elt Ideal) arg6.view.ty)
    (a : Fin 96) (r : Fin 32) (l : Fin 256) :
    arg6.view.read (Elt Ideal) (arg6.view.writes (Elt Ideal) f (tripL_k0_t3 (F := Ideal) Variants.none c none i arg1 harg1 arg2 harg2 arg3 harg3 arg4 harg4 arg5 harg5 arg6 harg6 v1042 v1044 cst_341 X k acc f)) (ix3 a r l)
      = if a.val % 8 = k.val ∧ a.val / 8 < 12 ∧ 16 ≤ r.val ∧ r.val < 16 + 8
        then mixAll (arg1.view.read (Elt Ideal) X) (arg6.view.read (Elt Ideal) f) a r l else arg6.view.read (Elt Ideal) f (ix3 a r l) := by
  unfold tripL_k0_t3 trip_k0_t3
  dsimp only
  revert a r l
  refine step arg6 f _ _ _ (mixAll (arg1.view.read (Elt Ideal) X) (arg6.view.read (Elt Ideal) f)) (arg6.view.read (Elt Ideal) f) k.val 16 11 hk (by omega) (by omega) ((off3 k).2.2.2.2.2.2.2.2.2.2.2.trans (by simp)) ?_ ?_
  · intro r l
    refine Eq.trans ?_ (mixAll_eq _ _ 11 ⟨k.val, hk⟩ _ _ _).symm
    frame_out
    open_payloads
    pointwise [off3 k, mixd]
    try rfl
  refine step arg6 f _ _ _ (mixAll (arg1.view.read (Elt Ideal) X) (arg6.view.read (Elt Ideal) f)) (arg6.view.read (Elt Ideal) f) k.val 16 10 hk (by omega) (by omega) ((off3 k).2.2.2.2.2.2.2.2.2.2.1.trans (by simp)) ?_ ?_
  · intro r l
    refine Eq.trans ?_ (mixAll_eq _ _ 10 ⟨k.val, hk⟩ _ _ _).symm
    frame_out
    open_payloads
    pointwise [off3 k, mixd]
    try rfl
  refine step arg6 f _ _ _ (mixAll (arg1.view.read (Elt Ideal) X) (arg6.view.read (Elt Ideal) f)) (arg6.view.read (Elt Ideal) f) k.val 16 9 hk (by omega) (by omega) ((off3 k).2.2.2.2.2.2.2.2.2.1.trans (by simp)) ?_ ?_
  · intro r l
    refine Eq.trans ?_ (mixAll_eq _ _ 9 ⟨k.val, hk⟩ _ _ _).symm
    frame_out
    open_payloads
    pointwise [off3 k, mixd]
    try rfl
  refine step arg6 f _ _ _ (mixAll (arg1.view.read (Elt Ideal) X) (arg6.view.read (Elt Ideal) f)) (arg6.view.read (Elt Ideal) f) k.val 16 8 hk (by omega) (by omega) ((off3 k).2.2.2.2.2.2.2.2.1.trans (by simp)) ?_ ?_
  · intro r l
    refine Eq.trans ?_ (mixAll_eq _ _ 8 ⟨k.val, hk⟩ _ _ _).symm
    frame_out
    open_payloads
    pointwise [off3 k, mixd]
    try rfl
  refine step arg6 f _ _ _ (mixAll (arg1.view.read (Elt Ideal) X) (arg6.view.read (Elt Ideal) f)) (arg6.view.read (Elt Ideal) f) k.val 16 7 hk (by omega) (by omega) ((off3 k).2.2.2.2.2.2.2.1.trans (by simp)) ?_ ?_
  · intro r l
    refine Eq.trans ?_ (mixAll_eq _ _ 7 ⟨k.val, hk⟩ _ _ _).symm
    frame_out
    open_payloads
    pointwise [off3 k, mixd]
    try rfl
  refine step arg6 f _ _ _ (mixAll (arg1.view.read (Elt Ideal) X) (arg6.view.read (Elt Ideal) f)) (arg6.view.read (Elt Ideal) f) k.val 16 6 hk (by omega) (by omega) ((off3 k).2.2.2.2.2.2.1.trans (by simp)) ?_ ?_
  · intro r l
    refine Eq.trans ?_ (mixAll_eq _ _ 6 ⟨k.val, hk⟩ _ _ _).symm
    frame_out
    open_payloads
    pointwise [off3 k, mixd]
    try rfl
  refine step arg6 f _ _ _ (mixAll (arg1.view.read (Elt Ideal) X) (arg6.view.read (Elt Ideal) f)) (arg6.view.read (Elt Ideal) f) k.val 16 5 hk (by omega) (by omega) ((off3 k).2.2.2.2.2.1.trans (by simp)) ?_ ?_
  · intro r l
    refine Eq.trans ?_ (mixAll_eq _ _ 5 ⟨k.val, hk⟩ _ _ _).symm
    frame_out
    open_payloads
    pointwise [off3 k, mixd]
    try rfl
  refine step arg6 f _ _ _ (mixAll (arg1.view.read (Elt Ideal) X) (arg6.view.read (Elt Ideal) f)) (arg6.view.read (Elt Ideal) f) k.val 16 4 hk (by omega) (by omega) ((off3 k).2.2.2.2.1.trans (by simp)) ?_ ?_
  · intro r l
    refine Eq.trans ?_ (mixAll_eq _ _ 4 ⟨k.val, hk⟩ _ _ _).symm
    frame_out
    open_payloads
    pointwise [off3 k, mixd]
    try rfl
  refine step arg6 f _ _ _ (mixAll (arg1.view.read (Elt Ideal) X) (arg6.view.read (Elt Ideal) f)) (arg6.view.read (Elt Ideal) f) k.val 16 3 hk (by omega) (by omega) ((off3 k).2.2.2.1.trans (by simp)) ?_ ?_
  · intro r l
    refine Eq.trans ?_ (mixAll_eq _ _ 3 ⟨k.val, hk⟩ _ _ _).symm
    frame_out
    open_payloads
    pointwise [off3 k, mixd]
    try rfl
  refine step arg6 f _ _ _ (mixAll (arg1.view.read (Elt Ideal) X) (arg6.view.read (Elt Ideal) f)) (arg6.view.read (Elt Ideal) f) k.val 16 2 hk (by omega) (by omega) ((off3 k).2.2.1.trans (by simp)) ?_ ?_
  · intro r l
    refine Eq.trans ?_ (mixAll_eq _ _ 2 ⟨k.val, hk⟩ _ _ _).symm
    frame_out
    open_payloads
    pointwise [off3 k, mixd]
    try rfl
  refine step arg6 f _ _ _ (mixAll (arg1.view.read (Elt Ideal) X) (arg6.view.read (Elt Ideal) f)) (arg6.view.read (Elt Ideal) f) k.val 16 1 hk (by omega) (by omega) ((off3 k).2.1.trans (by simp)) ?_ ?_
  · intro r l
    refine Eq.trans ?_ (mixAll_eq _ _ 1 ⟨k.val, hk⟩ _ _ _).symm
    frame_out
    open_payloads
    pointwise [off3 k, mixd]
    try rfl
  refine step arg6 f _ _ _ (mixAll (arg1.view.read (Elt Ideal) X) (arg6.view.read (Elt Ideal) f)) (arg6.view.read (Elt Ideal) f) k.val 16 0 hk (by omega) (by omega) ((off3 k).1.trans (by simp)) ?_ ?_
  · intro r l
    refine Eq.trans ?_ (mixAll_eq _ _ 0 ⟨k.val, hk⟩ _ _ _).symm
    frame_out
    open_payloads
    pointwise [off3 k, mixd]
    try rfl
  intro a r l
  rw [if_neg (by omega)]
  rfl

/-- What trip `k` of row group 3 carries on: the old maximum and the magnitudes of the twelve mixed blocks of residue `k`. -/
theorem trip_max3 (k : Fin k0_t3_loop.trips) (hk : k.val < 8) (acc : FVec Ideal S8x256 .f32) (f : BufTy.Contents (Elt Ideal) arg6.view.ty)
    (r : Fin 8) (l : Fin 256) (z : EReal) :
    tripR_k0_t3 (F := Ideal) Variants.none c none i arg1 harg1 arg2 harg2 arg3 harg3 arg4 harg4 arg5 harg5 arg6 harg6 v1042 v1044 cst_341 X k acc f (ix2 r l) ≤ z
      ↔ acc (ix2 r l) ≤ z ∧ ∀ j : Fin 12, max (mixd (arg1.view.read (Elt Ideal) X) (arg6.view.read (Elt Ideal) f) j ⟨k.val, hk⟩ ⟨16 + r.val, by omega⟩ l) (-(mixd (arg1.view.read (Elt Ideal) X) (arg6.view.read (Elt Ideal) f) j ⟨k.val, hk⟩ ⟨16 + r.val, by omega⟩ l)) ≤ z := by
  rw [← chain_le z (acc (ix2 r l)) (fun j => (max (mixd (arg1.view.read (Elt Ideal) X) (arg6.view.read (Elt Ideal) f) j ⟨k.val, hk⟩ ⟨16 + r.val, by omega⟩ l) (-(mixd (arg1.view.read (Elt Ideal) X) (arg6.view.read (Elt Ideal) f) j ⟨k.val, hk⟩ ⟨16 + r.val, by omega⟩ l))))]
  refine iff_of_eq (congrArg (· ≤ z) ?_)
  unfold tripR_k0_t3 trip_k0_t3
  dsimp only
  frame_out
  open_payloads
  pointwise [off3 k, mixd]
  try rfl

/-- The state before trip `n` of row group 3: residues below `n` are mixed in the group's eight rows, everything else is as it was; the
    carried maximum is that of the start and the mixed magnitudes so far. -/
theorem loop3 (G : BufTy.Contents (Elt Ideal) arg6.view.ty) (init : FVec Ideal S8x256 .f32) (n : ℕ) (hn : n ≤ 8) :
    (∀ (a : Fin 96) (r : Fin 32) (l : Fin 256),
      arg6.view.read (Elt Ideal) (arg6.view.writes (Elt Ideal) G (st_k0_t3 (F := Ideal) Variants.none c none i arg1 harg1 arg2 harg2 arg3 harg3 arg4 harg4 arg5 harg5 arg6 harg6 v1042 v1044 cst_341 X G init n).2) (ix3 a r l)
      = if a.val % 8 < n ∧ 16 ≤ r.val ∧ r.val < 16 + 8
        then mixAll (arg1.view.read (Elt Ideal) X) (arg6.view.read (Elt Ideal) G) a r l else arg6.view.read (Elt Ideal) G (ix3 a r l))
    ∧ (∀ (r : Fin 8) (l : Fin 256) (z : EReal), (st_k0_t3 (F := Ideal) Variants.none c none i arg1 harg1 arg2 harg2 arg3 harg3 arg4 harg4 arg5 harg5 arg6 harg6 v1042 v1044 cst_341 X G init n).1 (ix2 r l) ≤ z
      ↔ init (ix2 r l) ≤ z ∧ ∀ d : Fin 8, d.val < n → ∀ j : Fin 12, max (mixd (arg1.view.read (Elt Ideal) X) (arg6.view.read (Elt Ideal) G) j d ⟨16 + r.val, by omega⟩ l) (-(mixd (arg1.view.read (Elt Ideal) X) (arg6.view.read (Elt Ideal) G) j d ⟨16 + r.val, by omega⟩ l)) ≤ z) := by
  induction n with
  | zero =>
    refine ⟨fun a r l => ?_, fun r l z => ?_⟩
    · rw [if_neg (by omega)]; rfl
    · rw [st_k0_t3_zero]
      exact ⟨fun h => ⟨h, fun d hd => absurd hd (by omega)⟩, fun h => h.1⟩
  | succ n ih =>
    obtain ⟨ih1, ih2⟩ := ih (by omega)
    have hs := st_k0_t3_succ (F := Ideal) Variants.none c none i arg1 harg1 arg2 harg2 arg3 harg3 arg4 harg4 arg5 harg5 arg6 harg6 v1042 v1044 cst_341 X G init ⟨n, by rw [trips3]; omega⟩
    have key : ∀ (j : Fin 12) (d : Fin 8) (r : Fin 32) (l : Fin 256), d.val = n →
        mixd (arg1.view.read (Elt Ideal) X) (arg6.view.read (Elt Ideal) (arg6.view.writes (Elt Ideal) G (st_k0_t3 (F := Ideal) Variants.none c none i arg1 harg1 arg2 harg2 arg3 harg3 arg4 harg4 arg5 harg5 arg6 harg6 v1042 v1044 cst_341 X G init n).2)) j d r l
          = mixd (arg1.view.read (Elt Ideal) X) (arg6.view.read (Elt Ideal) G) j d r l := by
      intro j d r l hd
      exact mixd_congr _ _ _ _ _ _ _ fun a ha => by rw [ih1, if_neg (by omega)]
    dsimp only at hs
    refine ⟨fun a r l => ?_, fun r l z => ?_⟩
    · rw [hs]
      dsimp only
      rw [View.writes_append, trip_read3 _ _ _ _ _ _ _ _ _ _ _ _ _ _ _ _ _ _ _ (by show n < 8; omega), ih1]
      by_cases h : a.val % 8 = n ∧ 16 ≤ r.val ∧ r.val < 16 + 8
      · rw [if_pos (by show a.val % 8 = n ∧ _; omega), if_pos (by omega)]
        exact key _ _ _ _ h.1
      · rw [if_neg (by show ¬ (a.val % 8 = n ∧ _); omega)]
        exact if_congr (by omega) rfl rfl
    · rw [hs]
      dsimp only
      rw [trip_max3 _ _ _ _ _ _ _ _ _ _ _ _ _ _ _ _ _ _ _ (by show n < 8; omega), ih2]
      constructor
      · rintro ⟨⟨h1, h2⟩, h3⟩
        refine ⟨h1, fun d hd j => ?_⟩
        by_cases e : d.val = n
        · have := h3 j
          rw [key _ _ _ _ rfl] at this
          have e' : (⟨n, by omega⟩ : Fin 8) = d := Fin.ext e.symm
          rw [e'] at this
          exact this
        · exact h2 d (by omega) j
      · rintro ⟨h1, h2⟩
        refine ⟨⟨h1, fun d hd => h2 d (by omega)⟩, fun j => ?_⟩
        rw [key _ _ _ _ rfl]
        exact h2 ⟨n, by omega⟩ (by show n < n + 1; omega) j
end

end Cert.RotateIdeal.Hand

end
-- ==== Proof.RotateLoop4.lean ====
module

public import proofs.«01_k».proof.Proof.Gen.RotateIdeal.Value
public import Idealize.ShloMosaic.Lib.Pointwise
public import Idealize.ShloMosaic.Lib.Pipeline.ValueKit
public import Idealize.ShloMosaic.Lib.Pipeline.ReadBack
public import Idealize.ShloMosaic.Lib.WritesUnit
public import proofs.«01_k».proof.Proof.RotateStep

@[expose] public section

set_option maxRecDepth 16384

noncomputable section

namespace Cert.RotateIdeal.Hand

open Cert.RotateIdeal Cert.RotateIdeal.Gen
open Idealize.ShloMosaic Idealize.ShloMosaic.TcCoe Idealize.SL.Sem

theorem trips4 : k0_t4_loop.trips = 8 := by decide +kernel

/-- Where the accesses of trip `k` of row group 4 lie. -/
theorem off4 (k : Fin k0_t4_loop.trips) : k0_off4 k 0#32 = ![k.val, 24, 0] ∧ k0_off4 k 8#32 = ![8 + k.val, 24, 0] ∧ k0_off4 k 16#32 = ![16 + k.val, 24, 0] ∧ k0_off4 k 24#32 = ![24 + k.val, 24, 0] ∧ k0_off4 k 32#32 = ![32 + k.val, 24, 0] ∧ k0_off4 k 40#32 = ![40 + k.val, 24, 0] ∧ k0_off4 k 48#32 = ![48 + k.val, 24, 0] ∧ k0_off4 k 56#32 = ![56 + k.val, 24, 0] ∧ k0_off4 k 64#32 = ![64 + k.val, 24, 0] ∧ k0_off4 k 72#32 = ![72 + k.val, 24, 0] ∧ k0_off4 k 80#32 = ![80 + k.val, 24, 0] ∧ k0_off4 k 88#32 = ![88 + k.val, 24, 0] := by
  revert k; decide +kernel

section
variable (c : Dev nD) (i : grid0.Coords) (arg1 : Memref sig .tc .smem S12x12 .f32) (harg1 : arg1.IsWhole) (arg2 : Memref sig .tc .vmem S32x24576 .bf16) (harg2 : arg2.IsWhole) (arg3 : Memref sig .tc .vmem S256x256 .bf16) (harg3 : arg3.IsWhole) (arg4 : Memref sig .tc .vmem S32x24576 .i8) (harg4 : arg4.IsWhole) (arg5 : Memref sig .tc .vmem S32x128 .f32) (harg5 : arg5.IsWhole) (arg6 : Memref sig .tc .vmem S96x32x256 .f32) (harg6 : arg6.IsWhole)
variable (v1042 : FVec Ideal S8x1 .f32) (v1044 : IVec S8x1 1) (cst_341 : Ideal .f32) (X : BufTy.Contents (Elt Ideal) arg1.view.ty)

/-- What trip `k` of row group 4 stores: the twelve mixed blocks of residue `k`, in the group's eight rows; everything else stays. -/
theorem trip_read4 (k : Fin k0_t4_loop.trips) (hk : k.val < 8) (acc : FVec Ideal S8x256 .f32) (f : BufTy.Contents (Elt Ideal) arg6.view.ty)
    (a : Fin 96) (r : Fin 32) (l : Fin 256) :
    arg6.view.read (Elt Ideal) (arg6.view.writes (Elt Ideal) f (tripL_k0_t4 (F := Ideal) Variants.none c none i arg1 harg1 arg2 harg2 arg3 harg3 arg4 harg4 arg5 harg5 arg6 harg6 v1042 v1044 cst_341 X k acc f)) (ix3 a r l)
      = if a.val % 8 = k.val ∧ a.val / 8 < 12 ∧ 24 ≤ r.val ∧ r.val < 24 + 8
        then mixAll (arg1.view.read (Elt Ideal) X) (arg6.view.read (Elt Ideal) f) a r l else arg6.view.read (Elt Ideal) f (ix3 a r l) := by
  unfold tripL_k0_t4 trip_k0_t4
  dsimp only
  revert a r l
  refine step arg6 f _ _ _ (mixAll (arg1.view.read (Elt Ideal) X) (arg6.view.read (Elt Ideal) f)) (arg6.view.read (Elt Ideal) f) k.val 24 11 hk (by omega) (by omega) ((off4 k).2.2.2.2.2.2.2.2.2.2.2.trans (by simp)) ?_ ?_
  · intro r l
    refine Eq.trans ?_ (mixAll_eq _ _ 11 ⟨k.val, hk⟩ _ _ _).symm
    frame_out
    open_payloads
    pointwise [off4 k, mixd]
    try rfl
  refine step arg6 f _ _ _ (mixAll (arg1.view.read (Elt Ideal) X) (arg6.view.read (Elt Ideal) f)) (arg6.view.read (Elt Ideal) f) k.val 24 10 hk (by omega) (by omega) ((off4 k).2.2.2.2.2.2.2.2.2.2.1.trans (by simp)) ?_ ?_
  · intro r l
    refine Eq.trans ?_ (mixAll_eq _ _ 10 ⟨k.val, hk⟩ _ _ _).symm
    frame_out
    open_payloads
    pointwise [off4 k, mixd]
    try rfl
  refine step arg6 f _ _ _ (mixAll (arg1.view.read (Elt Ideal) X) (arg6.view.read (Elt Ideal) f)) (arg6.view.read (Elt Ideal) f) k.val 24 9 hk (by omega) (by omega) ((off4 k).2.2.2.2.2.2.2.2.2.1.trans (by simp)) ?_ ?_
  · intro r l
    refine Eq.trans ?_ (mixAll_eq _ _ 9 ⟨k.val, hk⟩ _ _ _).symm
    frame_out
    open_payloads
    pointwise [off4 k, mixd]
    try rfl
  refine step arg6 f _ _ _ (mixAll (arg1.view.read (Elt Ideal) X) (arg6.view.read (Elt Ideal) f)) (arg6.view.read (Elt Ideal) f) k.val 24 8 hk (by omega) (by omega) ((off4 k).2.2.2.2.2.2.2.2.1.trans (by simp)) ?_ ?_
  · intro r l
    refine Eq.trans ?_ (mixAll_eq _ _ 8 ⟨k.val, hk⟩ _ _ _).symm
    frame_out
    open_payloads
    pointwise [off4 k, mixd]
    try rfl
  refine step arg6 f _ _ _ (mixAll (arg1.view.read (Elt Ideal) X) (arg6.view.read (Elt Ideal) f)) (arg6.view.read (Elt Ideal) f) k.val 24 7 hk (by omega) (by omega) ((off4 k).2.2.2.2.2.2.2.1.trans (by simp)) ?_ ?_
  · intro r l
    refine Eq.trans ?_ (mixAll_eq _ _ 7 ⟨k.val, hk⟩ _ _ _).symm
    frame_out
    open_payloads
    pointwise [off4 k, mixd]
    try rfl
  refine step arg6 f _ _ _ (mixAll (arg1.view.read (Elt Ideal) X) (arg6.view.read (Elt Ideal) f)) (arg6.view.read (Elt Ideal) f) k.val 24 6 hk (by omega) (by omega) ((off4 k).2.2.2.2.2.2.1.trans (by simp)) ?_ ?_
  · intro r l
    refine Eq.trans ?_ (mixAll_eq _ _ 6 ⟨k.val, hk⟩ _ _ _).symm
    frame_out
    open_payloads
    pointwise [off4 k, mixd]
    try rfl
  refine step arg6 f _ _ _ (mixAll (arg1.view.read (Elt Ideal) X) (arg6.view.read (Elt Ideal) f)) (arg6.view.read (Elt Ideal) f) k.val 24 5 hk (by omega) (by omega) ((off4 k).2.2.2.2.2.1.trans (by simp)) ?_ ?_
  · intro r l
    refine Eq.trans ?_ (mixAll_eq _ _ 5 ⟨k.val, hk⟩ _ _ _).symm
    frame_out
    open_payloads
    pointwise [off4 k, mixd]
    try rfl
  refine step arg6 f _ _ _ (mixAll (arg1.view.read (Elt Ideal) X) (arg6.view.read (Elt Ideal) f)) (arg6.view.read (Elt Ideal) f) k.val 24 4 hk (by omega) (by omega) ((off4 k).2.2.2.2.1.trans (by simp)) ?_ ?_
  · intro r l
    refine Eq.trans ?_ (mixAll_eq _ _ 4 ⟨k.val, hk⟩ _ _ _).symm
    frame_out
    open_payloads
    pointwise [off4 k, mixd]
    try rfl
  refine step arg6 f _ _ _ (mixAll (arg1.view.read (Elt Ideal) X) (arg6.view.read (Elt Ideal) f)) (arg6.view.read (Elt Ideal) f) k.val 24 3 hk (by omega) (by omega) ((off4 k).2.2.2.1.trans (by simp)) ?_ ?_
  · intro r l
    refine Eq.trans ?_ (mixAll_eq _ _ 3 ⟨k.val, hk⟩ _ _ _).symm
    frame_out
    open_payloads
    pointwise [off4 k, mixd]
    try rfl
  refine step arg6 f _ _ _ (mixAll (arg1.view.read (Elt Ideal) X) (arg6.view.read (Elt Ideal) f)) (arg6.view.read (Elt Ideal) f) k.val 24 2 hk (by omega) (by omega) ((off4 k).2.2.1.trans (by simp)) ?_ ?_
  · intro r l
    refine Eq.trans ?_ (mixAll_eq _ _ 2 ⟨k.val, hk⟩ _ _ _).symm
    frame_out
    open_payloads
    pointwise [off4 k, mixd]
    try rfl
  refine step arg6 f _ _ _ (mixAll (arg1.view.read (Elt Ideal) X) (arg6.view.read (Elt Ideal) f)) (arg6.view.read (Elt Ideal) f) k.val 24 1 hk (by omega) (by omega) ((off4 k).2.1.trans (by simp)) ?_ ?_
  · intro r l
    refine Eq.trans ?_ (mixAll_eq _ _ 1 ⟨k.val, hk⟩ _ _ _).symm
    frame_out
    open_payloads
    pointwise [off4 k, mixd]
    try rfl
  refine step arg6 f _ _ _ (mixAll (arg1.view.read (Elt Ideal) X) (arg6.view.read (Elt Ideal) f)) (arg6.view.read (Elt Ideal) f) k.val 24 0 hk (by omega) (by omega) ((off4 k).1.trans (by simp)) ?_ ?_
  · intro r l
    refine Eq.trans ?_ (mixAll_eq _ _ 0 ⟨k.val, hk⟩ _ _ _).symm
    frame_out
    open_payloads
    pointwise [off4 k, mixd]
    try rfl
  intro a r l
  rw [if_neg (by omega)]
  rfl

/-- What trip `k` of row group 4 carries on: the old maximum and the magnitudes of the twelve mixed blocks of residue `k`. -/
theorem trip_max4 (k : Fin k0_t4_loop.trips) (hk : k.val < 8) (acc : FVec Ideal S8x256 .f32) (f : BufTy.Contents (Elt Ideal) arg6.view.ty)
    (r : Fin 8) (l : Fin 256) (z : EReal) :
    tripR_k0_t4 (F := Ideal) Variants.none c none i arg1 harg1 arg2 harg2 arg3 harg3 arg4 harg4 arg5 harg5 arg6 harg6 v1042 v1044 cst_341 X k acc f (ix2 r l) ≤ z
      ↔ acc (ix2 r l) ≤ z ∧ ∀ j : Fin 12, max (mixd (arg1.view.read (Elt Ideal) X) (arg6.view.read (Elt Ideal) f) j ⟨k.val, hk⟩ ⟨24 + r.val, by omega⟩ l) (-(mixd (arg1.view.read (Elt Ideal) X) (arg6.view.read (Elt Ideal) f) j ⟨k.val, hk⟩ ⟨24 + r.val, by omega⟩ l)) ≤ z := by
  rw [← chain_le z (acc (ix2 r l)) (fun j => (max (mixd (arg1.view.read (Elt Ideal) X) (arg6.view.read (Elt Ideal) f) j ⟨k.val, hk⟩ ⟨24 + r.val, by omega⟩ l) (-(mixd (arg1.view.read (Elt Ideal) X) (arg6.view.read (Elt Ideal) f) j ⟨k.val, hk⟩ ⟨24 + r.val, by omega⟩ l))))]
  refine iff_of_eq (congrArg (· ≤ z) ?_)
  unfold tripR_k0_t4 trip_k0_t4
  dsimp only
  frame_out
  open_payloads
  pointwise [off4 k, mixd]
  try rfl

/-- The state before trip `n` of row group 4: residues below `n` are mixed in the group's eight rows, everything else is as it was; the
    carried maximum is that of the start and the mixed magnitudes so far. -/
theorem loop4 (G : BufTy.Contents (Elt Ideal) arg6.view.ty) (init : FVec Ideal S8x256 .f32) (n : ℕ) (hn : n ≤ 8) :
    (∀ (a : Fin 96) (r : Fin 32) (l : Fin 256),
      arg6.view.read (Elt Ideal) (arg6.view.writes (Elt Ideal) G (st_k0_t4 (F := Ideal) Variants.none c none i arg1 harg1 arg2 harg2 arg3 harg3 arg4 harg4 arg5 harg5 arg6 harg6 v1042 v1044 cst_341 X G init n).2) (ix3 a r l)
      = if a.val % 8 < n ∧ 24 ≤ r.val ∧ r.val < 24 + 8
        then mixAll (arg1.view.read (Elt Ideal) X) (arg6.view.read (Elt Ideal) G) a r l else arg6.view.read (Elt Ideal) G (ix3 a r l))
    ∧ (∀ (r : Fin 8) (l : Fin 256) (z : EReal), (st_k0_t4 (F := Ideal) Variants.none c none i arg1 harg1 arg2 harg2 arg3 harg3 arg4 harg4 arg5 harg5 arg6 harg6 v1042 v1044 cst_341 X G init n).1 (ix2 r l) ≤ z
      ↔ init (ix2 r l) ≤ z ∧ ∀ d : Fin 8, d.val < n → ∀ j : Fin 12, max (mixd (arg1.view.read (Elt Ideal) X) (arg6.view.read (Elt Ideal) G) j d ⟨24 + r.val, by omega⟩ l) (-(mixd (arg1.view.read (Elt Ideal) X) (arg6.view.read (Elt Ideal) G) j d ⟨24 + r.val, by omega⟩ l)) ≤ z) := by
  induction n with
  | zero =>
    refine ⟨fun a r l => ?_, fun r l z => ?_⟩
    · rw [if_neg (by omega)]; rfl
    · rw [st_k0_t4_zero]
      exact ⟨fun h => ⟨h, fun d hd => absurd hd (by omega)⟩, fun h => h.1⟩
  | succ n ih =>
    obtain ⟨ih1, ih2⟩ := ih (by omega)
    have hs := st_k0_t4_succ (F := Ideal) Variants.none c none i arg1 harg1 arg2 harg2 arg3 harg3 arg4 harg4 arg5 harg5 arg6 harg6 v1042 v1044 cst_341 X G init ⟨n, by rw [trips4]; omega⟩
    have key : ∀ (j : Fin 12) (d : Fin 8) (r : Fin 32) (l : Fin 256), d.val = n →
        mixd (arg1.view.read (Elt Ideal) X) (arg6.view.read (Elt Ideal) (arg6.view.writes (Elt Ideal) G (st_k0_t4 (F := Ideal) Variants.none c none i arg1 harg1 arg2 harg2 arg3 harg3 arg4 harg4 arg5 harg5 arg6 harg6 v1042 v1044 cst_341 X G init n).2)) j d r l
          = mixd (arg1.view.read (Elt Ideal) X) (arg6.view.read (Elt Ideal) G) j d r l := by
      intro j d r l hd
      exact mixd_congr _ _ _ _ _ _ _ fun a ha => by rw [ih1, if_neg (by omega)]
    dsimp only at hs
    refine ⟨fun a r l => ?_, fun r l z => ?_⟩
    · rw [hs]
      dsimp only
      rw [View.writes_append, trip_read4 _ _ _ _ _ _ _ _ _ _ _ _ _ _ _ _ _ _ _ (by show n < 8; omega), ih1]
      by_cases h : a.val % 8 = n ∧ 24 ≤ r.val ∧ r.val < 24 + 8
      · rw [if_pos (by show a.val % 8 = n ∧ _; omega), if_pos (by omega)]
        exact key _ _ _ _ h.1
      · rw [if_neg (by show ¬ (a.val % 8 = n ∧ _); omega)]
        exact if_congr (by omega) rfl rfl
    · rw [hs]
      dsimp only
      rw [trip_max4 _ _ _ _ _ _ _ _ _ _ _ _ _ _ _ _ _ _ _ (by show n < 8; omega), ih2]
      constructor
      · rintro ⟨⟨h1, h2⟩, h3⟩
        refine ⟨h1, fun d hd j => ?_⟩
        by_cases e : d.val = n
        · have := h3 j
          rw [key _ _ _ _ rfl] at this
          have e' : (⟨n, by omega⟩ : Fin 8) = d := Fin.ext e.symm
          rw [e'] at this
          exact this
        · exact h2 d (by omega) j
      · rintro ⟨h1, h2⟩
        refine ⟨⟨h1, fun d hd => h2 d (by omega)⟩, fun j => ?_⟩
        rw [key _ _ _ _ rfl]
        exact h2 ⟨n, by omega⟩ (by show n < n + 1; omega) j
end

end Cert.RotateIdeal.Hand

end
-- ==== Proof.RotateStage.lean ====
module

public import proofs.«01_k».proof.Proof.Gen.RotateIdeal.Value
public import Idealize.ShloMosaic.Lib.Pointwise
public import Idealize.ShloMosaic.Lib.Pipeline.ValueKit
public import Idealize.ShloMosaic.Lib.Pipeline.ReadBack
public import Idealize.ShloMosaic.Lib.WritesUnit
public import proofs.«01_k».proof.Proof.RotateLoop1
public import proofs.«01_k».proof.Proof.RotateLoop2
public import proofs.«01_k».proof.Proof.RotateLoop3
public import proofs.«01_k».proof.Proof.RotateLoop4

@[expose] public section

set_option maxRecDepth 16384

noncomputable section

namespace Cert.RotateIdeal.Hand

open Cert.RotateIdeal Cert.RotateIdeal.Gen
open Idealize.ShloMosaic Idealize.ShloMosaic.TcCoe Idealize.SL.Sem

/-- The scratch after one row group is mixed: the eight rows from `lo` mixed, the others as they were. -/
def mixRows (H : S12x12.Idx → EReal) (lo : ℕ) (S : S96x32x256.Idx → EReal) : S96x32x256.Idx → EReal :=
  fun y => if lo ≤ (y 1).val ∧ (y 1).val < lo + 8 then mixAll H S (y 0) (y 1) (y 2) else S y

theorem mixRows_ix3 (H : S12x12.Idx → EReal) (lo : ℕ) (S : S96x32x256.Idx → EReal) (a : Fin 96) (r : Fin 32) (l : Fin 256) :
    mixRows H lo S (ix3 a r l) = if lo ≤ r.val ∧ r.val < lo + 8 then mixAll H S a r l else S (ix3 a r l) := rfl

/-- Mixing a row depends on that row of the scratch only. -/
theorem mixAll_congr (H : S12x12.Idx → EReal) (S S' : S96x32x256.Idx → EReal) (a : Fin 96) (r : Fin 32) (l : Fin 256)
    (h : ∀ a : Fin 96, S (ix3 a r l) = S' (ix3 a r l)) : mixAll H S a r l = mixAll H S' a r l :=
  mixd_congr _ _ _ _ _ _ _ fun a _ => h a

/-- The scratch once all four row groups are mixed. -/
theorem mixRows_all (H : S12x12.Idx → EReal) (S : S96x32x256.Idx → EReal) (a : Fin 96) (r : Fin 32) (l : Fin 256) :
    mixRows H 24 (mixRows H 16 (mixRows H 8 (mixRows H 0 S))) (ix3 a r l) = mixAll H S a r l := by
  have hr := r.isLt
  rcases (by omega : r.val < 8 ∨ (8 ≤ r.val ∧ r.val < 16) ∨ (16 ≤ r.val ∧ r.val < 24) ∨ 24 ≤ r.val) with h | h | h | h
  · rw [mixRows_ix3, if_neg (by omega), mixRows_ix3, if_neg (by omega), mixRows_ix3, if_neg (by omega), mixRows_ix3, if_pos (by omega)]
  · rw [mixRows_ix3, if_neg (by omega), mixRows_ix3, if_neg (by omega), mixRows_ix3, if_pos (by omega)]
    exact mixAll_congr _ _ _ _ _ _ fun a => by rw [mixRows_ix3, if_neg (by omega)]
  · rw [mixRows_ix3, if_neg (by omega), mixRows_ix3, if_pos (by omega)]
    exact mixAll_congr _ _ _ _ _ _ fun a => by rw [mixRows_ix3, if_neg (by omega), mixRows_ix3, if_neg (by omega)]
  · rw [mixRows_ix3, if_pos (by omega)]
    exact mixAll_congr _ _ _ _ _ _ fun a => by rw [mixRows_ix3, if_neg (by omega), mixRows_ix3, if_neg (by omega), mixRows_ix3, if_neg (by omega)]

/-- The largest magnitude of the mixed row `r`. -/
def amax (H : S12x12.Idx → EReal) (S : S96x32x256.Idx → EReal) (r : Fin 32) : EReal :=
  ⨆ a : Fin 96, ⨆ l : Fin 256, max (mixAll H S a r l) (-(mixAll H S a r l))

theorem nonneg_abs (x : EReal) : 0 ≤ max x (-x) := by
  rcases le_total 0 x with h | h
  · exact le_max_of_le_left h
  · exact le_max_of_le_right (EReal.neg_nonneg.mpr h)

/-- A value that lies below a bound exactly when zero and all the row's mixed magnitudes do is the row's largest magnitude. -/
theorem eq_amax (H : S12x12.Idx → EReal) (S : S96x32x256.Idx → EReal) (r : Fin 32) (x : EReal)
    (h : ∀ z, x ≤ z ↔ ∀ l : Fin 256, 0 ≤ z ∧ ∀ d : Fin 8, d.val < 8 → ∀ j : Fin 12, max (mixd H S j d r l) (-(mixd H S j d r l)) ≤ z) : x = amax H S r := by
  refine eq_of_forall_ge_iff fun z => ?_
  rw [h]
  unfold amax
  simp only [iSup_le_iff]
  constructor
  · intro hz a l
    exact (hz l).2 _ (by show a.val % 8 < 8; omega) _
  · intro hz l
    refine ⟨le_trans (nonneg_abs _) (hz 0 l), fun d _ j => ?_⟩
    have := hz ⟨8 * j.val + d.val, by omega⟩ l
    rwa [mixAll_eq] at this

theorem trips1' : Scf.trips k0_t1_loop.lb k0_t1_loop.ub k0_t1_loop.st = 8 := by decide +kernel

/-- What the scratch holds after row group 1. -/
theorem stage1 (c : Dev nD) (i : grid0.Coords) (arg1 : Memref sig .tc .smem S12x12 .f32) (harg1 : arg1.IsWhole) (arg2 : Memref sig .tc .vmem S32x24576 .bf16) (harg2 : arg2.IsWhole) (arg3 : Memref sig .tc .vmem S256x256 .bf16) (harg3 : arg3.IsWhole) (arg4 : Memref sig .tc .vmem S32x24576 .i8) (harg4 : arg4.IsWhole) (arg5 : Memref sig .tc .vmem S32x128 .f32) (harg5 : arg5.IsWhole) (arg6 : Memref sig .tc .vmem S96x32x256 .f32) (harg6 : arg6.IsWhole) (v993 v995 : FVec Ideal S32x256 .f32) (X : BufTy.Contents (Elt Ideal) arg1.view.ty)
    (L : List (View.Piece (Elt Ideal) S96x32x256 .f32)) (init : FVec Ideal S8x256 .f32) :
    View.canon ((st_k0_t1 (F := Ideal) Variants.none c none i arg1 harg1 arg2 harg2 arg3 harg3 arg4 harg4 arg5 harg5 arg6 harg6 v993 v995 X (arg6.view.writes (Elt Ideal) arg6.view.junk L) init (Scf.trips k0_t1_loop.lb k0_t1_loop.ub k0_t1_loop.st)).2 ++ L) = mixRows (arg1.view.read (Elt Ideal) X) 0 (View.canon L) := by
  funext y
  idx_vars y
  have h := (loop1 c i arg1 harg1 arg2 harg2 arg3 harg3 arg4 harg4 arg5 harg5 arg6 harg6 v993 v995 X (arg6.view.writes (Elt Ideal) arg6.view.junk L) init 8 le_rfl).1 y0 y1 y2
  rw [← View.writes_append, View.read_writes_junk_eq_canon, View.read_writes_junk_eq_canon] at h
  rw [trips1', h, mixRows_ix3]
  exact if_congr (by omega) rfl rfl

/-- The largest magnitude row group 1 hands on, lane by lane. -/
theorem carry1 (c : Dev nD) (i : grid0.Coords) (arg1 : Memref sig .tc .smem S12x12 .f32) (harg1 : arg1.IsWhole) (arg2 : Memref sig .tc .vmem S32x24576 .bf16) (harg2 : arg2.IsWhole) (arg3 : Memref sig .tc .vmem S256x256 .bf16) (harg3 : arg3.IsWhole) (arg4 : Memref sig .tc .vmem S32x24576 .i8) (harg4 : arg4.IsWhole) (arg5 : Memref sig .tc .vmem S32x128 .f32) (harg5 : arg5.IsWhole) (arg6 : Memref sig .tc .vmem S96x32x256 .f32) (harg6 : arg6.IsWhole) (v993 v995 : FVec Ideal S32x256 .f32) (X : BufTy.Contents (Elt Ideal) arg1.view.ty)
    (L : List (View.Piece (Elt Ideal) S96x32x256 .f32)) (init : FVec Ideal S8x256 .f32) (r : Fin 8) (l : Fin 256) (z : EReal) :
    (st_k0_t1 (F := Ideal) Variants.none c none i arg1 harg1 arg2 harg2 arg3 harg3 arg4 harg4 arg5 harg5 arg6 harg6 v993 v995 X (arg6.view.writes (Elt Ideal) arg6.view.junk L) init (Scf.trips k0_t1_loop.lb k0_t1_loop.ub k0_t1_loop.st)).1 (ix2 r l) ≤ z
      ↔ init (ix2 r l) ≤ z ∧ ∀ d : Fin 8, d.val < 8 → ∀ j : Fin 12, max (mixd (arg1.view.read (Elt Ideal) X) (View.canon L) j d ⟨0 + r.val, by omega⟩ l) (-(mixd (arg1.view.read (Elt Ideal) X) (View.canon L) j d ⟨0 + r.val, by omega⟩ l)) ≤ z := by
  have h := (loop1 c i arg1 harg1 arg2 harg2 arg3 harg3 arg4 harg4 arg5 harg5 arg6 harg6 v993 v995 X (arg6.view.writes (Elt Ideal) arg6.view.junk L) init 8 le_rfl).2 r l z
  rw [View.read_writes_junk_eq_canon] at h
  rw [trips1']
  exact h

theorem trips2' : Scf.trips k0_t2_loop.lb k0_t2_loop.ub k0_t2_loop.st = 8 := by decide +kernel

/-- What the scratch holds after row group 2. -/
theorem stage2 (c : Dev nD) (i : grid0.Coords) (arg1 : Memref sig .tc .smem S12x12 .f32) (harg1 : arg1.IsWhole) (arg2 : Memref sig .tc .vmem S32x24576 .bf16) (harg2 : arg2.IsWhole) (arg3 : Memref sig .tc .vmem S256x256 .bf16) (harg3 : arg3.IsWhole) (arg4 : Memref sig .tc .vmem S32x24576 .i8) (harg4 : arg4.IsWhole) (arg5 : Memref sig .tc .vmem S32x128 .f32) (harg5 : arg5.IsWhole) (arg6 : Memref sig .tc .vmem S96x32x256 .f32) (harg6 : arg6.IsWhole) (v993 v995 : FVec Ideal S32x256 .f32) (X : BufTy.Contents (Elt Ideal) arg1.view.ty)
    (L : List (View.Piece (Elt Ideal) S96x32x256 .f32)) (init : FVec Ideal S8x256 .f32) :
    View.canon ((st_k0_t2 (F := Ideal) Variants.none c none i arg1 harg1 arg2 harg2 arg3 harg3 arg4 harg4 arg5 harg5 arg6 harg6 v993 v995 X (arg6.view.writes (Elt Ideal) arg6.view.junk L) init (Scf.trips k0_t2_loop.lb k0_t2_loop.ub k0_t2_loop.st)).2 ++ L) = mixRows (arg1.view.read (Elt Ideal) X) 8 (View.canon L) := by
  funext y
  idx_vars y
  have h := (loop2 c i arg1 harg1 arg2 harg2 arg3 harg3 arg4 harg4 arg5 harg5 arg6 harg6 v993 v995 X (arg6.view.writes (Elt Ideal) arg6.view.junk L) init 8 le_rfl).1 y0 y1 y2
  rw [← View.writes_append, View.read_writes_junk_eq_canon, View.read_writes_junk_eq_canon] at h
  rw [trips2', h, mixRows_ix3]
  exact if_congr (by omega) rfl rfl

/-- The largest magnitude row group 2 hands on, lane by lane. -/
theorem carry2 (c : Dev nD) (i : grid0.Coords) (arg1 : Memref sig .tc .smem S12x12 .f32) (harg1 : arg1.IsWhole) (arg2 : Memref sig .tc .vmem S32x24576 .bf16) (harg2 : arg2.IsWhole) (arg3 : Memref sig .tc .vmem S256x256 .bf16) (harg3 : arg3.IsWhole) (arg4 : Memref sig .tc .vmem S32x24576 .i8) (harg4 : arg4.IsWhole) (arg5 : Memref sig .tc .vmem S32x128 .f32) (harg5 : arg5.IsWhole) (arg6 : Memref sig .tc .vmem S96x32x256 .f32) (harg6 : arg6.IsWhole) (v993 v995 : FVec Ideal S32x256 .f32) (X : BufTy.Contents (Elt Ideal) arg1.view.ty)
    (L : List (View.Piece (Elt Ideal) S96x32x256 .f32)) (init : FVec Ideal S8x256 .f32) (r : Fin 8) (l : Fin 256) (z : EReal) :
    (st_k0_t2 (F := Ideal) Variants.none c none i arg1 harg1 arg2 harg2 arg3 harg3 arg4 harg4 arg5 harg5 arg6 harg6 v993 v995 X (arg6.view.writes (Elt Ideal) arg6.view.junk L) init (Scf.trips k0_t2_loop.lb k0_t2_loop.ub k0_t2_loop.st)).1 (ix2 r l) ≤ z
      ↔ init (ix2 r l) ≤ z ∧ ∀ d : Fin 8, d.val < 8 → ∀ j : Fin 12, max (mixd (arg1.view.read (Elt Ideal) X) (View.canon L) j d ⟨8 + r.val, by omega⟩ l) (-(mixd (arg1.view.read (Elt Ideal) X) (View.canon L) j d ⟨8 + r.val, by omega⟩ l)) ≤ z := by
  have h := (loop2 c i arg1 harg1 arg2 harg2 arg3 harg3 arg4 harg4 arg5 harg5 arg6 harg6 v993 v995 X (arg6.view.writes (Elt Ideal) arg6.view.junk L) init 8 le_rfl).2 r l z
  rw [View.read_writes_junk_eq_canon] at h
  rw [trips2']
  exact h

theorem trips3' : Scf.trips k0_t3_loop.lb k0_t3_loop.ub k0_t3_loop.st = 8 := by decide +kernel

/-- What the scratch holds after row group 3. -/
theorem stage3 (c : Dev nD) (i : grid0.Coords) (arg1 : Memref sig .tc .smem S12x12 .f32) (harg1 : arg1.IsWhole) (arg2 : Memref sig .tc .vmem S32x24576 .bf16) (harg2 : arg2.IsWhole) (arg3 : Memref sig .tc .vmem S256x256 .bf16) (harg3 : arg3.IsWhole) (arg4 : Memref sig .tc .vmem S32x24576 .i8) (harg4 : arg4.IsWhole) (arg5 : Memref sig .tc .vmem S32x128 .f32) (harg5 : arg5.IsWhole) (arg6 : Memref sig .tc .vmem S96x32x256 .f32) (harg6 : arg6.IsWhole) (v1042 : FVec Ideal S8x1 .f32) (v1044 : IVec S8x1 1) (cst_341 : Ideal .f32) (X : BufTy.Contents (Elt Ideal) arg1.view.ty)
    (L : List (View.Piece (Elt Ideal) S96x32x256 .f32)) (init : FVec Ideal S8x256 .f32) :
    View.canon ((st_k0_t3 (F := Ideal) Variants.none c none i arg1 harg1 arg2 harg2 arg3 harg3 arg4 harg4 arg5 harg5 arg6 harg6 v1042 v1044 cst_341 X (arg6.view.writes (Elt Ideal) arg6.view.junk L) init (Scf.trips k0_t3_loop.lb k0_t3_loop.ub k0_t3_loop.st)).2 ++ L) = mixRows (arg1.view.read (Elt Ideal) X) 16 (View.canon L) := by
  funext y
  idx_vars y
  have h := (loop3 c i arg1 harg1 arg2 harg2 arg3 harg3 arg4 harg4 arg5 harg5 arg6 harg6 v1042 v1044 cst_341 X (arg6.view.writes (Elt Ideal) arg6.view.junk L) init 8 le_rfl).1 y0 y1 y2
  rw [← View.writes_append, View.read_writes_junk_eq_canon, View.read_writes_junk_eq_canon] at h
  rw [trips3', h, mixRows_ix3]
  exact if_congr (by omega) rfl rfl

/-- The largest magnitude row group 3 hands on, lane by lane. -/
theorem carry3 (c : Dev nD) (i : grid0.Coords) (arg1 : Memref sig .tc .smem S12x12 .f32) (harg1 : arg1.IsWhole) (arg2 : Memref sig .tc .vmem S32x24576 .bf16) (harg2 : arg2.IsWhole) (arg3 : Memref sig .tc .vmem S256x256 .bf16) (harg3 : arg3.IsWhole) (arg4 : Memref sig .tc .vmem S32x24576 .i8) (harg4 : arg4.IsWhole) (arg5 : Memref sig .tc .vmem S32x128 .f32) (harg5 : arg5.IsWhole) (arg6 : Memref sig .tc .vmem S96x32x256 .f32) (harg6 : arg6.IsWhole) (v1042 : FVec Ideal S8x1 .f32) (v1044 : IVec S8x1 1) (cst_341 : Ideal .f32) (X : BufTy.Contents (Elt Ideal) arg1.view.ty)
    (L : List (View.Piece (Elt Ideal) S96x32x256 .f32)) (init : FVec Ideal S8x256 .f32) (r : Fin 8) (l : Fin 256) (z : EReal) :
    (st_k0_t3 (F := Ideal) Variants.none c none i arg1 harg1 arg2 harg2 arg3 harg3 arg4 harg4 arg5 harg5 arg6 harg6 v1042 v1044 cst_341 X (arg6.view.writes (Elt Ideal) arg6.view.junk L) init (Scf.trips k0_t3_loop.lb k0_t3_loop.ub k0_t3_loop.st)).1 (ix2 r l) ≤ z
      ↔ init (ix2 r l) ≤ z ∧ ∀ d : Fin 8, d.val < 8 → ∀ j : Fin 12, max (mixd (arg1.view.read (Elt Ideal) X) (View.canon L) j d ⟨16 + r.val, by omega⟩ l) (-(mixd (arg1.view.read (Elt Ideal) X) (View.canon L) j d ⟨16 + r.val, by omega⟩ l)) ≤ z := by
  have h := (loop3 c i arg1 harg1 arg2 harg2 arg3 harg3 arg4 harg4 arg5 harg5 arg6 harg6 v1042 v1044 cst_341 X (arg6.view.writes (Elt Ideal) arg6.view.junk L) init 8 le_rfl).2 r l z
  rw [View.read_writes_junk_eq_canon] at h
  rw [trips3']
  exact h

theorem trips4' : Scf.trips k0_t4_loop.lb k0_t4_loop.ub k0_t4_loop.st = 8 := by decide +kernel

/-- What the scratch holds after row group 4. -/
theorem stage4 (c : Dev nD) (i : grid0.Coords) (arg1 : Memref sig .tc .smem S12x12 .f32) (harg1 : arg1.IsWhole) (arg2 : Memref sig .tc .vmem S32x24576 .bf16) (harg2 : arg2.IsWhole) (arg3 : Memref sig .tc .vmem S256x256 .bf16) (harg3 : arg3.IsWhole) (arg4 : Memref sig .tc .vmem S32x24576 .i8) (harg4 : arg4.IsWhole) (arg5 : Memref sig .tc .vmem S32x128 .f32) (harg5 : arg5.IsWhole) (arg6 : Memref sig .tc .vmem S96x32x256 .f32) (harg6 : arg6.IsWhole) (v1042 : FVec Ideal S8x1 .f32) (v1044 : IVec S8x1 1) (cst_341 : Ideal .f32) (X : BufTy.Contents (Elt Ideal) arg1.view.ty)
    (L : List (View.Piece (Elt Ideal) S96x32x256 .f32)) (init : FVec Ideal S8x256 .f32) :
    View.canon ((st_k0_t4 (F := Ideal) Variants.none c none i arg1 harg1 arg2 harg2 arg3 harg3 arg4 harg4 arg5 harg5 arg6 harg6 v1042 v1044 cst_341 X (arg6.view.writes (Elt Ideal) arg6.view.junk L) init (Scf.trips k0_t4_loop.lb k0_t4_loop.ub k0_t4_loop.st)).2 ++ L) = mixRows (arg1.view.read (Elt Ideal) X) 24 (View.canon L) := by
  funext y
  idx_vars y
  have h := (loop4 c i arg1 harg1 arg2 harg2 arg3 harg3 arg4 harg4 arg5 harg5 arg6 harg6 v1042 v1044 cst_341 X (arg6.view.writes (Elt Ideal) arg6.view.junk L) init 8 le_rfl).1 y0 y1 y2
  rw [← View.writes_append, View.read_writes_junk_eq_canon, View.read_writes_junk_eq_canon] at h
  rw [trips4', h, mixRows_ix3]
  exact if_congr (by omega) rfl rfl

/-- The largest magnitude row group 4 hands on, lane by lane. -/
theorem carry4 (c : Dev nD) (i : grid0.Coords) (arg1 : Memref sig .tc .smem S12x12 .f32) (harg1 : arg1.IsWhole) (arg2 : Memref sig .tc .vmem S32x24576 .bf16) (harg2 : arg2.IsWhole) (arg3 : Memref sig .tc .vmem S256x256 .bf16) (harg3 : arg3.IsWhole) (arg4 : Memref sig .tc .vmem S32x24576 .i8) (harg4 : arg4.IsWhole) (arg5 : Memref sig .tc .vmem S32x128 .f32) (harg5 : arg5.IsWhole) (arg6 : Memref sig .tc .vmem S96x32x256 .f32) (harg6 : arg6.IsWhole) (v1042 : FVec Ideal S8x1 .f32) (v1044 : IVec S8x1 1) (cst_341 : Ideal .f32) (X : BufTy.Contents (Elt Ideal) arg1.view.ty)
    (L : List (View.Piece (Elt Ideal) S96x32x256 .f32)) (init : FVec Ideal S8x256 .f32) (r : Fin 8) (l : Fin 256) (z : EReal) :
    (st_k0_t4 (F := Ideal) Variants.none c none i arg1 harg1 arg2 harg2 arg3 harg3 arg4 harg4 arg5 harg5 arg6 harg6 v1042 v1044 cst_341 X (arg6.view.writes (Elt Ideal) arg6.view.junk L) init (Scf.trips k0_t4_loop.lb k0_t4_loop.ub k0_t4_loop.st)).1 (ix2 r l) ≤ z
      ↔ init (ix2 r l) ≤ z ∧ ∀ d : Fin 8, d.val < 8 → ∀ j : Fin 12, max (mixd (arg1.view.read (Elt Ideal) X) (View.canon L) j d ⟨24 + r.val, by omega⟩ l) (-(mixd (arg1.view.read (Elt Ideal) X) (View.canon L) j d ⟨24 + r.val, by omega⟩ l)) ≤ z := by
  have h := (loop4 c i arg1 harg1 arg2 harg2 arg3 harg3 arg4 harg4 arg5 harg5 arg6 harg6 v1042 v1044 cst_341 X (arg6.view.writes (Elt Ideal) arg6.view.junk L) init 8 le_rfl).2 r l z
  rw [View.read_writes_junk_eq_canon] at h
  rw [trips4']
  exact h

end Cert.RotateIdeal.Hand

end
-- ==== Proof.RotateGroup.lean ====
module

public import proofs.«01_k».proof.Proof.Gen.RotateIdeal.Value
public import Idealize.ShloMosaic.Lib.Pointwise
public import Idealize.ShloMosaic.Lib.Pipeline.ValueKit
public import Idealize.ShloMosaic.Lib.Pipeline.ReadBack
public import Idealize.ShloMosaic.Lib.WritesUnit

@[expose] public section

set_option maxRecDepth 16384

noncomputable section

namespace Cert.RotateIdeal.Hand

open Cert.RotateIdeal Cert.RotateIdeal.Gen
open Idealize.ShloMosaic Idealize.ShloMosaic.TcCoe Idealize.SL.Sem

/-- One store of a whole half-transformed block at place `j` of the scratch. -/
theorem step0 (arg6 : Memref sig .tc .vmem S96x32x256 .f32) (f : BufTy.Contents (Elt Ideal) arg6.view.ty) {off : Fin 3 → ℕ} (inb : ∀ a, off a + (![1, 32, 256] : Fin 3 → ℕ) a ≤ S96x32x256.size a)
    (w : S1x32x256.Idx → EReal) (L : List (View.Piece (Elt Ideal) S96x32x256 .f32))
    (M : Fin 96 → Fin 32 → Fin 256 → EReal) (j : ℕ) (hj : j < 96) (hoff : off = ![j, 0, 0])
    (hw : ∀ (r : Fin 32) (l : Fin 256), w (ix3 0 r l) = M ⟨j, hj⟩ r l)
    (hL : ∀ (a : Fin 96) (r : Fin 32) (l : Fin 256), a.val < j → arg6.view.read (Elt Ideal) (arg6.view.writes (Elt Ideal) f L) (ix3 a r l) = M a r l)
    (a : Fin 96) (r : Fin 32) (l : Fin 256) (ha : a.val < j + 1) :
    arg6.view.read (Elt Ideal) (arg6.view.writes (Elt Ideal) f ((⟨Rect.unit off ![1, 32, 256] inb, w⟩ : View.Piece (Elt Ideal) S96x32x256 .f32) :: L)) (ix3 a r l)
      = M a r l := by
  by_cases h : a.val = j
  · obtain rfl : a = ⟨j, hj⟩ := Fin.ext h
    refine (View.read_writes_cons_unit_of_mem (off' := ![j, 0, 0]) arg6.view f inb w L _ (ix3 0 r l) hoff ?_).trans (hw _ _)
    intro ax
    match ax with
    | ⟨0, _⟩ => show j = j + 0; omega
    | ⟨1, _⟩ => show r.val = 0 + r.val; omega
    | ⟨2, _⟩ => show l.val = 0 + l.val; omega
  · refine (View.read_writes_cons_unit_of_not_mem (off' := ![j, 0, 0]) arg6.view f inb w L _ hoff 0 ?_).trans (hL a r l (by omega))
    show a.val < j ∨ j + 1 ≤ a.val
    omega

/-- The product of eight 32-row pieces, laid one under the other, with the matrix `W`, seen as eight blocks of 32 rows. -/
def grp (v0 v1 v2 v3 v4 v5 v6 v7 : Vec Ideal S32x256 .bf16) (W : Vec Ideal S256x256 .bf16) : FVec Ideal S8x32x256 .f32 :=
  shapeCast S8x32x256 (matmul dot_S256x256_S256x256_S256x256_1_0_0_1_n_n none
    (concatenate S256x256 0 [⟨S32x256, shapeCast S32x256 v0 shapeCasts_S32x256_S32x256⟩, ⟨S32x256, shapeCast S32x256 v1 shapeCasts_S32x256_S32x256⟩, ⟨S32x256, shapeCast S32x256 v2 shapeCasts_S32x256_S32x256⟩, ⟨S32x256, shapeCast S32x256 v3 shapeCasts_S32x256_S32x256⟩, ⟨S32x256, shapeCast S32x256 v4 shapeCasts_S32x256_S32x256⟩, ⟨S32x256, shapeCast S32x256 v5 shapeCasts_S32x256_S32x256⟩, ⟨S32x256, shapeCast S32x256 v6 shapeCasts_S32x256_S32x256⟩, ⟨S32x256, shapeCast S32x256 v7 shapeCasts_S32x256_S32x256⟩] concatenates_S32x256_S32x256_S32x256_S32x256_S32x256_S32x256_S32x256_S32x256_S256x256_d0 : FVec Ideal S256x256 .bf16)
    (shapeCast S256x256 W shapeCasts_S256x256_S256x256 : FVec Ideal S256x256 .bf16) (constant S256x256 .f32 0x00000000#32)) shapeCasts_S256x256_S8x32x256

/-- A row of one piece times the matrix. -/
def rowDot (v : S32x256.Idx → EReal) (W : S256x256.Idx → EReal) (r : Fin 32) (l : Fin 256) : EReal := ∑ p : Fin 256, v (ix2 r p) * W (ix2 p l)

theorem grp_def (v0 v1 v2 v3 v4 v5 v6 v7 : Vec Ideal S32x256 .bf16) (W : Vec Ideal S256x256 .bf16) : grp v0 v1 v2 v3 v4 v5 v6 v7 W = shapeCast S8x32x256 (matmul dot_S256x256_S256x256_S256x256_1_0_0_1_n_n none
    (concatenate S256x256 0 [⟨S32x256, shapeCast S32x256 v0 shapeCasts_S32x256_S32x256⟩, ⟨S32x256, shapeCast S32x256 v1 shapeCasts_S32x256_S32x256⟩, ⟨S32x256, shapeCast S32x256 v2 shapeCasts_S32x256_S32x256⟩, ⟨S32x256, shapeCast S32x256 v3 shapeCasts_S32x256_S32x256⟩, ⟨S32x256, shapeCast S32x256 v4 shapeCasts_S32x256_S32x256⟩, ⟨S32x256, shapeCast S32x256 v5 shapeCasts_S32x256_S32x256⟩, ⟨S32x256, shapeCast S32x256 v6 shapeCasts_S32x256_S32x256⟩, ⟨S32x256, shapeCast S32x256 v7 shapeCasts_S32x256_S32x256⟩] concatenates_S32x256_S32x256_S32x256_S32x256_S32x256_S32x256_S32x256_S32x256_S256x256_d0 : FVec Ideal S256x256 .bf16)
    (shapeCast S256x256 W shapeCasts_S256x256_S256x256 : FVec Ideal S256x256 .bf16) (constant S256x256 .f32 0x00000000#32)) shapeCasts_S256x256_S8x32x256 := rfl

theorem grp_0 (v0 v1 v2 v3 v4 v5 v6 v7 : Vec Ideal S32x256 .bf16) (W : Vec Ideal S256x256 .bf16) (r : Fin 32) (l : Fin 256) :
    grp v0 v1 v2 v3 v4 v5 v6 v7 W (ix3 0 r l) = rowDot v0 W r l := by
  unfold grp rowDot
  pointwise []

theorem grp_1 (v0 v1 v2 v3 v4 v5 v6 v7 : Vec Ideal S32x256 .bf16) (W : Vec Ideal S256x256 .bf16) (r : Fin 32) (l : Fin 256) :
    grp v0 v1 v2 v3 v4 v5 v6 v7 W (ix3 1 r l) = rowDot v1 W r l := by
  unfold grp rowDot
  pointwise []

theorem grp_2 (v0 v1 v2 v3 v4 v5 v6 v7 : Vec Ideal S32x256 .bf16) (W : Vec Ideal S256x256 .bf16) (r : Fin 32) (l : Fin 256) :
    grp v0 v1 v2 v3 v4 v5 v6 v7 W (ix3 2 r l) = rowDot v2 W r l := by
  unfold grp rowDot
  pointwise []
  refine Finset.sum_congr rfl fun p _ => ?_
  rw [dif_neg (by omega)]
  rw [dif_neg (by omega)]
  rw [dif_pos (by omega)]
  rw [show (⟨64 + r.val - 32 - 32, by omega⟩ : Fin 32) = r from Fin.ext (by show 64 + r.val - 32 - 32 = r.val; omega)]

theorem grp_3 (v0 v1 v2 v3 v4 v5 v6 v7 : Vec Ideal S32x256 .bf16) (W : Vec Ideal S256x256 .bf16) (r : Fin 32) (l : Fin 256) :
    grp v0 v1 v2 v3 v4 v5 v6 v7 W (ix3 3 r l) = rowDot v3 W r l := by
  unfold grp rowDot
  pointwise []
  refine Finset.sum_congr rfl fun p _ => ?_
  rw [dif_neg (by omega)]
  rw [dif_neg (by omega)]
  rw [dif_neg (by omega)]
  rw [dif_pos (by omega)]
  rw [show (⟨96 + r.val - 32 - 32 - 32, by omega⟩ : Fin 32) = r from Fin.ext (by show 96 + r.val - 32 - 32 - 32 = r.val; omega)]

theorem grp_4 (v0 v1 v2 v3 v4 v5 v6 v7 : Vec Ideal S32x256 .bf16) (W : Vec Ideal S256x256 .bf16) (r : Fin 32) (l : Fin 256) :
    grp v0 v1 v2 v3 v4 v5 v6 v7 W (ix3 4 r l) = rowDot v4 W r l := by
  unfold grp rowDot
  pointwise []
  refine Finset.sum_congr rfl fun p _ => ?_
  rw [dif_neg (by omega)]
  rw [dif_neg (by omega)]
  rw [dif_neg (by omega)]
  rw [dif_neg (by omega)]
  rw [dif_pos (by omega)]
  rw [show (⟨128 + r.val - 32 - 32 - 32 - 32, by omega⟩ : Fin 32) = r from Fin.ext (by show 128 + r.val - 32 - 32 - 32 - 32 = r.val; omega)]

theorem grp_5 (v0 v1 v2 v3 v4 v5 v6 v7 : Vec Ideal S32x256 .bf16) (W : Vec Ideal S256x256 .bf16) (r : Fin 32) (l : Fin 256) :
    grp v0 v1 v2 v3 v4 v5 v6 v7 W (ix3 5 r l) = rowDot v5 W r l := by
  unfold grp rowDot
  pointwise []
  refine Finset.sum_congr rfl fun p _ => ?_
  rw [dif_neg (by omega)]
  rw [dif_neg (by omega)]
  rw [dif_neg (by omega)]
  rw [dif_neg (by omega)]
  rw [dif_neg (by omega)]
  rw [dif_pos (by omega)]
  rw [show (⟨160 + r.val - 32 - 32 - 32 - 32 - 32, by omega⟩ : Fin 32) = r from Fin.ext (by show 160 + r.val - 32 - 32 - 32 - 32 - 32 = r.val; omega)]

theorem grp_6 (v0 v1 v2 v3 v4 v5 v6 v7 : Vec Ideal S32x256 .bf16) (W : Vec Ideal S256x256 .bf16) (r : Fin 32) (l : Fin 256) :
    grp v0 v1 v2 v3 v4 v5 v6 v7 W (ix3 6 r l) = rowDot v6 W r l := by
  unfold grp rowDot
  pointwise []
  refine Finset.sum_congr rfl fun p _ => ?_
  rw [dif_neg (by omega)]
  rw [dif_neg (by omega)]
  rw [dif_neg (by omega)]
  rw [dif_neg (by omega)]
  rw [dif_neg (by omega)]
  rw [dif_neg (by omega)]
  rw [dif_pos (by omega)]
  rw [show (⟨192 + r.val - 32 - 32 - 32 - 32 - 32 - 32, by omega⟩ : Fin 32) = r from Fin.ext (by show 192 + r.val - 32 - 32 - 32 - 32 - 32 - 32 = r.val; omega)]

theorem grp_7 (v0 v1 v2 v3 v4 v5 v6 v7 : Vec Ideal S32x256 .bf16) (W : Vec Ideal S256x256 .bf16) (r : Fin 32) (l : Fin 256) :
    grp v0 v1 v2 v3 v4 v5 v6 v7 W (ix3 7 r l) = rowDot v7 W r l := by
  unfold grp rowDot
  pointwise []
  refine Finset.sum_congr rfl fun p _ => ?_
  rw [dif_neg (by omega)]
  rw [dif_neg (by omega)]
  rw [dif_neg (by omega)]
  rw [dif_neg (by omega)]
  rw [dif_neg (by omega)]
  rw [dif_neg (by omega)]
  rw [dif_neg (by omega)]
  rw [show (⟨224 + r.val - 32 - 32 - 32 - 32 - 32 - 32 - 32, by omega⟩ : Fin 32) = r from Fin.ext (by show 224 + r.val - 32 - 32 - 32 - 32 - 32 - 32 - 32 = r.val; omega)]

/-- Three rounds of sums and differences over eight values. -/
def bfly (t0 t1 t2 t3 t4 t5 t6 t7 : EReal) (d : Fin 8) : EReal :=
  match d with
  | 0 => t0 + t1 + (t2 + t3) + (t4 + t5 + (t6 + t7))
  | 1 => t0 - t1 + (t2 - t3) + (t4 - t5 + (t6 - t7))
  | 2 => t0 + t1 - (t2 + t3) + (t4 + t5 - (t6 + t7))
  | 3 => t0 - t1 - (t2 - t3) + (t4 - t5 - (t6 - t7))
  | 4 => t0 + t1 + (t2 + t3) - (t4 + t5 + (t6 + t7))
  | 5 => t0 - t1 + (t2 - t3) - (t4 - t5 + (t6 - t7))
  | 6 => t0 + t1 - (t2 + t3) - (t4 + t5 - (t6 + t7))
  | 7 => t0 - t1 - (t2 - t3) - (t4 - t5 - (t6 - t7))

/-- A row of piece `a` of the input (pieces are 256 columns wide) times the matrix. -/
def pieceDot (X : S32x24576.Idx → EReal) (W : S256x256.Idx → EReal) (a : Fin 96) (r : Fin 32) (l : Fin 256) : EReal :=
  ∑ p : Fin 256, X (ix2 r ⟨256 * a.val + p.val, by omega⟩) * W (ix2 p l)

/-- The half-transformed block at place `a = 8 k + d` of the scratch. -/
def half (X : S32x24576.Idx → EReal) (W : S256x256.Idx → EReal) (a : Fin 96) (r : Fin 32) (l : Fin 256) : EReal :=
  bfly (pieceDot X W ⟨8 * (a.val / 8), by omega⟩ r l) (pieceDot X W ⟨8 * (a.val / 8) + 1, by omega⟩ r l)
    (pieceDot X W ⟨8 * (a.val / 8) + 2, by omega⟩ r l) (pieceDot X W ⟨8 * (a.val / 8) + 3, by omega⟩ r l)
    (pieceDot X W ⟨8 * (a.val / 8) + 4, by omega⟩ r l) (pieceDot X W ⟨8 * (a.val / 8) + 5, by omega⟩ r l)
    (pieceDot X W ⟨8 * (a.val / 8) + 6, by omega⟩ r l) (pieceDot X W ⟨8 * (a.val / 8) + 7, by omega⟩ r l) ⟨a.val % 8, by omega⟩

theorem rowDot_ld (X : Vec Ideal S32x24576 .bf16) (W : Vec Ideal S256x256 .bf16) (o : ℕ) (a : Fin 96) (ho : o = 256 * a.val)
    (inb : ∀ ax, (![0, o] : Fin 2 → ℕ) ax + (![32, 256] : Fin 2 → ℕ) ax ≤ S32x24576.size ax) (r : Fin 32) (l : Fin 256) :
    rowDot (View.ld (Val := Elt Ideal) (e' := .bf16) X (Rect.unit (s := S32x24576) ![0, o] ![32, 256] inb)) W r l = pieceDot X W a r l := by
  subst ho
  unfold rowDot pieceDot
  pointwise []
  try rfl

end Cert.RotateIdeal.Hand

end
-- ==== Proof.RotateHalf0.lean ====
module

public import proofs.«01_k».proof.Proof.Gen.RotateIdeal.Value
public import Idealize.ShloMosaic.Lib.Pointwise
public import Idealize.ShloMosaic.Lib.Pipeline.ValueKit
public import Idealize.ShloMosaic.Lib.Pipeline.ReadBack
public import Idealize.ShloMosaic.Lib.WritesUnit
public import proofs.«01_k».proof.Proof.RotateGroup

@[expose] public section

set_option maxRecDepth 16384

noncomputable section

namespace Cert.RotateIdeal.Hand

open Cert.RotateIdeal Cert.RotateIdeal.Gen
open Idealize.ShloMosaic Idealize.ShloMosaic.TcCoe Idealize.SL.Sem

set_option maxHeartbeats 4000000

/-- The first 96 half-transformed blocks of the scratch, the last 24 of them stored here. -/
theorem half0 (c : Dev nD) (i : grid0.Coords) (arg1 : Memref sig .tc .smem S12x12 .f32) (harg1 : arg1.IsWhole) (arg2 : Memref sig .tc .vmem S32x24576 .bf16) (harg2 : arg2.IsWhole) (arg3 : Memref sig .tc .vmem S256x256 .bf16) (harg3 : arg3.IsWhole) (arg4 : Memref sig .tc .vmem S32x24576 .i8) (harg4 : arg4.IsWhole) (arg5 : Memref sig .tc .vmem S32x128 .f32) (harg5 : arg5.IsWhole) (arg6 : Memref sig .tc .vmem S96x32x256 .f32) (harg6 : arg6.IsWhole) (x1 : Vec Ideal S32x24576 .bf16) (x2 : Vec Ideal S256x256 .bf16) (f : BufTy.Contents (Elt Ideal) arg6.view.ty)
    (h : ∀ (a : Fin 96) (r : Fin 32) (l : Fin 256), a.val < 72 → arg6.view.read (Elt Ideal) (arg6.view.writes (Elt Ideal) f ((kernelRun0_A.sl.HS0_96 (F := Ideal) c arg2 harg2 arg3 harg3 x1 x2).drop 24)) (ix3 a r l) = half x1 x2 a r l)
    (a : Fin 96) (r : Fin 32) (l : Fin 256) (ha : a.val < 96) :
    arg6.view.read (Elt Ideal) (arg6.view.writes (Elt Ideal) f ((kernelRun0_A.sl.HS0_96 (F := Ideal) c arg2 harg2 arg3 harg3 x1 x2).drop 0)) (ix3 a r l) = half x1 x2 a r l := by
  unfold kernelRun0_A.sl.HS0_96 at *
  simp only [List.drop_succ_cons, List.drop_zero, List.drop_nil] at h ⊢
  revert a r l
  refine step0 arg6 f _ _ _ (half x1 x2) 95 (by omega) rfl ?_ ?_
  · intro r l
    frame_out
    open_payloads
    simp only [← grp_def]
    pointwise [grp_0, grp_1, grp_2, grp_3, grp_4, grp_5, grp_6, grp_7]
    try simp only [harg2.read_unread, harg3.read_unread]
    rw [rowDot_ld x1 x2 22528 88 rfl, rowDot_ld x1 x2 22784 89 rfl, rowDot_ld x1 x2 23040 90 rfl, rowDot_ld x1 x2 23296 91 rfl, rowDot_ld x1 x2 23552 92 rfl, rowDot_ld x1 x2 23808 93 rfl, rowDot_ld x1 x2 24064 94 rfl, rowDot_ld x1 x2 24320 95 rfl]
    rfl
  refine step0 arg6 f _ _ _ (half x1 x2) 94 (by omega) rfl ?_ ?_
  · intro r l
    frame_out
    open_payloads
    simp only [← grp_def]
    pointwise [grp_0, grp_1, grp_2, grp_3, grp_4, grp_5, grp_6, grp_7]
    try simp only [harg2.read_unread, harg3.read_unread]
    rw [rowDot_ld x1 x2 22528 88 rfl, rowDot_ld x1 x2 22784 89 rfl, rowDot_ld x1 x2 23040 90 rfl, rowDot_ld x1 x2 23296 91 rfl, rowDot_ld x1 x2 23552 92 rfl, rowDot_ld x1 x2 23808 93 rfl, rowDot_ld x1 x2 24064 94 rfl, rowDot_ld x1 x2 24320 95 rfl]
    rfl
  refine step0 arg6 f _ _ _ (half x1 x2) 93 (by omega) rfl ?_ ?_
  · intro r l
    frame_out
    open_payloads
    simp only [← grp_def]
    pointwise [grp_0, grp_1, grp_2, grp_3, grp_4, grp_5, grp_6, grp_7]
    try simp only [harg2.read_unread, harg3.read_unread]
    rw [rowDot_ld x1 x2 22528 88 rfl, rowDot_ld x1 x2 22784 89 rfl, rowDot_ld x1 x2 23040 90 rfl, rowDot_ld x1 x2 23296 91 rfl, rowDot_ld x1 x2 23552 92 rfl, rowDot_ld x1 x2 23808 93 rfl, rowDot_ld x1 x2 24064 94 rfl, rowDot_ld x1 x2 24320 95 rfl]
    rfl
  refine step0 arg6 f _ _ _ (half x1 x2) 92 (by omega) rfl ?_ ?_
  · intro r l
    frame_out
    open_payloads
    simp only [← grp_def]
    pointwise [grp_0, grp_1, grp_2, grp_3, grp_4, grp_5, grp_6, grp_7]
    try simp only [harg2.read_unread, harg3.read_unread]
    rw [rowDot_ld x1 x2 22528 88 rfl, rowDot_ld x1 x2 22784 89 rfl, rowDot_ld x1 x2 23040 90 rfl, rowDot_ld x1 x2 23296 91 rfl, rowDot_ld x1 x2 23552 92 rfl, rowDot_ld x1 x2 23808 93 rfl, rowDot_ld x1 x2 24064 94 rfl, rowDot_ld x1 x2 24320 95 rfl]
    rfl
  refine step0 arg6 f _ _ _ (half x1 x2) 91 (by omega) rfl ?_ ?_
  · intro r l
    frame_out
    open_payloads
    simp only [← grp_def]
    pointwise [grp_0, grp_1, grp_2, grp_3, grp_4, grp_5, grp_6, grp_7]
    try simp only [harg2.read_unread, harg3.read_unread]
    rw [rowDot_ld x1 x2 22528 88 rfl, rowDot_ld x1 x2 22784 89 rfl, rowDot_ld x1 x2 23040 90 rfl, rowDot_ld x1 x2 23296 91 rfl, rowDot_ld x1 x2 23552 92 rfl, rowDot_ld x1 x2 23808 93 rfl, rowDot_ld x1 x2 24064 94 rfl, rowDot_ld x1 x2 24320 95 rfl]
    rfl
  refine step0 arg6 f _ _ _ (half x1 x2) 90 (by omega) rfl ?_ ?_
  · intro r l
    frame_out
    open_payloads
    simp only [← grp_def]
    pointwise [grp_0, grp_1, grp_2, grp_3, grp_4, grp_5, grp_6, grp_7]
    try simp only [harg2.read_unread, harg3.read_unread]
    rw [rowDot_ld x1 x2 22528 88 rfl, rowDot_ld x1 x2 22784 89 rfl, rowDot_ld x1 x2 23040 90 rfl, rowDot_ld x1 x2 23296 91 rfl, rowDot_ld x1 x2 23552 92 rfl, rowDot_ld x1 x2 23808 93 rfl, rowDot_ld x1 x2 24064 94 rfl, rowDot_ld x1 x2 24320 95 rfl]
    rfl
  refine step0 arg6 f _ _ _ (half x1 x2) 89 (by omega) rfl ?_ ?_
  · intro r l
    frame_out
    open_payloads
    simp only [← grp_def]
    pointwise [grp_0, grp_1, grp_2, grp_3, grp_4, grp_5, grp_6, grp_7]
    try simp only [harg2.read_unread, harg3.read_unread]
    rw [rowDot_ld x1 x2 22528 88 rfl, rowDot_ld x1 x2 22784 89 rfl, rowDot_ld x1 x2 23040 90 rfl, rowDot_ld x1 x2 23296 91 rfl, rowDot_ld x1 x2 23552 92 rfl, rowDot_ld x1 x2 23808 93 rfl, rowDot_ld x1 x2 24064 94 rfl, rowDot_ld x1 x2 24320 95 rfl]
    rfl
  refine step0 arg6 f _ _ _ (half x1 x2) 88 (by omega) rfl ?_ ?_
  · intro r l
    frame_out
    open_payloads
    simp only [← grp_def]
    pointwise [grp_0, grp_1, grp_2, grp_3, grp_4, grp_5, grp_6, grp_7]
    try simp only [harg2.read_unread, harg3.read_unread]
    rw [rowDot_ld x1 x2 22528 88 rfl, rowDot_ld x1 x2 22784 89 rfl, rowDot_ld x1 x2 23040 90 rfl, rowDot_ld x1 x2 23296 91 rfl, rowDot_ld x1 x2 23552 92 rfl, rowDot_ld x1 x2 23808 93 rfl, rowDot_ld x1 x2 24064 94 rfl, rowDot_ld x1 x2 24320 95 rfl]
    rfl
  refine step0 arg6 f _ _ _ (half x1 x2) 87 (by omega) rfl ?_ ?_
  · intro r l
    frame_out
    open_payloads
    simp only [← grp_def]
    pointwise [grp_0, grp_1, grp_2, grp_3, grp_4, grp_5, grp_6, grp_7]
    try simp only [harg2.read_unread, harg3.read_unread]
    rw [rowDot_ld x1 x2 20480 80 rfl, rowDot_ld x1 x2 20736 81 rfl, rowDot_ld x1 x2 20992 82 rfl, rowDot_ld x1 x2 21248 83 rfl, rowDot_ld x1 x2 21504 84 rfl, rowDot_ld x1 x2 21760 85 rfl, rowDot_ld x1 x2 22016 86 rfl, rowDot_ld x1 x2 22272 87 rfl]
    rfl
  refine step0 arg6 f _ _ _ (half x1 x2) 86 (by omega) rfl ?_ ?_
  · intro r l
    frame_out
    open_payloads
    simp only [← grp_def]
    pointwise [grp_0, grp_1, grp_2, grp_3, grp_4, grp_5, grp_6, grp_7]
    try simp only [harg2.read_unread, harg3.read_unread]
    rw [rowDot_ld x1 x2 20480 80 rfl, rowDot_ld x1 x2 20736 81 rfl, rowDot_ld x1 x2 20992 82 rfl, rowDot_ld x1 x2 21248 83 rfl, rowDot_ld x1 x2 21504 84 rfl, rowDot_ld x1 x2 21760 85 rfl, rowDot_ld x1 x2 22016 86 rfl, rowDot_ld x1 x2 22272 87 rfl]
    rfl
  refine step0 arg6 f _ _ _ (half x1 x2) 85 (by omega) rfl ?_ ?_
  · intro r l
    frame_out
    open_payloads
    simp only [← grp_def]
    pointwise [grp_0, grp_1, grp_2, grp_3, grp_4, grp_5, grp_6, grp_7]
    try simp only [harg2.read_unread, harg3.read_unread]
    rw [rowDot_ld x1 x2 20480 80 rfl, rowDot_ld x1 x2 20736 81 rfl, rowDot_ld x1 x2 20992 82 rfl, rowDot_ld x1 x2 21248 83 rfl, rowDot_ld x1 x2 21504 84 rfl, rowDot_ld x1 x2 21760 85 rfl, rowDot_ld x1 x2 22016 86 rfl, rowDot_ld x1 x2 22272 87 rfl]
    rfl
  refine step0 arg6 f _ _ _ (half x1 x2) 84 (by omega) rfl ?_ ?_
  · intro r l
    frame_out
    open_payloads
    simp only [← grp_def]
    pointwise [grp_0, grp_1, grp_2, grp_3, grp_4, grp_5, grp_6, grp_7]
    try simp only [harg2.read_unread, harg3.read_unread]
    rw [rowDot_ld x1 x2 20480 80 rfl, rowDot_ld x1 x2 20736 81 rfl, rowDot_ld x1 x2 20992 82 rfl, rowDot_ld x1 x2 21248 83 rfl, rowDot_ld x1 x2 21504 84 rfl, rowDot_ld x1 x2 21760 85 rfl, rowDot_ld x1 x2 22016 86 rfl, rowDot_ld x1 x2 22272 87 rfl]
    rfl
  refine step0 arg6 f _ _ _ (half x1 x2) 83 (by omega) rfl ?_ ?_
  · intro r l
    frame_out
    open_payloads
    simp only [← grp_def]
    pointwise [grp_0, grp_1, grp_2, grp_3, grp_4, grp_5, grp_6, grp_7]
    try simp only [harg2.read_unread, harg3.read_unread]
    rw [rowDot_ld x1 x2 20480 80 rfl, rowDot_ld x1 x2 20736 81 rfl, rowDot_ld x1 x2 20992 82 rfl, rowDot_ld x1 x2 21248 83 rfl, rowDot_ld x1 x2 21504 84 rfl, rowDot_ld x1 x2 21760 85 rfl, rowDot_ld x1 x2 22016 86 rfl, rowDot_ld x1 x2 22272 87 rfl]
    rfl
  refine step0 arg6 f _ _ _ (half x1 x2) 82 (by omega) rfl ?_ ?_
  · intro r l
    frame_out
    open_payloads
    simp only [← grp_def]
    pointwise [grp_0, grp_1, grp_2, grp_3, grp_4, grp_5, grp_6, grp_7]
    try simp only [harg2.read_unread, harg3.read_unread]
    rw [rowDot_ld x1 x2 20480 80 rfl, rowDot_ld x1 x2 20736 81 rfl, rowDot_ld x1 x2 20992 82 rfl, rowDot_ld x1 x2 21248 83 rfl, rowDot_ld x1 x2 21504 84 rfl, rowDot_ld x1 x2 21760 85 rfl, rowDot_ld x1 x2 22016 86 rfl, rowDot_ld x1 x2 22272 87 rfl]
    rfl
  refine step0 arg6 f _ _ _ (half x1 x2) 81 (by omega) rfl ?_ ?_
  · intro r l
    frame_out
    open_payloads
    simp only [← grp_def]
    pointwise [grp_0, grp_1, grp_2, grp_3, grp_4, grp_5, grp_6, grp_7]
    try simp only [harg2.read_unread, harg3.read_unread]
    rw [rowDot_ld x1 x2 20480 80 rfl, rowDot_ld x1 x2 20736 81 rfl, rowDot_ld x1 x2 20992 82 rfl, rowDot_ld x1 x2 21248 83 rfl, rowDot_ld x1 x2 21504 84 rfl, rowDot_ld x1 x2 21760 85 rfl, rowDot_ld x1 x2 22016 86 rfl, rowDot_ld x1 x2 22272 87 rfl]
    rfl
  refine step0 arg6 f _ _ _ (half x1 x2) 80 (by omega) rfl ?_ ?_
  · intro r l
    frame_out
    open_payloads
    simp only [← grp_def]
    pointwise [grp_0, grp_1, grp_2, grp_3, grp_4, grp_5, grp_6, grp_7]
    try simp only [harg2.read_unread, harg3.read_unread]
    rw [rowDot_ld x1 x2 20480 80 rfl, rowDot_ld x1 x2 20736 81 rfl, rowDot_ld x1 x2 20992 82 rfl, rowDot_ld x1 x2 21248 83 rfl, rowDot_ld x1 x2 21504 84 rfl, rowDot_ld x1 x2 21760 85 rfl, rowDot_ld x1 x2 22016 86 rfl, rowDot_ld x1 x2 22272 87 rfl]
    rfl
  refine step0 arg6 f _ _ _ (half x1 x2) 79 (by omega) rfl ?_ ?_
  · intro r l
    frame_out
    open_payloads
    simp only [← grp_def]
    pointwise [grp_0, grp_1, grp_2, grp_3, grp_4, grp_5, grp_6, grp_7]
    try simp only [harg2.read_unread, harg3.read_unread]
    rw [rowDot_ld x1 x2 18432 72 rfl, rowDot_ld x1 x2 18688 73 rfl, rowDot_ld x1 x2 18944 74 rfl, rowDot_ld x1 x2 19200 75 rfl, rowDot_ld x1 x2 19456 76 rfl, rowDot_ld x1 x2 19712 77 rfl, rowDot_ld x1 x2 19968 78 rfl, rowDot_ld x1 x2 20224 79 rfl]
    rfl
  refine step0 arg6 f _ _ _ (half x1 x2) 78 (by omega) rfl ?_ ?_
  · intro r l
    frame_out
    open_payloads
    simp only [← grp_def]
    pointwise [grp_0, grp_1, grp_2, grp_3, grp_4, grp_5, grp_6, grp_7]
    try simp only [harg2.read_unread, harg3.read_unread]
    rw [rowDot_ld x1 x2 18432 72 rfl, rowDot_ld x1 x2 18688 73 rfl, rowDot_ld x1 x2 18944 74 rfl, rowDot_ld x1 x2 19200 75 rfl, rowDot_ld x1 x2 19456 76 rfl, rowDot_ld x1 x2 19712 77 rfl, rowDot_ld x1 x2 19968 78 rfl, rowDot_ld x1 x2 20224 79 rfl]
    rfl
  refine step0 arg6 f _ _ _ (half x1 x2) 77 (by omega) rfl ?_ ?_
  · intro r l
    frame_out
    open_payloads
    simp only [← grp_def]
    pointwise [grp_0, grp_1, grp_2, grp_3, grp_4, grp_5, grp_6, grp_7]
    try simp only [harg2.read_unread, harg3.read_unread]
    rw [rowDot_ld x1 x2 18432 72 rfl, rowDot_ld x1 x2 18688 73 rfl, rowDot_ld x1 x2 18944 74 rfl, rowDot_ld x1 x2 19200 75 rfl, rowDot_ld x1 x2 19456 76 rfl, rowDot_ld x1 x2 19712 77 rfl, rowDot_ld x1 x2 19968 78 rfl, rowDot_ld x1 x2 20224 79 rfl]
    rfl
  refine step0 arg6 f _ _ _ (half x1 x2) 76 (by omega) rfl ?_ ?_
  · intro r l
    frame_out
    open_payloads
    simp only [← grp_def]
    pointwise [grp_0, grp_1, grp_2, grp_3, grp_4, grp_5, grp_6, grp_7]
    try simp only [harg2.read_unread, harg3.read_unread]
    rw [rowDot_ld x1 x2 18432 72 rfl, rowDot_ld x1 x2 18688 73 rfl, rowDot_ld x1 x2 18944 74 rfl, rowDot_ld x1 x2 19200 75 rfl, rowDot_ld x1 x2 19456 76 rfl, rowDot_ld x1 x2 19712 77 rfl, rowDot_ld x1 x2 19968 78 rfl, rowDot_ld x1 x2 20224 79 rfl]
    rfl
  refine step0 arg6 f _ _ _ (half x1 x2) 75 (by omega) rfl ?_ ?_
  · intro r l
    frame_out
    open_payloads
    simp only [← grp_def]
    pointwise [grp_0, grp_1, grp_2, grp_3, grp_4, grp_5, grp_6, grp_7]
    try simp only [harg2.read_unread, harg3.read_unread]
    rw [rowDot_ld x1 x2 18432 72 rfl, rowDot_ld x1 x2 18688 73 rfl, rowDot_ld x1 x2 18944 74 rfl, rowDot_ld x1 x2 19200 75 rfl, rowDot_ld x1 x2 19456 76 rfl, rowDot_ld x1 x2 19712 77 rfl, rowDot_ld x1 x2 19968 78 rfl, rowDot_ld x1 x2 20224 79 rfl]
    rfl
  refine step0 arg6 f _ _ _ (half x1 x2) 74 (by omega) rfl ?_ ?_
  · intro r l
    frame_out
    open_payloads
    simp only [← grp_def]
    pointwise [grp_0, grp_1, grp_2, grp_3, grp_4, grp_5, grp_6, grp_7]
    try simp only [harg2.read_unread, harg3.read_unread]
    rw [rowDot_ld x1 x2 18432 72 rfl, rowDot_ld x1 x2 18688 73 rfl, rowDot_ld x1 x2 18944 74 rfl, rowDot_ld x1 x2 19200 75 rfl, rowDot_ld x1 x2 19456 76 rfl, rowDot_ld x1 x2 19712 77 rfl, rowDot_ld x1 x2 19968 78 rfl, rowDot_ld x1 x2 20224 79 rfl]
    rfl
  refine step0 arg6 f _ _ _ (half x1 x2) 73 (by omega) rfl ?_ ?_
  · intro r l
    frame_out
    open_payloads
    simp only [← grp_def]
    pointwise [grp_0, grp_1, grp_2, grp_3, grp_4, grp_5, grp_6, grp_7]
    try simp only [harg2.read_unread, harg3.read_unread]
    rw [rowDot_ld x1 x2 18432 72 rfl, rowDot_ld x1 x2 18688 73 rfl, rowDot_ld x1 x2 18944 74 rfl, rowDot_ld x1 x2 19200 75 rfl, rowDot_ld x1 x2 19456 76 rfl, rowDot_ld x1 x2 19712 77 rfl, rowDot_ld x1 x2 19968 78 rfl, rowDot_ld x1 x2 20224 79 rfl]
    rfl
  refine step0 arg6 f _ _ _ (half x1 x2) 72 (by omega) rfl ?_ ?_
  · intro r l
    frame_out
    open_payloads
    simp only [← grp_def]
    pointwise [grp_0, grp_1, grp_2, grp_3, grp_4, grp_5, grp_6, grp_7]
    try simp only [harg2.read_unread, harg3.read_unread]
    rw [rowDot_ld x1 x2 18432 72 rfl, rowDot_ld x1 x2 18688 73 rfl, rowDot_ld x1 x2 18944 74 rfl, rowDot_ld x1 x2 19200 75 rfl, rowDot_ld x1 x2 19456 76 rfl, rowDot_ld x1 x2 19712 77 rfl, rowDot_ld x1 x2 19968 78 rfl, rowDot_ld x1 x2 20224 79 rfl]
    rfl
  exact h

end Cert.RotateIdeal.Hand

end
-- ==== Proof.RotateHalf1.lean ====
module

public import proofs.«01_k».proof.Proof.Gen.RotateIdeal.Value
public import Idealize.ShloMosaic.Lib.Pointwise
public import Idealize.ShloMosaic.Lib.Pipeline.ValueKit
public import Idealize.ShloMosaic.Lib.Pipeline.ReadBack
public import Idealize.ShloMosaic.Lib.WritesUnit
public import proofs.«01_k».proof.Proof.RotateGroup

@[expose] public section

set_option maxRecDepth 16384

noncomputable section

namespace Cert.RotateIdeal.Hand

open Cert.RotateIdeal Cert.RotateIdeal.Gen
open Idealize.ShloMosaic Idealize.ShloMosaic.TcCoe Idealize.SL.Sem

set_option maxHeartbeats 4000000

/-- The first 72 half-transformed blocks of the scratch, the last 24 of them stored here. -/
theorem half1 (c : Dev nD) (i : grid0.Coords) (arg1 : Memref sig .tc .smem S12x12 .f32) (harg1 : arg1.IsWhole) (arg2 : Memref sig .tc .vmem S32x24576 .bf16) (harg2 : arg2.IsWhole) (arg3 : Memref sig .tc .vmem S256x256 .bf16) (harg3 : arg3.IsWhole) (arg4 : Memref sig .tc .vmem S32x24576 .i8) (harg4 : arg4.IsWhole) (arg5 : Memref sig .tc .vmem S32x128 .f32) (harg5 : arg5.IsWhole) (arg6 : Memref sig .tc .vmem S96x32x256 .f32) (harg6 : arg6.IsWhole) (x1 : Vec Ideal S32x24576 .bf16) (x2 : Vec Ideal S256x256 .bf16) (f : BufTy.Contents (Elt Ideal) arg6.view.ty)
    (h : ∀ (a : Fin 96) (r : Fin 32) (l : Fin 256), a.val < 48 → arg6.view.read (Elt Ideal) (arg6.view.writes (Elt Ideal) f ((kernelRun0_A.sl.HS0_96 (F := Ideal) c arg2 harg2 arg3 harg3 x1 x2).drop 48)) (ix3 a r l) = half x1 x2 a r l)
    (a : Fin 96) (r : Fin 32) (l : Fin 256) (ha : a.val < 72) :
    arg6.view.read (Elt Ideal) (arg6.view.writes (Elt Ideal) f ((kernelRun0_A.sl.HS0_96 (F := Ideal) c arg2 harg2 arg3 harg3 x1 x2).drop 24)) (ix3 a r l) = half x1 x2 a r l := by
  unfold kernelRun0_A.sl.HS0_96 at *
  simp only [List.drop_succ_cons, List.drop_zero, List.drop_nil] at h ⊢
  revert a r l
  refine step0 arg6 f _ _ _ (half x1 x2) 71 (by omega) rfl ?_ ?_
  · intro r l
    frame_out
    open_payloads
    simp only [← grp_def]
    pointwise [grp_0, grp_1, grp_2, grp_3, grp_4, grp_5, grp_6, grp_7]
    try simp only [harg2.read_unread, harg3.read_unread]
    rw [rowDot_ld x1 x2 16384 64 rfl, rowDot_ld x1 x2 16640 65 rfl, rowDot_ld x1 x2 16896 66 rfl, rowDot_ld x1 x2 17152 67 rfl, rowDot_ld x1 x2 17408 68 rfl, rowDot_ld x1 x2 17664 69 rfl, rowDot_ld x1 x2 17920 70 rfl, rowDot_ld x1 x2 18176 71 rfl]
    rfl
  refine step0 arg6 f _ _ _ (half x1 x2) 70 (by omega) rfl ?_ ?_
  · intro r l
    frame_out
    open_payloads
    simp only [← grp_def]
    pointwise [grp_0, grp_1, grp_2, grp_3, grp_4, grp_5, grp_6, grp_7]
    try simp only [harg2.read_unread, harg3.read_unread]
    rw [rowDot_ld x1 x2 16384 64 rfl, rowDot_ld x1 x2 16640 65 rfl, rowDot_ld x1 x2 16896 66 rfl, rowDot_ld x1 x2 17152 67 rfl, rowDot_ld x1 x2 17408 68 rfl, rowDot_ld x1 x2 17664 69 rfl, rowDot_ld x1 x2 17920 70 rfl, rowDot_ld x1 x2 18176 71 rfl]
    rfl
  refine step0 arg6 f _ _ _ (half x1 x2) 69 (by omega) rfl ?_ ?_
  · intro r l
    frame_out
    open_payloads
    simp only [← grp_def]
    pointwise [grp_0, grp_1, grp_2, grp_3, grp_4, grp_5, grp_6, grp_7]
    try simp only [harg2.read_unread, harg3.read_unread]
    rw [rowDot_ld x1 x2 16384 64 rfl, rowDot_ld x1 x2 16640 65 rfl, rowDot_ld x1 x2 16896 66 rfl, rowDot_ld x1 x2 17152 67 rfl, rowDot_ld x1 x2 17408 68 rfl, rowDot_ld x1 x2 17664 69 rfl, rowDot_ld x1 x2 17920 70 rfl, rowDot_ld x1 x2 18176 71 rfl]
    rfl
  refine step0 arg6 f _ _ _ (half x1 x2) 68 (by omega) rfl ?_ ?_
  · intro r l
    frame_out
    open_payloads
    simp only [← grp_def]
    pointwise [grp_0, grp_1, grp_2, grp_3, grp_4, grp_5, grp_6, grp_7]
    try simp only [harg2.read_unread, harg3.read_unread]
    rw [rowDot_ld x1 x2 16384 64 rfl, rowDot_ld x1 x2 16640 65 rfl, rowDot_ld x1 x2 16896 66 rfl, rowDot_ld x1 x2 17152 67 rfl, rowDot_ld x1 x2 17408 68 rfl, rowDot_ld x1 x2 17664 69 rfl, rowDot_ld x1 x2 17920 70 rfl, rowDot_ld x1 x2 18176 71 rfl]
    rfl
  refine step0 arg6 f _ _ _ (half x1 x2) 67 (by omega) rfl ?_ ?_
  · intro r l
    frame_out
    open_payloads
    simp only [← grp_def]
    pointwise [grp_0, grp_1, grp_2, grp_3, grp_4, grp_5, grp_6, grp_7]
    try simp only [harg2.read_unread, harg3.read_unread]
    rw [rowDot_ld x1 x2 16384 64 rfl, rowDot_ld x1 x2 16640 65 rfl, rowDot_ld x1 x2 16896 66 rfl, rowDot_ld x1 x2 17152 67 rfl, rowDot_ld x1 x2 17408 68 rfl, rowDot_ld x1 x2 17664 69 rfl, rowDot_ld x1 x2 17920 70 rfl, rowDot_ld x1 x2 18176 71 rfl]
    rfl
  refine step0 arg6 f _ _ _ (half x1 x2) 66 (by omega) rfl ?_ ?_
  · intro r l
    frame_out
    open_payloads
    simp only [← grp_def]
    pointwise [grp_0, grp_1, grp_2, grp_3, grp_4, grp_5, grp_6, grp_7]
    try simp only [harg2.read_unread, harg3.read_unread]
    rw [rowDot_ld x1 x2 16384 64 rfl, rowDot_ld x1 x2 16640 65 rfl, rowDot_ld x1 x2 16896 66 rfl, rowDot_ld x1 x2 17152 67 rfl, rowDot_ld x1 x2 17408 68 rfl, rowDot_ld x1 x2 17664 69 rfl, rowDot_ld x1 x2 17920 70 rfl, rowDot_ld x1 x2 18176 71 rfl]
    rfl
  refine step0 arg6 f _ _ _ (half x1 x2) 65 (by omega) rfl ?_ ?_
  · intro r l
    frame_out
    open_payloads
    simp only [← grp_def]
    pointwise [grp_0, grp_1, grp_2, grp_3, grp_4, grp_5, grp_6, grp_7]
    try simp only [harg2.read_unread, harg3.read_unread]
    rw [rowDot_ld x1 x2 16384 64 rfl, rowDot_ld x1 x2 16640 65 rfl, rowDot_ld x1 x2 16896 66 rfl, rowDot_ld x1 x2 17152 67 rfl, rowDot_ld x1 x2 17408 68 rfl, rowDot_ld x1 x2 17664 69 rfl, rowDot_ld x1 x2 17920 70 rfl, rowDot_ld x1 x2 18176 71 rfl]
    rfl
  refine step0 arg6 f _ _ _ (half x1 x2) 64 (by omega) rfl ?_ ?_
  · intro r l
    frame_out
    open_payloads
    simp only [← grp_def]
    pointwise [grp_0, grp_1, grp_2, grp_3, grp_4, grp_5, grp_6, grp_7]
    try simp only [harg2.read_unread, harg3.read_unread]
    rw [rowDot_ld x1 x2 16384 64 rfl, rowDot_ld x1 x2 16640 65 rfl, rowDot_ld x1 x2 16896 66 rfl, rowDot_ld x1 x2 17152 67 rfl, rowDot_ld x1 x2 17408 68 rfl, rowDot_ld x1 x2 17664 69 rfl, rowDot_ld x1 x2 17920 70 rfl, rowDot_ld x1 x2 18176 71 rfl]
    rfl
  refine step0 arg6 f _ _ _ (half x1 x2) 63 (by omega) rfl ?_ ?_
  · intro r l
    frame_out
    open_payloads
    simp only [← grp_def]
    pointwise [grp_0, grp_1, grp_2, grp_3, grp_4, grp_5, grp_6, grp_7]
    try simp only [harg2.read_unread, harg3.read_unread]
    rw [rowDot_ld x1 x2 14336 56 rfl, rowDot_ld x1 x2 14592 57 rfl, rowDot_ld x1 x2 14848 58 rfl, rowDot_ld x1 x2 15104 59 rfl, rowDot_ld x1 x2 15360 60 rfl, rowDot_ld x1 x2 15616 61 rfl, rowDot_ld x1 x2 15872 62 rfl, rowDot_ld x1 x2 16128 63 rfl]
    rfl
  refine step0 arg6 f _ _ _ (half x1 x2) 62 (by omega) rfl ?_ ?_
  · intro r l
    frame_out
    open_payloads
    simp only [← grp_def]
    pointwise [grp_0, grp_1, grp_2, grp_3, grp_4, grp_5, grp_6, grp_7]
    try simp only [harg2.read_unread, harg3.read_unread]
    rw [rowDot_ld x1 x2 14336 56 rfl, rowDot_ld x1 x2 14592 57 rfl, rowDot_ld x1 x2 14848 58 rfl, rowDot_ld x1 x2 15104 59 rfl, rowDot_ld x1 x2 15360 60 rfl, rowDot_ld x1 x2 15616 61 rfl, rowDot_ld x1 x2 15872 62 rfl, rowDot_ld x1 x2 16128 63 rfl]
    rfl
  refine step0 arg6 f _ _ _ (half x1 x2) 61 (by omega) rfl ?_ ?_
  · intro r l
    frame_out
    open_payloads
    simp only [← grp_def]
    pointwise [grp_0, grp_1, grp_2, grp_3, grp_4, grp_5, grp_6, grp_7]
    try simp only [harg2.read_unread, harg3.read_unread]
    rw [rowDot_ld x1 x2 14336 56 rfl, rowDot_ld x1 x2 14592 57 rfl, rowDot_ld x1 x2 14848 58 rfl, rowDot_ld x1 x2 15104 59 rfl, rowDot_ld x1 x2 15360 60 rfl, rowDot_ld x1 x2 15616 61 rfl, rowDot_ld x1 x2 15872 62 rfl, rowDot_ld x1 x2 16128 63 rfl]
    rfl
  refine step0 arg6 f _ _ _ (half x1 x2) 60 (by omega) rfl ?_ ?_
  · intro r l
    frame_out
    open_payloads
    simp only [← grp_def]
    pointwise [grp_0, grp_1, grp_2, grp_3, grp_4, grp_5, grp_6, grp_7]
    try simp only [harg2.read_unread, harg3.read_unread]
    rw [rowDot_ld x1 x2 14336 56 rfl, rowDot_ld x1 x2 14592 57 rfl, rowDot_ld x1 x2 14848 58 rfl, rowDot_ld x1 x2 15104 59 rfl, rowDot_ld x1 x2 15360 60 rfl, rowDot_ld x1 x2 15616 61 rfl, rowDot_ld x1 x2 15872 62 rfl, rowDot_ld x1 x2 16128 63 rfl]
    rfl
  refine step0 arg6 f _ _ _ (half x1 x2) 59 (by omega) rfl ?_ ?_
  · intro r l
    frame_out
    open_payloads
    simp only [← grp_def]
    pointwise [grp_0, grp_1, grp_2, grp_3, grp_4, grp_5, grp_6, grp_7]
    try simp only [harg2.read_unread, harg3.read_unread]
    rw [rowDot_ld x1 x2 14336 56 rfl, rowDot_ld x1 x2 14592 57 rfl, rowDot_ld x1 x2 14848 58 rfl, rowDot_ld x1 x2 15104 59 rfl, rowDot_ld x1 x2 15360 60 rfl, rowDot_ld x1 x2 15616 61 rfl, rowDot_ld x1 x2 15872 62 rfl, rowDot_ld x1 x2 16128 63 rfl]
    rfl
  refine step0 arg6 f _ _ _ (half x1 x2) 58 (by omega) rfl ?_ ?_
  · intro r l
    frame_out
    open_payloads
    simp only [← grp_def]
    pointwise [grp_0, grp_1, grp_2, grp_3, grp_4, grp_5, grp_6, grp_7]
    try simp only [harg2.read_unread, harg3.read_unread]
    rw [rowDot_ld x1 x2 14336 56 rfl, rowDot_ld x1 x2 14592 57 rfl, rowDot_ld x1 x2 14848 58 rfl, rowDot_ld x1 x2 15104 59 rfl, rowDot_ld x1 x2 15360 60 rfl, rowDot_ld x1 x2 15616 61 rfl, rowDot_ld x1 x2 15872 62 rfl, rowDot_ld x1 x2 16128 63 rfl]
    rfl
  refine step0 arg6 f _ _ _ (half x1 x2) 57 (by omega) rfl ?_ ?_
  · intro r l
    frame_out
    open_payloads
    simp only [← grp_def]
    pointwise [grp_0, grp_1, grp_2, grp_3, grp_4, grp_5, grp_6, grp_7]
    try simp only [harg2.read_unread, harg3.read_unread]
    rw [rowDot_ld x1 x2 14336 56 rfl, rowDot_ld x1 x2 14592 57 rfl, rowDot_ld x1 x2 14848 58 rfl, rowDot_ld x1 x2 15104 59 rfl, rowDot_ld x1 x2 15360 60 rfl, rowDot_ld x1 x2 15616 61 rfl, rowDot_ld x1 x2 15872 62 rfl, rowDot_ld x1 x2 16128 63 rfl]
    rfl
  refine step0 arg6 f _ _ _ (half x1 x2) 56 (by omega) rfl ?_ ?_
  · intro r l
    frame_out
    open_payloads
    simp only [← grp_def]
    pointwise [grp_0, grp_1, grp_2, grp_3, grp_4, grp_5, grp_6, grp_7]
    try simp only [harg2.read_unread, harg3.read_unread]
    rw [rowDot_ld x1 x2 14336 56 rfl, rowDot_ld x1 x2 14592 57 rfl, rowDot_ld x1 x2 14848 58 rfl, rowDot_ld x1 x2 15104 59 rfl, rowDot_ld x1 x2 15360 60 rfl, rowDot_ld x1 x2 15616 61 rfl, rowDot_ld x1 x2 15872 62 rfl, rowDot_ld x1 x2 16128 63 rfl]
    rfl
  refine step0 arg6 f _ _ _ (half x1 x2) 55 (by omega) rfl ?_ ?_
  · intro r l
    frame_out
    open_payloads
    simp only [← grp_def]
    pointwise [grp_0, grp_1, grp_2, grp_3, grp_4, grp_5, grp_6, grp_7]
    try simp only [harg2.read_unread, harg3.read_unread]
    rw [rowDot_ld x1 x2 12288 48 rfl, rowDot_ld x1 x2 12544 49 rfl, rowDot_ld x1 x2 12800 50 rfl, rowDot_ld x1 x2 13056 51 rfl, rowDot_ld x1 x2 13312 52 rfl, rowDot_ld x1 x2 13568 53 rfl, rowDot_ld x1 x2 13824 54 rfl, rowDot_ld x1 x2 14080 55 rfl]
    rfl
  refine step0 arg6 f _ _ _ (half x1 x2) 54 (by omega) rfl ?_ ?_
  · intro r l
    frame_out
    open_payloads
    simp only [← grp_def]
    pointwise [grp_0, grp_1, grp_2, grp_3, grp_4, grp_5, grp_6, grp_7]
    try simp only [harg2.read_unread, harg3.read_unread]
    rw [rowDot_ld x1 x2 12288 48 rfl, rowDot_ld x1 x2 12544 49 rfl, rowDot_ld x1 x2 12800 50 rfl, rowDot_ld x1 x2 13056 51 rfl, rowDot_ld x1 x2 13312 52 rfl, rowDot_ld x1 x2 13568 53 rfl, rowDot_ld x1 x2 13824 54 rfl, rowDot_ld x1 x2 14080 55 rfl]
    rfl
  refine step0 arg6 f _ _ _ (half x1 x2) 53 (by omega) rfl ?_ ?_
  · intro r l
    frame_out
    open_payloads
    simp only [← grp_def]
    pointwise [grp_0, grp_1, grp_2, grp_3, grp_4, grp_5, grp_6, grp_7]
    try simp only [harg2.read_unread, harg3.read_unread]
    rw [rowDot_ld x1 x2 12288 48 rfl, rowDot_ld x1 x2 12544 49 rfl, rowDot_ld x1 x2 12800 50 rfl, rowDot_ld x1 x2 13056 51 rfl, rowDot_ld x1 x2 13312 52 rfl, rowDot_ld x1 x2 13568 53 rfl, rowDot_ld x1 x2 13824 54 rfl, rowDot_ld x1 x2 14080 55 rfl]
    rfl
  refine step0 arg6 f _ _ _ (half x1 x2) 52 (by omega) rfl ?_ ?_
  · intro r l
    frame_out
    open_payloads
    simp only [← grp_def]
    pointwise [grp_0, grp_1, grp_2, grp_3, grp_4, grp_5, grp_6, grp_7]
    try simp only [harg2.read_unread, harg3.read_unread]
    rw [rowDot_ld x1 x2 12288 48 rfl, rowDot_ld x1 x2 12544 49 rfl, rowDot_ld x1 x2 12800 50 rfl, rowDot_ld x1 x2 13056 51 rfl, rowDot_ld x1 x2 13312 52 rfl, rowDot_ld x1 x2 13568 53 rfl, rowDot_ld x1 x2 13824 54 rfl, rowDot_ld x1 x2 14080 55 rfl]
    rfl
  refine step0 arg6 f _ _ _ (half x1 x2) 51 (by omega) rfl ?_ ?_
  · intro r l
    frame_out
    open_payloads
    simp only [← grp_def]
    pointwise [grp_0, grp_1, grp_2, grp_3, grp_4, grp_5, grp_6, grp_7]
    try simp only [harg2.read_unread, harg3.read_unread]
    rw [rowDot_ld x1 x2 12288 48 rfl, rowDot_ld x1 x2 12544 49 rfl, rowDot_ld x1 x2 12800 50 rfl, rowDot_ld x1 x2 13056 51 rfl, rowDot_ld x1 x2 13312 52 rfl, rowDot_ld x1 x2 13568 53 rfl, rowDot_ld x1 x2 13824 54 rfl, rowDot_ld x1 x2 14080 55 rfl]
    rfl
  refine step0 arg6 f _ _ _ (half x1 x2) 50 (by omega) rfl ?_ ?_
  · intro r l
    frame_out
    open_payloads
    simp only [← grp_def]
    pointwise [grp_0, grp_1, grp_2, grp_3, grp_4, grp_5, grp_6, grp_7]
    try simp only [harg2.read_unread, harg3.read_unread]
    rw [rowDot_ld x1 x2 12288 48 rfl, rowDot_ld x1 x2 12544 49 rfl, rowDot_ld x1 x2 12800 50 rfl, rowDot_ld x1 x2 13056 51 rfl, rowDot_ld x1 x2 13312 52 rfl, rowDot_ld x1 x2 13568 53 rfl, rowDot_ld x1 x2 13824 54 rfl, rowDot_ld x1 x2 14080 55 rfl]
    rfl
  refine step0 arg6 f _ _ _ (half x1 x2) 49 (by omega) rfl ?_ ?_
  · intro r l
    frame_out
    open_payloads
    simp only [← grp_def]
    pointwise [grp_0, grp_1, grp_2, grp_3, grp_4, grp_5, grp_6, grp_7]
    try simp only [harg2.read_unread, harg3.read_unread]
    rw [rowDot_ld x1 x2 12288 48 rfl, rowDot_ld x1 x2 12544 49 rfl, rowDot_ld x1 x2 12800 50 rfl, rowDot_ld x1 x2 13056 51 rfl, rowDot_ld x1 x2 13312 52 rfl, rowDot_ld x1 x2 13568 53 rfl, rowDot_ld x1 x2 13824 54 rfl, rowDot_ld x1 x2 14080 55 rfl]
    rfl
  refine step0 arg6 f _ _ _ (half x1 x2) 48 (by omega) rfl ?_ ?_
  · intro r l
    frame_out
    open_payloads
    simp only [← grp_def]
    pointwise [grp_0, grp_1, grp_2, grp_3, grp_4, grp_5, grp_6, grp_7]
    try simp only [harg2.read_unread, harg3.read_unread]
    rw [rowDot_ld x1 x2 12288 48 rfl, rowDot_ld x1 x2 12544 49 rfl, rowDot_ld x1 x2 12800 50 rfl, rowDot_ld x1 x2 13056 51 rfl, rowDot_ld x1 x2 13312 52 rfl, rowDot_ld x1 x2 13568 53 rfl, rowDot_ld x1 x2 13824 54 rfl, rowDot_ld x1 x2 14080 55 rfl]
    rfl
  exact h

end Cert.RotateIdeal.Hand

end
-- ==== Proof.RotateHalf2.lean ====
module

public import proofs.«01_k».proof.Proof.Gen.RotateIdeal.Value
public import Idealize.ShloMosaic.Lib.Pointwise
public import Idealize.ShloMosaic.Lib.Pipeline.ValueKit
public import Idealize.ShloMosaic.Lib.Pipeline.ReadBack
public import Idealize.ShloMosaic.Lib.WritesUnit
public import proofs.«01_k».proof.Proof.RotateGroup

@[expose] public section

set_option maxRecDepth 16384

noncomputable section

namespace Cert.RotateIdeal.Hand

open Cert.RotateIdeal Cert.RotateIdeal.Gen
open Idealize.ShloMosaic Idealize.ShloMosaic.TcCoe Idealize.SL.Sem

set_option maxHeartbeats 4000000

/-- The first 48 half-transformed blocks of the scratch, the last 24 of them stored here. -/
theorem half2 (c : Dev nD) (i : grid0.Coords) (arg1 : Memref sig .tc .smem S12x12 .f32) (harg1 : arg1.IsWhole) (arg2 : Memref sig .tc .vmem S32x24576 .bf16) (harg2 : arg2.IsWhole) (arg3 : Memref sig .tc .vmem S256x256 .bf16) (harg3 : arg3.IsWhole) (arg4 : Memref sig .tc .vmem S32x24576 .i8) (harg4 : arg4.IsWhole) (arg5 : Memref sig .tc .vmem S32x128 .f32) (harg5 : arg5.IsWhole) (arg6 : Memref sig .tc .vmem S96x32x256 .f32) (harg6 : arg6.IsWhole) (x1 : Vec Ideal S32x24576 .bf16) (x2 : Vec Ideal S256x256 .bf16) (f : BufTy.Contents (Elt Ideal) arg6.view.ty)
    (h : ∀ (a : Fin 96) (r : Fin 32) (l : Fin 256), a.val < 24 → arg6.view.read (Elt Ideal) (arg6.view.writes (Elt Ideal) f ((kernelRun0_A.sl.HS0_96 (F := Ideal) c arg2 harg2 arg3 harg3 x1 x2).drop 72)) (ix3 a r l) = half x1 x2 a r l)
    (a : Fin 96) (r : Fin 32) (l : Fin 256) (ha : a.val < 48) :
    arg6.view.read (Elt Ideal) (arg6.view.writes (Elt Ideal) f ((kernelRun0_A.sl.HS0_96 (F := Ideal) c arg2 harg2 arg3 harg3 x1 x2).drop 48)) (ix3 a r l) = half x1 x2 a r l := by
  unfold kernelRun0_A.sl.HS0_96 at *
  simp only [List.drop_succ_cons, List.drop_zero, List.drop_nil] at h ⊢
  revert a r l
  refine step0 arg6 f _ _ _ (half x1 x2) 47 (by omega) rfl ?_ ?_
  · intro r l
    frame_out
    open_payloads
    simp only [← grp_def]
    pointwise [grp_0, grp_1, grp_2, grp_3, grp_4, grp_5, grp_6, grp_7]
    try simp only [harg2.read_unread, harg3.read_unread]
    rw [rowDot_ld x1 x2 10240 40 rfl, rowDot_ld x1 x2 10496 41 rfl, rowDot_ld x1 x2 10752 42 rfl, rowDot_ld x1 x2 11008 43 rfl, rowDot_ld x1 x2 11264 44 rfl, rowDot_ld x1 x2 11520 45 rfl, rowDot_ld x1 x2 11776 46 rfl, rowDot_ld x1 x2 12032 47 rfl]
    rfl
  refine step0 arg6 f _ _ _ (half x1 x2) 46 (by omega) rfl ?_ ?_
  · intro r l
    frame_out
    open_payloads
    simp only [← grp_def]
    pointwise [grp_0, grp_1, grp_2, grp_3, grp_4, grp_5, grp_6, grp_7]
    try simp only [harg2.read_unread, harg3.read_unread]
    rw [rowDot_ld x1 x2 10240 40 rfl, rowDot_ld x1 x2 10496 41 rfl, rowDot_ld x1 x2 10752 42 rfl, rowDot_ld x1 x2 11008 43 rfl, rowDot_ld x1 x2 11264 44 rfl, rowDot_ld x1 x2 11520 45 rfl, rowDot_ld x1 x2 11776 46 rfl, rowDot_ld x1 x2 12032 47 rfl]
    rfl
  refine step0 arg6 f _ _ _ (half x1 x2) 45 (by omega) rfl ?_ ?_
  · intro r l
    frame_out
    open_payloads
    simp only [← grp_def]
    pointwise [grp_0, grp_1, grp_2, grp_3, grp_4, grp_5, grp_6, grp_7]
    try simp only [harg2.read_unread, harg3.read_unread]
    rw [rowDot_ld x1 x2 10240 40 rfl, rowDot_ld x1 x2 10496 41 rfl, rowDot_ld x1 x2 10752 42 rfl, rowDot_ld x1 x2 11008 43 rfl, rowDot_ld x1 x2 11264 44 rfl, rowDot_ld x1 x2 11520 45 rfl, rowDot_ld x1 x2 11776 46 rfl, rowDot_ld x1 x2 12032 47 rfl]
    rfl
  refine step0 arg6 f _ _ _ (half x1 x2) 44 (by omega) rfl ?_ ?_
  · intro r l
    frame_out
    open_payloads
    simp only [← grp_def]
    pointwise [grp_0, grp_1, grp_2, grp_3, grp_4, grp_5, grp_6, grp_7]
    try simp only [harg2.read_unread, harg3.read_unread]
    rw [rowDot_ld x1 x2 10240 40 rfl, rowDot_ld x1 x2 10496 41 rfl, rowDot_ld x1 x2 10752 42 rfl, rowDot_ld x1 x2 11008 43 rfl, rowDot_ld x1 x2 11264 44 rfl, rowDot_ld x1 x2 11520 45 rfl, rowDot_ld x1 x2 11776 46 rfl, rowDot_ld x1 x2 12032 47 rfl]
    rfl
  refine step0 arg6 f _ _ _ (half x1 x2) 43 (by omega) rfl ?_ ?_
  · intro r l
    frame_out
    open_payloads
    simp only [← grp_def]
    pointwise [grp_0, grp_1, grp_2, grp_3, grp_4, grp_5, grp_6, grp_7]
    try simp only [harg2.read_unread, harg3.read_unread]
    rw [rowDot_ld x1 x2 10240 40 rfl, rowDot_ld x1 x2 10496 41 rfl, rowDot_ld x1 x2 10752 42 rfl, rowDot_ld x1 x2 11008 43 rfl, rowDot_ld x1 x2 11264 44 rfl, rowDot_ld x1 x2 11520 45 rfl, rowDot_ld x1 x2 11776 46 rfl, rowDot_ld x1 x2 12032 47 rfl]
    rfl
  refine step0 arg6 f _ _ _ (half x1 x2) 42 (by omega) rfl ?_ ?_
  · intro r l
    frame_out
    open_payloads
    simp only [← grp_def]
    pointwise [grp_0, grp_1, grp_2, grp_3, grp_4, grp_5, grp_6, grp_7]
    try simp only [harg2.read_unread, harg3.read_unread]
    rw [rowDot_ld x1 x2 10240 40 rfl, rowDot_ld x1 x2 10496 41 rfl, rowDot_ld x1 x2 10752 42 rfl, rowDot_ld x1 x2 11008 43 rfl, rowDot_ld x1 x2 11264 44 rfl, rowDot_ld x1 x2 11520 45 rfl, rowDot_ld x1 x2 11776 46 rfl, rowDot_ld x1 x2 12032 47 rfl]
    rfl
  refine step0 arg6 f _ _ _ (half x1 x2) 41 (by omega) rfl ?_ ?_
  · intro r l
    frame_out
    open_payloads
    simp only [← grp_def]
    pointwise [grp_0, grp_1, grp_2, grp_3, grp_4, grp_5, grp_6, grp_7]
    try simp only [harg2.read_unread, harg3.read_unread]
    rw [rowDot_ld x1 x2 10240 40 rfl, rowDot_ld x1 x2 10496 41 rfl, rowDot_ld x1 x2 10752 42 rfl, rowDot_ld x1 x2 11008 43 rfl, rowDot_ld x1 x2 11264 44 rfl, rowDot_ld x1 x2 11520 45 rfl, rowDot_ld x1 x2 11776 46 rfl, rowDot_ld x1 x2 12032 47 rfl]
    rfl
  refine step0 arg6 f _ _ _ (half x1 x2) 40 (by omega) rfl ?_ ?_
  · intro r l
    frame_out
    open_payloads
    simp only [← grp_def]
    pointwise [grp_0, grp_1, grp_2, grp_3, grp_4, grp_5, grp_6, grp_7]
    try simp only [harg2.read_unread, harg3.read_unread]
    rw [rowDot_ld x1 x2 10240 40 rfl, rowDot_ld x1 x2 10496 41 rfl, rowDot_ld x1 x2 10752 42 rfl, rowDot_ld x1 x2 11008 43 rfl, rowDot_ld x1 x2 11264 44 rfl, rowDot_ld x1 x2 11520 45 rfl, rowDot_ld x1 x2 11776 46 rfl, rowDot_ld x1 x2 12032 47 rfl]
    rfl
  refine step0 arg6 f _ _ _ (half x1 x2) 39 (by omega) rfl ?_ ?_
  · intro r l
    frame_out
    open_payloads
    simp only [← grp_def]
    pointwise [grp_0, grp_1, grp_2, grp_3, grp_4, grp_5, grp_6, grp_7]
    try simp only [harg2.read_unread, harg3.read_unread]
    rw [rowDot_ld x1 x2 8192 32 rfl, rowDot_ld x1 x2 8448 33 rfl, rowDot_ld x1 x2 8704 34 rfl, rowDot_ld x1 x2 8960 35 rfl, rowDot_ld x1 x2 9216 36 rfl, rowDot_ld x1 x2 9472 37 rfl, rowDot_ld x1 x2 9728 38 rfl, rowDot_ld x1 x2 9984 39 rfl]
    rfl
  refine step0 arg6 f _ _ _ (half x1 x2) 38 (by omega) rfl ?_ ?_
  · intro r l
    frame_out
    open_payloads
    simp only [← grp_def]
    pointwise [grp_0, grp_1, grp_2, grp_3, grp_4, grp_5, grp_6, grp_7]
    try simp only [harg2.read_unread, harg3.read_unread]
    rw [rowDot_ld x1 x2 8192 32 rfl, rowDot_ld x1 x2 8448 33 rfl, rowDot_ld x1 x2 8704 34 rfl, rowDot_ld x1 x2 8960 35 rfl, rowDot_ld x1 x2 9216 36 rfl, rowDot_ld x1 x2 9472 37 rfl, rowDot_ld x1 x2 9728 38 rfl, rowDot_ld x1 x2 9984 39 rfl]
    rfl
  refine step0 arg6 f _ _ _ (half x1 x2) 37 (by omega) rfl ?_ ?_
  · intro r l
    frame_out
    open_payloads
    simp only [← grp_def]
    pointwise [grp_0, grp_1, grp_2, grp_3, grp_4, grp_5, grp_6, grp_7]
    try simp only [harg2.read_unread, harg3.read_unread]
    rw [rowDot_ld x1 x2 8192 32 rfl, rowDot_ld x1 x2 8448 33 rfl, rowDot_ld x1 x2 8704 34 rfl, rowDot_ld x1 x2 8960 35 rfl, rowDot_ld x1 x2 9216 36 rfl, rowDot_ld x1 x2 9472 37 rfl, rowDot_ld x1 x2 9728 38 rfl, rowDot_ld x1 x2 9984 39 rfl]
    rfl
  refine step0 arg6 f _ _ _ (half x1 x2) 36 (by omega) rfl ?_ ?_
  · intro r l
    frame_out
    open_payloads
    simp only [← grp_def]
    pointwise [grp_0, grp_1, grp_2, grp_3, grp_4, grp_5, grp_6, grp_7]
    try simp only [harg2.read_unread, harg3.read_unread]
    rw [rowDot_ld x1 x2 8192 32 rfl, rowDot_ld x1 x2 8448 33 rfl, rowDot_ld x1 x2 8704 34 rfl, rowDot_ld x1 x2 8960 35 rfl, rowDot_ld x1 x2 9216 36 rfl, rowDot_ld x1 x2 9472 37 rfl, rowDot_ld x1 x2 9728 38 rfl, rowDot_ld x1 x2 9984 39 rfl]
    rfl
  refine step0 arg6 f _ _ _ (half x1 x2) 35 (by omega) rfl ?_ ?_
  · intro r l
    frame_out
    open_payloads
    simp only [← grp_def]
    pointwise [grp_0, grp_1, grp_2, grp_3, grp_4, grp_5, grp_6, grp_7]
    try simp only [harg2.read_unread, harg3.read_unread]
    rw [rowDot_ld x1 x2 8192 32 rfl, rowDot_ld x1 x2 8448 33 rfl, rowDot_ld x1 x2 8704 34 rfl, rowDot_ld x1 x2 8960 35 rfl, rowDot_ld x1 x2 9216 36 rfl, rowDot_ld x1 x2 9472 37 rfl, rowDot_ld x1 x2 9728 38 rfl, rowDot_ld x1 x2 9984 39 rfl]
    rfl
  refine step0 arg6 f _ _ _ (half x1 x2) 34 (by omega) rfl ?_ ?_
  · intro r l
    frame_out
    open_payloads
    simp only [← grp_def]
    pointwise [grp_0, grp_1, grp_2, grp_3, grp_4, grp_5, grp_6, grp_7]
    try simp only [harg2.read_unread, harg3.read_unread]
    rw [rowDot_ld x1 x2 8192 32 rfl, rowDot_ld x1 x2 8448 33 rfl, rowDot_ld x1 x2 8704 34 rfl, rowDot_ld x1 x2 8960 35 rfl, rowDot_ld x1 x2 9216 36 rfl, rowDot_ld x1 x2 9472 37 rfl, rowDot_ld x1 x2 9728 38 rfl, rowDot_ld x1 x2 9984 39 rfl]
    rfl
  refine step0 arg6 f _ _ _ (half x1 x2) 33 (by omega) rfl ?_ ?_
  · intro r l
    frame_out
    open_payloads
    simp only [← grp_def]
    pointwise [grp_0, grp_1, grp_2, grp_3, grp_4, grp_5, grp_6, grp_7]
    try simp only [harg2.read_unread, harg3.read_unread]
    rw [rowDot_ld x1 x2 8192 32 rfl, rowDot_ld x1 x2 8448 33 rfl, rowDot_ld x1 x2 8704 34 rfl, rowDot_ld x1 x2 8960 35 rfl, rowDot_ld x1 x2 9216 36 rfl, rowDot_ld x1 x2 9472 37 rfl, rowDot_ld x1 x2 9728 38 rfl, rowDot_ld x1 x2 9984 39 rfl]
    rfl
  refine step0 arg6 f _ _ _ (half x1 x2) 32 (by omega) rfl ?_ ?_
  · intro r l
    frame_out
    open_payloads
    simp only [← grp_def]
    pointwise [grp_0, grp_1, grp_2, grp_3, grp_4, grp_5, grp_6, grp_7]
    try simp only [harg2.read_unread, harg3.read_unread]
    rw [rowDot_ld x1 x2 8192 32 rfl, rowDot_ld x1 x2 8448 33 rfl, rowDot_ld x1 x2 8704 34 rfl, rowDot_ld x1 x2 8960 35 rfl, rowDot_ld x1 x2 9216 36 rfl, rowDot_ld x1 x2 9472 37 rfl, rowDot_ld x1 x2 9728 38 rfl, rowDot_ld x1 x2 9984 39 rfl]
    rfl
  refine step0 arg6 f _ _ _ (half x1 x2) 31 (by omega) rfl ?_ ?_
  · intro r l
    frame_out
    open_payloads
    simp only [← grp_def]
    pointwise [grp_0, grp_1, grp_2, grp_3, grp_4, grp_5, grp_6, grp_7]
    try simp only [harg2.read_unread, harg3.read_unread]
    rw [rowDot_ld x1 x2 6144 24 rfl, rowDot_ld x1 x2 6400 25 rfl, rowDot_ld x1 x2 6656 26 rfl, rowDot_ld x1 x2 6912 27 rfl, rowDot_ld x1 x2 7168 28 rfl, rowDot_ld x1 x2 7424 29 rfl, rowDot_ld x1 x2 7680 30 rfl, rowDot_ld x1 x2 7936 31 rfl]
    rfl
  refine step0 arg6 f _ _ _ (half x1 x2) 30 (by omega) rfl ?_ ?_
  · intro r l
    frame_out
    open_payloads
    simp only [← grp_def]
    pointwise [grp_0, grp_1, grp_2, grp_3, grp_4, grp_5, grp_6, grp_7]
    try simp only [harg2.read_unread, harg3.read_unread]
    rw [rowDot_ld x1 x2 6144 24 rfl, rowDot_ld x1 x2 6400 25 rfl, rowDot_ld x1 x2 6656 26 rfl, rowDot_ld x1 x2 6912 27 rfl, rowDot_ld x1 x2 7168 28 rfl, rowDot_ld x1 x2 7424 29 rfl, rowDot_ld x1 x2 7680 30 rfl, rowDot_ld x1 x2 7936 31 rfl]
    rfl
  refine step0 arg6 f _ _ _ (half x1 x2) 29 (by omega) rfl ?_ ?_
  · intro r l
    frame_out
    open_payloads
    simp only [← grp_def]
    pointwise [grp_0, grp_1, grp_2, grp_3, grp_4, grp_5, grp_6, grp_7]
    try simp only [harg2.read_unread, harg3.read_unread]
    rw [rowDot_ld x1 x2 6144 24 rfl, rowDot_ld x1 x2 6400 25 rfl, rowDot_ld x1 x2 6656 26 rfl, rowDot_ld x1 x2 6912 27 rfl, rowDot_ld x1 x2 7168 28 rfl, rowDot_ld x1 x2 7424 29 rfl, rowDot_ld x1 x2 7680 30 rfl, rowDot_ld x1 x2 7936 31 rfl]
    rfl
  refine step0 arg6 f _ _ _ (half x1 x2) 28 (by omega) rfl ?_ ?_
  · intro r l
    frame_out
    open_payloads
    simp only [← grp_def]
    pointwise [grp_0, grp_1, grp_2, grp_3, grp_4, grp_5, grp_6, grp_7]
    try simp only [harg2.read_unread, harg3.read_unread]
    rw [rowDot_ld x1 x2 6144 24 rfl, rowDot_ld x1 x2 6400 25 rfl, rowDot_ld x1 x2 6656 26 rfl, rowDot_ld x1 x2 6912 27 rfl, rowDot_ld x1 x2 7168 28 rfl, rowDot_ld x1 x2 7424 29 rfl, rowDot_ld x1 x2 7680 30 rfl, rowDot_ld x1 x2 7936 31 rfl]
    rfl
  refine step0 arg6 f _ _ _ (half x1 x2) 27 (by omega) rfl ?_ ?_
  · intro r l
    frame_out
    open_payloads
    simp only [← grp_def]
    pointwise [grp_0, grp_1, grp_2, grp_3, grp_4, grp_5, grp_6, grp_7]
    try simp only [harg2.read_unread, harg3.read_unread]
    rw [rowDot_ld x1 x2 6144 24 rfl, rowDot_ld x1 x2 6400 25 rfl, rowDot_ld x1 x2 6656 26 rfl, rowDot_ld x1 x2 6912 27 rfl, rowDot_ld x1 x2 7168 28 rfl, rowDot_ld x1 x2 7424 29 rfl, rowDot_ld x1 x2 7680 30 rfl, rowDot_ld x1 x2 7936 31 rfl]
    rfl
  refine step0 arg6 f _ _ _ (half x1 x2) 26 (by omega) rfl ?_ ?_
  · intro r l
    frame_out
    open_payloads
    simp only [← grp_def]
    pointwise [grp_0, grp_1, grp_2, grp_3, grp_4, grp_5, grp_6, grp_7]
    try simp only [harg2.read_unread, harg3.read_unread]
    rw [rowDot_ld x1 x2 6144 24 rfl, rowDot_ld x1 x2 6400 25 rfl, rowDot_ld x1 x2 6656 26 rfl, rowDot_ld x1 x2 6912 27 rfl, rowDot_ld x1 x2 7168 28 rfl, rowDot_ld x1 x2 7424 29 rfl, rowDot_ld x1 x2 7680 30 rfl, rowDot_ld x1 x2 7936 31 rfl]
    rfl
  refine step0 arg6 f _ _ _ (half x1 x2) 25 (by omega) rfl ?_ ?_
  · intro r l
    frame_out
    open_payloads
    simp only [← grp_def]
    pointwise [grp_0, grp_1, grp_2, grp_3, grp_4, grp_5, grp_6, grp_7]
    try simp only [harg2.read_unread, harg3.read_unread]
    rw [rowDot_ld x1 x2 6144 24 rfl, rowDot_ld x1 x2 6400 25 rfl, rowDot_ld x1 x2 6656 26 rfl, rowDot_ld x1 x2 6912 27 rfl, rowDot_ld x1 x2 7168 28 rfl, rowDot_ld x1 x2 7424 29 rfl, rowDot_ld x1 x2 7680 30 rfl, rowDot_ld x1 x2 7936 31 rfl]
    rfl
  refine step0 arg6 f _ _ _ (half x1 x2) 24 (by omega) rfl ?_ ?_
  · intro r l
    frame_out
    open_payloads
    simp only [← grp_def]
    pointwise [grp_0, grp_1, grp_2, grp_3, grp_4, grp_5, grp_6, grp_7]
    try simp only [harg2.read_unread, harg3.read_unread]
    rw [rowDot_ld x1 x2 6144 24 rfl, rowDot_ld x1 x2 6400 25 rfl, rowDot_ld x1 x2 6656 26 rfl, rowDot_ld x1 x2 6912 27 rfl, rowDot_ld x1 x2 7168 28 rfl, rowDot_ld x1 x2 7424 29 rfl, rowDot_ld x1 x2 7680 30 rfl, rowDot_ld x1 x2 7936 31 rfl]
    rfl
  exact h

end Cert.RotateIdeal.Hand

end
-- ==== Proof.RotateHalf3.lean ====
module

public import proofs.«01_k».proof.Proof.Gen.RotateIdeal.Value
public import Idealize.ShloMosaic.Lib.Pointwise
public import Idealize.ShloMosaic.Lib.Pipeline.ValueKit
public import Idealize.ShloMosaic.Lib.Pipeline.ReadBack
public import Idealize.ShloMosaic.Lib.WritesUnit
public import proofs.«01_k».proof.Proof.RotateGroup

@[expose] public section

set_option maxRecDepth 16384

noncomputable section

namespace Cert.RotateIdeal.Hand

open Cert.RotateIdeal Cert.RotateIdeal.Gen
open Idealize.ShloMosaic Idealize.ShloMosaic.TcCoe Idealize.SL.Sem

set_option maxHeartbeats 4000000

/-- The first 24 half-transformed blocks of the scratch, the last 24 of them stored here. -/
theorem half3 (c : Dev nD) (i : grid0.Coords) (arg1 : Memref sig .tc .smem S12x12 .f32) (harg1 : arg1.IsWhole) (arg2 : Memref sig .tc .vmem S32x24576 .bf16) (harg2 : arg2.IsWhole) (arg3 : Memref sig .tc .vmem S256x256 .bf16) (harg3 : arg3.IsWhole) (arg4 : Memref sig .tc .vmem S32x24576 .i8) (harg4 : arg4.IsWhole) (arg5 : Memref sig .tc .vmem S32x128 .f32) (harg5 : arg5.IsWhole) (arg6 : Memref sig .tc .vmem S96x32x256 .f32) (harg6 : arg6.IsWhole) (x1 : Vec Ideal S32x24576 .bf16) (x2 : Vec Ideal S256x256 .bf16) (f : BufTy.Contents (Elt Ideal) arg6.view.ty)
    (a : Fin 96) (r : Fin 32) (l : Fin 256) (ha : a.val < 24) :
    arg6.view.read (Elt Ideal) (arg6.view.writes (Elt Ideal) f ((kernelRun0_A.sl.HS0_96 (F := Ideal) c arg2 harg2 arg3 harg3 x1 x2).drop 72)) (ix3 a r l) = half x1 x2 a r l := by
  unfold kernelRun0_A.sl.HS0_96
  simp only [List.drop_succ_cons, List.drop_zero, List.drop_nil]
  revert a r l
  refine step0 arg6 f _ _ _ (half x1 x2) 23 (by omega) rfl ?_ ?_
  · intro r l
    frame_out
    open_payloads
    simp only [← grp_def]
    pointwise [grp_0, grp_1, grp_2, grp_3, grp_4, grp_5, grp_6, grp_7]
    try simp only [harg2.read_unread, harg3.read_unread]
    rw [rowDot_ld x1 x2 4096 16 rfl, rowDot_ld x1 x2 4352 17 rfl, rowDot_ld x1 x2 4608 18 rfl, rowDot_ld x1 x2 4864 19 rfl, rowDot_ld x1 x2 5120 20 rfl, rowDot_ld x1 x2 5376 21 rfl, rowDot_ld x1 x2 5632 22 rfl, rowDot_ld x1 x2 5888 23 rfl]
    rfl
  refine step0 arg6 f _ _ _ (half x1 x2) 22 (by omega) rfl ?_ ?_
  · intro r l
    frame_out
    open_payloads
    simp only [← grp_def]
    pointwise [grp_0, grp_1, grp_2, grp_3, grp_4, grp_5, grp_6, grp_7]
    try simp only [harg2.read_unread, harg3.read_unread]
    rw [rowDot_ld x1 x2 4096 16 rfl, rowDot_ld x1 x2 4352 17 rfl, rowDot_ld x1 x2 4608 18 rfl, rowDot_ld x1 x2 4864 19 rfl, rowDot_ld x1 x2 5120 20 rfl, rowDot_ld x1 x2 5376 21 rfl, rowDot_ld x1 x2 5632 22 rfl, rowDot_ld x1 x2 5888 23 rfl]
    rfl
  refine step0 arg6 f _ _ _ (half x1 x2) 21 (by omega) rfl ?_ ?_
  · intro r l
    frame_out
    open_payloads
    simp only [← grp_def]
    pointwise [grp_0, grp_1, grp_2, grp_3, grp_4, grp_5, grp_6, grp_7]
    try simp only [harg2.read_unread, harg3.read_unread]
    rw [rowDot_ld x1 x2 4096 16 rfl, rowDot_ld x1 x2 4352 17 rfl, rowDot_ld x1 x2 4608 18 rfl, rowDot_ld x1 x2 4864 19 rfl, rowDot_ld x1 x2 5120 20 rfl, rowDot_ld x1 x2 5376 21 rfl, rowDot_ld x1 x2 5632 22 rfl, rowDot_ld x1 x2 5888 23 rfl]
    rfl
  refine step0 arg6 f _ _ _ (half x1 x2) 20 (by omega) rfl ?_ ?_
  · intro r l
    frame_out
    open_payloads
    simp only [← grp_def]
    pointwise [grp_0, grp_1, grp_2, grp_3, grp_4, grp_5, grp_6, grp_7]
    try simp only [harg2.read_unread, harg3.read_unread]
    rw [rowDot_ld x1 x2 4096 16 rfl, rowDot_ld x1 x2 4352 17 rfl, rowDot_ld x1 x2 4608 18 rfl, rowDot_ld x1 x2 4864 19 rfl, rowDot_ld x1 x2 5120 20 rfl, rowDot_ld x1 x2 5376 21 rfl, rowDot_ld x1 x2 5632 22 rfl, rowDot_ld x1 x2 5888 23 rfl]
    rfl
  refine step0 arg6 f _ _ _ (half x1 x2) 19 (by omega) rfl ?_ ?_
  · intro r l
    frame_out
    open_payloads
    simp only [← grp_def]
    pointwise [grp_0, grp_1, grp_2, grp_3, grp_4, grp_5, grp_6, grp_7]
    try simp only [harg2.read_unread, harg3.read_unread]
    rw [rowDot_ld x1 x2 4096 16 rfl, rowDot_ld x1 x2 4352 17 rfl, rowDot_ld x1 x2 4608 18 rfl, rowDot_ld x1 x2 4864 19 rfl, rowDot_ld x1 x2 5120 20 rfl, rowDot_ld x1 x2 5376 21 rfl, rowDot_ld x1 x2 5632 22 rfl, rowDot_ld x1 x2 5888 23 rfl]
    rfl
  refine step0 arg6 f _ _ _ (half x1 x2) 18 (by omega) rfl ?_ ?_
  · intro r l
    frame_out
    open_payloads
    simp only [← grp_def]
    pointwise [grp_0, grp_1, grp_2, grp_3, grp_4, grp_5, grp_6, grp_7]
    try simp only [harg2.read_unread, harg3.read_unread]
    rw [rowDot_ld x1 x2 4096 16 rfl, rowDot_ld x1 x2 4352 17 rfl, rowDot_ld x1 x2 4608 18 rfl, rowDot_ld x1 x2 4864 19 rfl, rowDot_ld x1 x2 5120 20 rfl, rowDot_ld x1 x2 5376 21 rfl, rowDot_ld x1 x2 5632 22 rfl, rowDot_ld x1 x2 5888 23 rfl]
    rfl
  refine step0 arg6 f _ _ _ (half x1 x2) 17 (by omega) rfl ?_ ?_
  · intro r l
    frame_out
    open_payloads
    simp only [← grp_def]
    pointwise [grp_0, grp_1, grp_2, grp_3, grp_4, grp_5, grp_6, grp_7]
    try simp only [harg2.read_unread, harg3.read_unread]
    rw [rowDot_ld x1 x2 4096 16 rfl, rowDot_ld x1 x2 4352 17 rfl, rowDot_ld x1 x2 4608 18 rfl, rowDot_ld x1 x2 4864 19 rfl, rowDot_ld x1 x2 5120 20 rfl, rowDot_ld x1 x2 5376 21 rfl, rowDot_ld x1 x2 5632 22 rfl, rowDot_ld x1 x2 5888 23 rfl]
    rfl
  refine step0 arg6 f _ _ _ (half x1 x2) 16 (by omega) rfl ?_ ?_
  · intro r l
    frame_out
    open_payloads
    simp only [← grp_def]
    pointwise [grp_0, grp_1, grp_2, grp_3, grp_4, grp_5, grp_6, grp_7]
    try simp only [harg2.read_unread, harg3.read_unread]
    rw [rowDot_ld x1 x2 4096 16 rfl, rowDot_ld x1 x2 4352 17 rfl, rowDot_ld x1 x2 4608 18 rfl, rowDot_ld x1 x2 4864 19 rfl, rowDot_ld x1 x2 5120 20 rfl, rowDot_ld x1 x2 5376 21 rfl, rowDot_ld x1 x2 5632 22 rfl, rowDot_ld x1 x2 5888 23 rfl]
    rfl
  refine step0 arg6 f _ _ _ (half x1 x2) 15 (by omega) rfl ?_ ?_
  · intro r l
    frame_out
    open_payloads
    simp only [← grp_def]
    pointwise [grp_0, grp_1, grp_2, grp_3, grp_4, grp_5, grp_6, grp_7]
    try simp only [harg2.read_unread, harg3.read_unread]
    rw [rowDot_ld x1 x2 2048 8 rfl, rowDot_ld x1 x2 2304 9 rfl, rowDot_ld x1 x2 2560 10 rfl, rowDot_ld x1 x2 2816 11 rfl, rowDot_ld x1 x2 3072 12 rfl, rowDot_ld x1 x2 3328 13 rfl, rowDot_ld x1 x2 3584 14 rfl, rowDot_ld x1 x2 3840 15 rfl]
    rfl
  refine step0 arg6 f _ _ _ (half x1 x2) 14 (by omega) rfl ?_ ?_
  · intro r l
    frame_out
    open_payloads
    simp only [← grp_def]
    pointwise [grp_0, grp_1, grp_2, grp_3, grp_4, grp_5, grp_6, grp_7]
    try simp only [harg2.read_unread, harg3.read_unread]
    rw [rowDot_ld x1 x2 2048 8 rfl, rowDot_ld x1 x2 2304 9 rfl, rowDot_ld x1 x2 2560 10 rfl, rowDot_ld x1 x2 2816 11 rfl, rowDot_ld x1 x2 3072 12 rfl, rowDot_ld x1 x2 3328 13 rfl, rowDot_ld x1 x2 3584 14 rfl, rowDot_ld x1 x2 3840 15 rfl]
    rfl
  refine step0 arg6 f _ _ _ (half x1 x2) 13 (by omega) rfl ?_ ?_
  · intro r l
    frame_out
    open_payloads
    simp only [← grp_def]
    pointwise [grp_0, grp_1, grp_2, grp_3, grp_4, grp_5, grp_6, grp_7]
    try simp only [harg2.read_unread, harg3.read_unread]
    rw [rowDot_ld x1 x2 2048 8 rfl, rowDot_ld x1 x2 2304 9 rfl, rowDot_ld x1 x2 2560 10 rfl, rowDot_ld x1 x2 2816 11 rfl, rowDot_ld x1 x2 3072 12 rfl, rowDot_ld x1 x2 3328 13 rfl, rowDot_ld x1 x2 3584 14 rfl, rowDot_ld x1 x2 3840 15 rfl]
    rfl
  refine step0 arg6 f _ _ _ (half x1 x2) 12 (by omega) rfl ?_ ?_
  · intro r l
    frame_out
    open_payloads
    simp only [← grp_def]
    pointwise [grp_0, grp_1, grp_2, grp_3, grp_4, grp_5, grp_6, grp_7]
    try simp only [harg2.read_unread, harg3.read_unread]
    rw [rowDot_ld x1 x2 2048 8 rfl, rowDot_ld x1 x2 2304 9 rfl, rowDot_ld x1 x2 2560 10 rfl, rowDot_ld x1 x2 2816 11 rfl, rowDot_ld x1 x2 3072 12 rfl, rowDot_ld x1 x2 3328 13 rfl, rowDot_ld x1 x2 3584 14 rfl, rowDot_ld x1 x2 3840 15 rfl]
    rfl
  refine step0 arg6 f _ _ _ (half x1 x2) 11 (by omega) rfl ?_ ?_
  · intro r l
    frame_out
    open_payloads
    simp only [← grp_def]
    pointwise [grp_0, grp_1, grp_2, grp_3, grp_4, grp_5, grp_6, grp_7]
    try simp only [harg2.read_unread, harg3.read_unread]
    rw [rowDot_ld x1 x2 2048 8 rfl, rowDot_ld x1 x2 2304 9 rfl, rowDot_ld x1 x2 2560 10 rfl, rowDot_ld x1 x2 2816 11 rfl, rowDot_ld x1 x2 3072 12 rfl, rowDot_ld x1 x2 3328 13 rfl, rowDot_ld x1 x2 3584 14 rfl, rowDot_ld x1 x2 3840 15 rfl]
    rfl
  refine step0 arg6 f _ _ _ (half x1 x2) 10 (by omega) rfl ?_ ?_
  · intro r l
    frame_out
    open_payloads
    simp only [← grp_def]
    pointwise [grp_0, grp_1, grp_2, grp_3, grp_4, grp_5, grp_6, grp_7]
    try simp only [harg2.read_unread, harg3.read_unread]
    rw [rowDot_ld x1 x2 2048 8 rfl, rowDot_ld x1 x2 2304 9 rfl, rowDot_ld x1 x2 2560 10 rfl, rowDot_ld x1 x2 2816 11 rfl, rowDot_ld x1 x2 3072 12 rfl, rowDot_ld x1 x2 3328 13 rfl, rowDot_ld x1 x2 3584 14 rfl, rowDot_ld x1 x2 3840 15 rfl]
    rfl
  refine step0 arg6 f _ _ _ (half x1 x2) 9 (by omega) rfl ?_ ?_
  · intro r l
    frame_out
    open_payloads
    simp only [← grp_def]
    pointwise [grp_0, grp_1, grp_2, grp_3, grp_4, grp_5, grp_6, grp_7]
    try simp only [harg2.read_unread, harg3.read_unread]
    rw [rowDot_ld x1 x2 2048 8 rfl, rowDot_ld x1 x2 2304 9 rfl, rowDot_ld x1 x2 2560 10 rfl, rowDot_ld x1 x2 2816 11 rfl, rowDot_ld x1 x2 3072 12 rfl, rowDot_ld x1 x2 3328 13 rfl, rowDot_ld x1 x2 3584 14 rfl, rowDot_ld x1 x2 3840 15 rfl]
    rfl
  refine step0 arg6 f _ _ _ (half x1 x2) 8 (by omega) rfl ?_ ?_
  · intro r l
    frame_out
    open_payloads
    simp only [← grp_def]
    pointwise [grp_0, grp_1, grp_2, grp_3, grp_4, grp_5, grp_6, grp_7]
    try simp only [harg2.read_unread, harg3.read_unread]
    rw [rowDot_ld x1 x2 2048 8 rfl, rowDot_ld x1 x2 2304 9 rfl, rowDot_ld x1 x2 2560 10 rfl, rowDot_ld x1 x2 2816 11 rfl, rowDot_ld x1 x2 3072 12 rfl, rowDot_ld x1 x2 3328 13 rfl, rowDot_ld x1 x2 3584 14 rfl, rowDot_ld x1 x2 3840 15 rfl]
    rfl
  refine step0 arg6 f _ _ _ (half x1 x2) 7 (by omega) rfl ?_ ?_
  · intro r l
    frame_out
    open_payloads
    simp only [← grp_def]
    pointwise [grp_0, grp_1, grp_2, grp_3, grp_4, grp_5, grp_6, grp_7]
    try simp only [harg2.read_unread, harg3.read_unread]
    rw [rowDot_ld x1 x2 0 0 rfl, rowDot_ld x1 x2 256 1 rfl, rowDot_ld x1 x2 512 2 rfl, rowDot_ld x1 x2 768 3 rfl, rowDot_ld x1 x2 1024 4 rfl, rowDot_ld x1 x2 1280 5 rfl, rowDot_ld x1 x2 1536 6 rfl, rowDot_ld x1 x2 1792 7 rfl]
    rfl
  refine step0 arg6 f _ _ _ (half x1 x2) 6 (by omega) rfl ?_ ?_
  · intro r l
    frame_out
    open_payloads
    simp only [← grp_def]
    pointwise [grp_0, grp_1, grp_2, grp_3, grp_4, grp_5, grp_6, grp_7]
    try simp only [harg2.read_unread, harg3.read_unread]
    rw [rowDot_ld x1 x2 0 0 rfl, rowDot_ld x1 x2 256 1 rfl, rowDot_ld x1 x2 512 2 rfl, rowDot_ld x1 x2 768 3 rfl, rowDot_ld x1 x2 1024 4 rfl, rowDot_ld x1 x2 1280 5 rfl, rowDot_ld x1 x2 1536 6 rfl, rowDot_ld x1 x2 1792 7 rfl]
    rfl
  refine step0 arg6 f _ _ _ (half x1 x2) 5 (by omega) rfl ?_ ?_
  · intro r l
    frame_out
    open_payloads
    simp only [← grp_def]
    pointwise [grp_0, grp_1, grp_2, grp_3, grp_4, grp_5, grp_6, grp_7]
    try simp only [harg2.read_unread, harg3.read_unread]
    rw [rowDot_ld x1 x2 0 0 rfl, rowDot_ld x1 x2 256 1 rfl, rowDot_ld x1 x2 512 2 rfl, rowDot_ld x1 x2 768 3 rfl, rowDot_ld x1 x2 1024 4 rfl, rowDot_ld x1 x2 1280 5 rfl, rowDot_ld x1 x2 1536 6 rfl, rowDot_ld x1 x2 1792 7 rfl]
    rfl
  refine step0 arg6 f _ _ _ (half x1 x2) 4 (by omega) rfl ?_ ?_
  · intro r l
    frame_out
    open_payloads
    simp only [← grp_def]
    pointwise [grp_0, grp_1, grp_2, grp_3, grp_4, grp_5, grp_6, grp_7]
    try simp only [harg2.read_unread, harg3.read_unread]
    rw [rowDot_ld x1 x2 0 0 rfl, rowDot_ld x1 x2 256 1 rfl, rowDot_ld x1 x2 512 2 rfl, rowDot_ld x1 x2 768 3 rfl, rowDot_ld x1 x2 1024 4 rfl, rowDot_ld x1 x2 1280 5 rfl, rowDot_ld x1 x2 1536 6 rfl, rowDot_ld x1 x2 1792 7 rfl]
    rfl
  refine step0 arg6 f _ _ _ (half x1 x2) 3 (by omega) rfl ?_ ?_
  · intro r l
    frame_out
    open_payloads
    simp only [← grp_def]
    pointwise [grp_0, grp_1, grp_2, grp_3, grp_4, grp_5, grp_6, grp_7]
    try simp only [harg2.read_unread, harg3.read_unread]
    rw [rowDot_ld x1 x2 0 0 rfl, rowDot_ld x1 x2 256 1 rfl, rowDot_ld x1 x2 512 2 rfl, rowDot_ld x1 x2 768 3 rfl, rowDot_ld x1 x2 1024 4 rfl, rowDot_ld x1 x2 1280 5 rfl, rowDot_ld x1 x2 1536 6 rfl, rowDot_ld x1 x2 1792 7 rfl]
    rfl
  refine step0 arg6 f _ _ _ (half x1 x2) 2 (by omega) rfl ?_ ?_
  · intro r l
    frame_out
    open_payloads
    simp only [← grp_def]
    pointwise [grp_0, grp_1, grp_2, grp_3, grp_4, grp_5, grp_6, grp_7]
    try simp only [harg2.read_unread, harg3.read_unread]
    rw [rowDot_ld x1 x2 0 0 rfl, rowDot_ld x1 x2 256 1 rfl, rowDot_ld x1 x2 512 2 rfl, rowDot_ld x1 x2 768 3 rfl, rowDot_ld x1 x2 1024 4 rfl, rowDot_ld x1 x2 1280 5 rfl, rowDot_ld x1 x2 1536 6 rfl, rowDot_ld x1 x2 1792 7 rfl]
    rfl
  refine step0 arg6 f _ _ _ (half x1 x2) 1 (by omega) rfl ?_ ?_
  · intro r l
    frame_out
    open_payloads
    simp only [← grp_def]
    pointwise [grp_0, grp_1, grp_2, grp_3, grp_4, grp_5, grp_6, grp_7]
    try simp only [harg2.read_unread, harg3.read_unread]
    rw [rowDot_ld x1 x2 0 0 rfl, rowDot_ld x1 x2 256 1 rfl, rowDot_ld x1 x2 512 2 rfl, rowDot_ld x1 x2 768 3 rfl, rowDot_ld x1 x2 1024 4 rfl, rowDot_ld x1 x2 1280 5 rfl, rowDot_ld x1 x2 1536 6 rfl, rowDot_ld x1 x2 1792 7 rfl]
    rfl
  refine step0 arg6 f _ _ _ (half x1 x2) 0 (by omega) rfl ?_ ?_
  · intro r l
    frame_out
    open_payloads
    simp only [← grp_def]
    pointwise [grp_0, grp_1, grp_2, grp_3, grp_4, grp_5, grp_6, grp_7]
    try simp only [harg2.read_unread, harg3.read_unread]
    rw [rowDot_ld x1 x2 0 0 rfl, rowDot_ld x1 x2 256 1 rfl, rowDot_ld x1 x2 512 2 rfl, rowDot_ld x1 x2 768 3 rfl, rowDot_ld x1 x2 1024 4 rfl, rowDot_ld x1 x2 1280 5 rfl, rowDot_ld x1 x2 1536 6 rfl, rowDot_ld x1 x2 1792 7 rfl]
    rfl
  exact fun a r l ha => absurd ha (by omega)

end Cert.RotateIdeal.Hand

end
-- ==== Proof.RotateRun.lean ====
module

public import proofs.«01_k».proof.Proof.Gen.RotateIdeal.Value
public import Idealize.ShloMosaic.Lib.Pointwise
public import Idealize.ShloMosaic.Lib.Pipeline.ValueKit
public import Idealize.ShloMosaic.Lib.Pipeline.ReadBack
public import Idealize.ShloMosaic.Lib.WritesUnit
public import proofs.«01_k».proof.Proof.RotateStage
public import proofs.«01_k».proof.Proof.RotateHalf0
public import proofs.«01_k».proof.Proof.RotateHalf1
public import proofs.«01_k».proof.Proof.RotateHalf2
public import proofs.«01_k».proof.Proof.RotateHalf3

@[expose] public section

set_option maxRecDepth 16384

noncomputable section

namespace Cert.RotateIdeal.Hand

open Cert.RotateIdeal Cert.RotateIdeal.Gen
open Idealize.ShloMosaic Idealize.ShloMosaic.TcCoe Idealize.SL.Sem

/-- The scale of a row whose largest mixed magnitude is `x`: the magnitude brought to the orthonormal size, over seven; one if it is zero. -/
def scaleOf (x : EReal) : EReal :=
  if x * Ideal.ofBits FTy.f32 1003554284#32 = 0 then 1
  else Ideal.div (x * Ideal.ofBits FTy.f32 1003554284#32) (Ideal.ofBits FTy.f32 1088421888#32)

/-- The half-transformed blocks as contents of the scratch. -/
def halfS (X : S32x24576.Idx → EReal) (W : S256x256.Idx → EReal) : S96x32x256.Idx → EReal := fun y => half X W (y 0) (y 1) (y 2)

theorem fold_le (f : Fin 256 → EReal) (z : EReal) :
    Finset.fold max (Ideal.ofBits FTy.f32 4286578688#32) f Finset.univ ≤ z ↔ ∀ l, f l ≤ z := by
  have e : Ideal.ofBits FTy.f32 4286578688#32 = ⊥ := by
    simp [Ideal.ofBits, Ideal.ieee]
  rw [Finset.fold_max_le, e]
  simp

theorem fold_amax (H : S12x12.Idx → EReal) (S : S96x32x256.Idx → EReal) (r : Fin 32) (f : Fin 256 → EReal)
    (h : ∀ l z, f l ≤ z ↔ (0 : EReal) ≤ z ∧ ∀ d : Fin 8, d.val < 8 → ∀ j : Fin 12, max (mixd H S j d r l) (-(mixd H S j d r l)) ≤ z) :
    Finset.fold max (Ideal.ofBits FTy.f32 4286578688#32) f Finset.univ = amax H S r :=
  eq_amax H S r _ fun z => (fold_le f z).trans (forall_congr' fun l => h l z)

theorem pay730 (v : FVec Ideal S8x256 .f32) (r : Fin 8) (l : Fin 128) :
    k0_pay730 v (ix2 r l) = scaleOf (Finset.fold max (Ideal.ofBits FTy.f32 4286578688#32) (fun x => v (ix2 r x)) Finset.univ) := by
  unfold scaleOf
  open_payloads
  pointwise []

theorem pay736 (v : FVec Ideal S8x256 .f32) (r : Fin 8) (l : Fin 128) :
    k0_pay736 (k0_pay734 v) (k0_pay735 v) kernelRun0_A.sl.cst_341 (ix2 r l) = scaleOf (Finset.fold max (Ideal.ofBits FTy.f32 4286578688#32) (fun x => v (ix2 r x)) Finset.univ) := by
  unfold scaleOf kernelRun0_A.sl.cst_341
  open_payloads
  pointwise []

theorem pay740 (v : FVec Ideal S8x256 .f32) (r : Fin 8) (l : Fin 128) :
    k0_pay740 v (ix2 r l) = scaleOf (Finset.fold max (Ideal.ofBits FTy.f32 4286578688#32) (fun x => v (ix2 r x)) Finset.univ) := by
  unfold scaleOf
  open_payloads
  pointwise []

theorem pay747 (v : FVec Ideal S8x256 .f32) (r : Fin 8) (l : Fin 128) :
    k0_pay747 (k0_pay745 v) (k0_pay746 v) (ix2 r l) = scaleOf (Finset.fold max (Ideal.ofBits FTy.f32 4286578688#32) (fun x => v (ix2 r x)) Finset.univ) := by
  unfold scaleOf
  open_payloads
  pointwise []

theorem pay727 (j : S8x256.Idx) : k0_pay727 (F := Ideal) j = 0 := by open_payloads; pointwise []
theorem pay731 (j : S8x256.Idx) : k0_pay731 (F := Ideal) j = 0 := by open_payloads; pointwise []
theorem pay737 (j : S8x256.Idx) : k0_pay737 (F := Ideal) j = 0 := by open_payloads; pointwise []
theorem pay741 (j : S8x256.Idx) : k0_pay741 (F := Ideal) j = 0 := by open_payloads; pointwise []

/-- What the first phase leaves in the scratch. -/
theorem scratch0 (c : Dev nD) (i : grid0.Coords) (arg1 : Memref sig .tc .smem S12x12 .f32) (harg1 : arg1.IsWhole) (arg2 : Memref sig .tc .vmem S32x24576 .bf16) (harg2 : arg2.IsWhole) (arg3 : Memref sig .tc .vmem S256x256 .bf16) (harg3 : arg3.IsWhole) (arg4 : Memref sig .tc .vmem S32x24576 .i8) (harg4 : arg4.IsWhole) (arg5 : Memref sig .tc .vmem S32x128 .f32) (harg5 : arg5.IsWhole) (arg6 : Memref sig .tc .vmem S96x32x256 .f32) (harg6 : arg6.IsWhole) (x1 : Vec Ideal S32x24576 .bf16) (x2 : Vec Ideal S256x256 .bf16) :
    View.canon (kernelRun0_A.sl.HS0_96 (F := Ideal) c arg2 harg2 arg3 harg3 x1 x2) = halfS x1 x2 := by
  funext y
  idx_vars y
  rw [← View.read_writes_junk_eq_canon arg6.view]
  have h3 := half3 c i arg1 harg1 arg2 harg2 arg3 harg3 arg4 harg4 arg5 harg5 arg6 harg6 x1 x2 arg6.view.junk
  have h2 := half2 c i arg1 harg1 arg2 harg2 arg3 harg3 arg4 harg4 arg5 harg5 arg6 harg6 x1 x2 arg6.view.junk h3
  have h1 := half1 c i arg1 harg1 arg2 harg2 arg3 harg3 arg4 harg4 arg5 harg5 arg6 harg6 x1 x2 arg6.view.junk h2
  have h0 := half0 c i arg1 harg1 arg2 harg2 arg3 harg3 arg4 harg4 arg5 harg5 arg6 harg6 x1 x2 arg6.view.junk h1
  exact h0 y0 y1 y2 y0.isLt

/-- What a run leaves as the scales of its rows. -/
theorem scale_out (c : Dev nD) (i : grid0.Coords) (arg1 : Memref sig .tc .smem S12x12 .f32) (harg1 : arg1.IsWhole) (arg2 : Memref sig .tc .vmem S32x24576 .bf16) (harg2 : arg2.IsWhole) (arg3 : Memref sig .tc .vmem S256x256 .bf16) (harg3 : arg3.IsWhole) (arg4 : Memref sig .tc .vmem S32x24576 .i8) (harg4 : arg4.IsWhole) (arg5 : Memref sig .tc .vmem S32x128 .f32) (harg5 : arg5.IsWhole) (arg6 : Memref sig .tc .vmem S96x32x256 .f32) (harg6 : arg6.IsWhole) (x0 : Vec Ideal S12x12 .f32) (x1 : Vec Ideal S32x24576 .bf16) (x2 : Vec Ideal S256x256 .bf16) (r : Fin 32) (l : Fin 128) :
    View.canon (kernelRun0_A.sl.H4_4 (F := Ideal) c i arg1 harg1 arg2 harg2 arg3 harg3 arg4 harg4 arg5 harg5 arg6 harg6 x0 x1 x2) (ix2 r l) = scaleOf (amax x0 (halfS x1 x2) r) := by
  unfold kernelRun0_A.sl.H4_4 kernelRun0_A.sl.r_117 kernelRun0_A.sl.r_118 kernelRun0_A.sl.r_119 kernelRun0_A.sl.r_120
  canon_tiles q h
  · idx_vars q
    have hx : r.val = 24 + q0.val := by simpa using h0
    have e : (⟨24 + q0.val, by omega⟩ : Fin 32) = r := Fin.ext hx.symm
    rw [pay747, fold_amax x0 (halfS x1 x2) r]
    intro l z
    refine (carry4 _ _ _ _ _ _ _ _ _ _ _ _ _ _ _ _ _ _ _ _ _ _ _).trans ?_
    rw [pay741, harg1.read_unread, e, stage3, stage2, stage1, scratch0 c i arg1 harg1 arg2 harg2 arg3 harg3 arg4 harg4 arg5 harg5 arg6 harg6, harg1.read_unread]
    have key : ∀ (j : Fin 12) (d : Fin 8) (l : Fin 256), mixd x0 (mixRows x0 16 (mixRows x0 8 (mixRows x0 0 (halfS x1 x2)))) j d r l = mixd x0 (halfS x1 x2) j d r l := fun j d l =>
      mixd_congr _ _ _ _ _ _ _ fun a _ => by rw [mixRows_ix3, if_neg (by show ¬ (_ ≤ r.val ∧ r.val < _); omega), mixRows_ix3, if_neg (by show ¬ (_ ≤ r.val ∧ r.val < _); omega), mixRows_ix3, if_neg (by show ¬ (_ ≤ r.val ∧ r.val < _); omega)]
    simp only [key]
  · idx_vars q
    have hx : r.val = 16 + q0.val := by simpa using h0
    have e : (⟨16 + q0.val, by omega⟩ : Fin 32) = r := Fin.ext hx.symm
    rw [pay740, fold_amax x0 (halfS x1 x2) r]
    intro l z
    refine (carry3 _ _ _ _ _ _ _ _ _ _ _ _ _ _ _ _ _ _ _ _ _ _ _).trans ?_
    rw [pay737, harg1.read_unread, e, stage2, stage1, scratch0 c i arg1 harg1 arg2 harg2 arg3 harg3 arg4 harg4 arg5 harg5 arg6 harg6, harg1.read_unread]
    have key : ∀ (j : Fin 12) (d : Fin 8) (l : Fin 256), mixd x0 (mixRows x0 8 (mixRows x0 0 (halfS x1 x2))) j d r l = mixd x0 (halfS x1 x2) j d r l := fun j d l =>
      mixd_congr _ _ _ _ _ _ _ fun a _ => by rw [mixRows_ix3, if_neg (by show ¬ (_ ≤ r.val ∧ r.val < _); omega), mixRows_ix3, if_neg (by show ¬ (_ ≤ r.val ∧ r.val < _); omega)]
    simp only [key]
  · idx_vars q
    have hx : r.val = 8 + q0.val := by simpa using h0
    have e : (⟨8 + q0.val, by omega⟩ : Fin 32) = r := Fin.ext hx.symm
    rw [pay736, fold_amax x0 (halfS x1 x2) r]
    intro l z
    refine (carry2 _ _ _ _ _ _ _ _ _ _ _ _ _ _ _ _ _ _ _ _ _ _).trans ?_
    rw [pay731, harg1.read_unread, e, stage1, scratch0 c i arg1 harg1 arg2 harg2 arg3 harg3 arg4 harg4 arg5 harg5 arg6 harg6, harg1.read_unread]
    have key : ∀ (j : Fin 12) (d : Fin 8) (l : Fin 256), mixd x0 (mixRows x0 0 (halfS x1 x2)) j d r l = mixd x0 (halfS x1 x2) j d r l := fun j d l =>
      mixd_congr _ _ _ _ _ _ _ fun a _ => by rw [mixRows_ix3, if_neg (by show ¬ (_ ≤ r.val ∧ r.val < _); omega)]
    simp only [key]
  · idx_vars q
    have hx : r.val = 0 + q0.val := by simpa using h0
    have e : (⟨0 + q0.val, by omega⟩ : Fin 32) = r := Fin.ext hx.symm
    rw [pay730, fold_amax x0 (halfS x1 x2) r]
    intro l z
    refine (carry1 _ _ _ _ _ _ _ _ _ _ _ _ _ _ _ _ _ _ _ _ _ _).trans ?_
    rw [pay727, harg1.read_unread, e, scratch0 c i arg1 harg1 arg2 harg2 arg3 harg3 arg4 harg4 arg5 harg5 arg6 harg6]

end Cert.RotateIdeal.Hand

end
-- ==== Proof.RotateCode.lean ====
module

public import proofs.«01_k».proof.Proof.Gen.RotateIdeal.Value
public import Idealize.ShloMosaic.Lib.Pointwise
public import Idealize.ShloMosaic.Lib.Pipeline.ValueKit
public import Idealize.ShloMosaic.Lib.Pipeline.ReadBack
public import Idealize.ShloMosaic.Lib.WritesUnit
public import proofs.«01_k».proof.Proof.RotateRun
@[expose] public section

set_option maxRecDepth 16384

noncomputable section

namespace Cert.RotateIdeal.Hand

open Cert.RotateIdeal Cert.RotateIdeal.Gen
open Idealize.ShloMosaic Idealize.ShloMosaic.TcCoe Idealize.SL.Sem

/-- The stores into the scratch after loop 1. -/
def L1 (c : Dev nD) (i : grid0.Coords) (arg1 : Memref sig .tc .smem S12x12 .f32) (harg1 : arg1.IsWhole) (arg2 : Memref sig .tc .vmem S32x24576 .bf16) (harg2 : arg2.IsWhole) (arg3 : Memref sig .tc .vmem S256x256 .bf16) (harg3 : arg3.IsWhole) (arg4 : Memref sig .tc .vmem S32x24576 .i8) (harg4 : arg4.IsWhole) (arg5 : Memref sig .tc .vmem S32x128 .f32) (harg5 : arg5.IsWhole) (arg6 : Memref sig .tc .vmem S96x32x256 .f32) (harg6 : arg6.IsWhole) (x0 : Vec Ideal S12x12 .f32) (x1 : Vec Ideal S32x24576 .bf16) (x2 : Vec Ideal S256x256 .bf16) : List (View.Piece (Elt Ideal) S96x32x256 .f32) :=
  (st_k0_t1 (F := Ideal) Variants.none c none i arg1 harg1 arg2 harg2 arg3 harg3 arg4 harg4 arg5 harg5 arg6 harg6 (kernelRun0_A.sl.r_115 (F := Ideal) c arg2 harg2 arg3 harg3 x1 x2) (kernelRun0_A.sl.r_116 (F := Ideal) c arg2 harg2 arg3 harg3 x1 x2) (harg1.unread x0) (arg6.view.writes (Elt Ideal) arg6.view.junk (kernelRun0_A.sl.HS0_96 (F := Ideal) c arg2 harg2 arg3 harg3 x1 x2)) k0_pay727 (Scf.trips k0_t1_loop.lb k0_t1_loop.ub k0_t1_loop.st)).2 ++ (kernelRun0_A.sl.HS0_96 (F := Ideal) c arg2 harg2 arg3 harg3 x1 x2)

/-- The stores into the scratch after loop 2. -/
def L2 (c : Dev nD) (i : grid0.Coords) (arg1 : Memref sig .tc .smem S12x12 .f32) (harg1 : arg1.IsWhole) (arg2 : Memref sig .tc .vmem S32x24576 .bf16) (harg2 : arg2.IsWhole) (arg3 : Memref sig .tc .vmem S256x256 .bf16) (harg3 : arg3.IsWhole) (arg4 : Memref sig .tc .vmem S32x24576 .i8) (harg4 : arg4.IsWhole) (arg5 : Memref sig .tc .vmem S32x128 .f32) (harg5 : arg5.IsWhole) (arg6 : Memref sig .tc .vmem S96x32x256 .f32) (harg6 : arg6.IsWhole) (x0 : Vec Ideal S12x12 .f32) (x1 : Vec Ideal S32x24576 .bf16) (x2 : Vec Ideal S256x256 .bf16) : List (View.Piece (Elt Ideal) S96x32x256 .f32) :=
  (st_k0_t2 (F := Ideal) Variants.none c none i arg1 harg1 arg2 harg2 arg3 harg3 arg4 harg4 arg5 harg5 arg6 harg6 (kernelRun0_A.sl.r_115 (F := Ideal) c arg2 harg2 arg3 harg3 x1 x2) (kernelRun0_A.sl.r_116 (F := Ideal) c arg2 harg2 arg3 harg3 x1 x2) (harg1.unread x0) (arg6.view.writes (Elt Ideal) arg6.view.junk (L1 c i arg1 harg1 arg2 harg2 arg3 harg3 arg4 harg4 arg5 harg5 arg6 harg6 x0 x1 x2)) k0_pay731 (Scf.trips k0_t2_loop.lb k0_t2_loop.ub k0_t2_loop.st)).2 ++ (L1 c i arg1 harg1 arg2 harg2 arg3 harg3 arg4 harg4 arg5 harg5 arg6 harg6 x0 x1 x2)

/-- The stores into the scratch after loop 3. -/
def L3 (c : Dev nD) (i : grid0.Coords) (arg1 : Memref sig .tc .smem S12x12 .f32) (harg1 : arg1.IsWhole) (arg2 : Memref sig .tc .vmem S32x24576 .bf16) (harg2 : arg2.IsWhole) (arg3 : Memref sig .tc .vmem S256x256 .bf16) (harg3 : arg3.IsWhole) (arg4 : Memref sig .tc .vmem S32x24576 .i8) (harg4 : arg4.IsWhole) (arg5 : Memref sig .tc .vmem S32x128 .f32) (harg5 : arg5.IsWhole) (arg6 : Memref sig .tc .vmem S96x32x256 .f32) (harg6 : arg6.IsWhole) (x0 : Vec Ideal S12x12 .f32) (x1 : Vec Ideal S32x24576 .bf16) (x2 : Vec Ideal S256x256 .bf16) : List (View.Piece (Elt Ideal) S96x32x256 .f32) :=
  (st_k0_t3 (F := Ideal) Variants.none c none i arg1 harg1 arg2 harg2 arg3 harg3 arg4 harg4 arg5 harg5 arg6 harg6 (kernelRun0_A.sl.r_117 (F := Ideal) c i arg1 harg1 arg2 harg2 arg3 harg3 arg4 harg4 arg5 harg5 arg6 harg6 x0 x1 x2) (kernelRun0_A.sl.r_118 (F := Ideal) c i arg1 harg1 arg2 harg2 arg3 harg3 arg4 harg4 arg5 harg5 arg6 harg6 x0 x1 x2) kernelRun0_A.sl.cst_341 (harg1.unread x0) (arg6.view.writes (Elt Ideal) arg6.view.junk (L2 c i arg1 harg1 arg2 harg2 arg3 harg3 arg4 harg4 arg5 harg5 arg6 harg6 x0 x1 x2)) k0_pay737 (Scf.trips k0_t3_loop.lb k0_t3_loop.ub k0_t3_loop.st)).2 ++ (L2 c i arg1 harg1 arg2 harg2 arg3 harg3 arg4 harg4 arg5 harg5 arg6 harg6 x0 x1 x2)

/-- The stores into the scratch after loop 4. -/
def L4 (c : Dev nD) (i : grid0.Coords) (arg1 : Memref sig .tc .smem S12x12 .f32) (harg1 : arg1.IsWhole) (arg2 : Memref sig .tc .vmem S32x24576 .bf16) (harg2 : arg2.IsWhole) (arg3 : Memref sig .tc .vmem S256x256 .bf16) (harg3 : arg3.IsWhole) (arg4 : Memref sig .tc .vmem S32x24576 .i8) (harg4 : arg4.IsWhole) (arg5 : Memref sig .tc .vmem S32x128 .f32) (harg5 : arg5.IsWhole) (arg6 : Memref sig .tc .vmem S96x32x256 .f32) (harg6 : arg6.IsWhole) (x0 : Vec Ideal S12x12 .f32) (x1 : Vec Ideal S32x24576 .bf16) (x2 : Vec Ideal S256x256 .bf16) : List (View.Piece (Elt Ideal) S96x32x256 .f32) :=
  (st_k0_t4 (F := Ideal) Variants.none c none i arg1 harg1 arg2 harg2 arg3 harg3 arg4 harg4 arg5 harg5 arg6 harg6 (kernelRun0_A.sl.r_117 (F := Ideal) c i arg1 harg1 arg2 harg2 arg3 harg3 arg4 harg4 arg5 harg5 arg6 harg6 x0 x1 x2) (kernelRun0_A.sl.r_118 (F := Ideal) c i arg1 harg1 arg2 harg2 arg3 harg3 arg4 harg4 arg5 harg5 arg6 harg6 x0 x1 x2) kernelRun0_A.sl.cst_341 (harg1.unread x0) (arg6.view.writes (Elt Ideal) arg6.view.junk (L3 c i arg1 harg1 arg2 harg2 arg3 harg3 arg4 harg4 arg5 harg5 arg6 harg6 x0 x1 x2)) k0_pay741 (Scf.trips k0_t4_loop.lb k0_t4_loop.ub k0_t4_loop.st)).2 ++ (L3 c i arg1 harg1 arg2 harg2 arg3 harg3 arg4 harg4 arg5 harg5 arg6 harg6 x0 x1 x2)

/-- The scratch the codes are taken from: every segment transformed and mixed. -/
theorem canon_L4 (c : Dev nD) (i : grid0.Coords) (arg1 : Memref sig .tc .smem S12x12 .f32) (harg1 : arg1.IsWhole) (arg2 : Memref sig .tc .vmem S32x24576 .bf16) (harg2 : arg2.IsWhole) (arg3 : Memref sig .tc .vmem S256x256 .bf16) (harg3 : arg3.IsWhole) (arg4 : Memref sig .tc .vmem S32x24576 .i8) (harg4 : arg4.IsWhole) (arg5 : Memref sig .tc .vmem S32x128 .f32) (harg5 : arg5.IsWhole) (arg6 : Memref sig .tc .vmem S96x32x256 .f32) (harg6 : arg6.IsWhole) (x0 : Vec Ideal S12x12 .f32) (x1 : Vec Ideal S32x24576 .bf16) (x2 : Vec Ideal S256x256 .bf16) (a : Fin 96) (r : Fin 32) (l : Fin 256) :
    View.canon (L4 c i arg1 harg1 arg2 harg2 arg3 harg3 arg4 harg4 arg5 harg5 arg6 harg6 x0 x1 x2) (ix3 a r l) = mixAll x0 (halfS x1 x2) a r l := by
  unfold L4 L3 L2 L1
  rw [stage4, stage3, stage2, stage1, scratch0 c i arg1 harg1 arg2 harg2 arg3 harg3 arg4 harg4 arg5 harg5 arg6 harg6, harg1.read_unread]
  exact mixRows_all ..

/-- A read of 128 columns of one block of the mixed scratch. -/
theorem v_at (c : Dev nD) (i : grid0.Coords) (arg1 : Memref sig .tc .smem S12x12 .f32) (harg1 : arg1.IsWhole) (arg2 : Memref sig .tc .vmem S32x24576 .bf16) (harg2 : arg2.IsWhole) (arg3 : Memref sig .tc .vmem S256x256 .bf16) (harg3 : arg3.IsWhole) (arg4 : Memref sig .tc .vmem S32x24576 .i8) (harg4 : arg4.IsWhole) (arg5 : Memref sig .tc .vmem S32x128 .f32) (harg5 : arg5.IsWhole) (arg6 : Memref sig .tc .vmem S96x32x256 .f32) (harg6 : arg6.IsWhole) (x0 : Vec Ideal S12x12 .f32) (x1 : Vec Ideal S32x24576 .bf16) (x2 : Vec Ideal S256x256 .bf16) (q : Fin 192) (a o : ℕ) (ha : a = q.val / 2) (ho : o = q.val % 2 * 128)
    (inb : ∀ ax, (![a, 0, o] : Fin 3 → ℕ) ax + (![1, 32, 128] : Fin 3 → ℕ) ax ≤ S96x32x256.size ax) (r : Fin 32) (l : Fin 128) :
    arg6.view.readCov (Val := Elt Ideal) (L4 c i arg1 harg1 arg2 harg2 arg3 harg3 arg4 harg4 arg5 harg5 arg6 harg6 x0 x1 x2) (Rect.unit (s := S96x32x256) ![a, 0, o] ![1, 32, 128] inb).toLoadRect (ix3 0 r l)
      = mixAll x0 (halfS x1 x2) ⟨q.val / 2, by omega⟩ r ⟨q.val % 2 * 128 + l.val, by omega⟩ := by
  subst ha ho
  rw [View.readCov_eq_canon', ← canon_L4 c i arg1 harg1 arg2 harg2 arg3 harg3 arg4 harg4 arg5 harg5 arg6 harg6]
  refine congrArg (View.canon _) (funext fun ax => ?_)
  match ax with
  | ⟨0, _⟩ => exact Fin.ext (by show q.val / 2 + 0 = q.val / 2; omega)
  | ⟨1, _⟩ => exact Fin.ext (by show 0 + 1 * r.val = r.val; omega)
  | ⟨2, _⟩ => exact Fin.ext (by show q.val % 2 * 128 + 1 * l.val = q.val % 2 * 128 + l.val; omega)

/-- The scales the codes are taken from. -/
theorem scale_at (c : Dev nD) (i : grid0.Coords) (arg1 : Memref sig .tc .smem S12x12 .f32) (harg1 : arg1.IsWhole) (arg2 : Memref sig .tc .vmem S32x24576 .bf16) (harg2 : arg2.IsWhole) (arg3 : Memref sig .tc .vmem S256x256 .bf16) (harg3 : arg3.IsWhole) (arg4 : Memref sig .tc .vmem S32x24576 .i8) (harg4 : arg4.IsWhole) (arg5 : Memref sig .tc .vmem S32x128 .f32) (harg5 : arg5.IsWhole) (arg6 : Memref sig .tc .vmem S96x32x256 .f32) (harg6 : arg6.IsWhole) (x0 : Vec Ideal S12x12 .f32) (x1 : Vec Ideal S32x24576 .bf16) (x2 : Vec Ideal S256x256 .bf16) (r : Fin 32) (l : Fin 128) :
    kernelRun0_A.sl.v1084 (F := Ideal) c i arg1 harg1 arg2 harg2 arg3 harg3 arg4 harg4 arg5 harg5 arg6 harg6 x0 x1 x2 (ix2 r l) = scaleOf (amax x0 (halfS x1 x2) r) := by
  unfold kernelRun0_A.sl.v1084
  rw [View.readCov_eq_canon', ← scale_out c i arg1 harg1 arg2 harg2 arg3 harg3 arg4 harg4 arg5 harg5 arg6 harg6 x0 x1 x2 r l]
  exact congrArg (View.canon _) (funext fun ax => match ax with
    | ⟨0, _⟩ => Fin.ext (by show 0 + 1 * r.val = r.val; omega)
    | ⟨1, _⟩ => Fin.ext (by show 0 + 1 * l.val = l.val; omega))

/-- The factor the mixed values are multiplied with before they are rounded. -/
theorem inv_at (c : Dev nD) (i : grid0.Coords) (arg1 : Memref sig .tc .smem S12x12 .f32) (harg1 : arg1.IsWhole) (arg2 : Memref sig .tc .vmem S32x24576 .bf16) (harg2 : arg2.IsWhole) (arg3 : Memref sig .tc .vmem S256x256 .bf16) (harg3 : arg3.IsWhole) (arg4 : Memref sig .tc .vmem S32x24576 .i8) (harg4 : arg4.IsWhole) (arg5 : Memref sig .tc .vmem S32x128 .f32) (harg5 : arg5.IsWhole) (arg6 : Memref sig .tc .vmem S96x32x256 .f32) (harg6 : arg6.IsWhole) (x0 : Vec Ideal S12x12 .f32) (x1 : Vec Ideal S32x24576 .bf16) (x2 : Vec Ideal S256x256 .bf16) (r : Fin 32) (l : Fin 128) :
    kernelRun0_A.sl.r_121 (F := Ideal) c i arg1 harg1 arg2 harg2 arg3 harg3 arg4 harg4 arg5 harg5 arg6 harg6 x0 x1 x2 (ix2 r l) = Ideal.div (Ideal.ofBits FTy.f32 1003554284#32) (scaleOf (amax x0 (halfS x1 x2) r)) := by
  unfold kernelRun0_A.sl.r_121
  open_payloads
  pointwise []
  rw [scale_at]

/-- The code of a mixed value `v` under the factor `s`. -/
def codeOf (v s : EReal) : BitVec 8 :=
  FloatOps.fptosi (F := Ideal) (φ := .f32) 8 (min (Ideal.ofBits FTy.f32 1088421888#32) (max (Ideal.ofBits FTy.f32 3235905536#32) (FloatOps.roundeven (F := Ideal) (φ := .f32) (v * s))))

/-- The code of row `r`, column `128 q + l`. -/
def code (H : S12x12.Idx → EReal) (S : S96x32x256.Idx → EReal) (r : Fin 32) (q : Fin 192) (l : Fin 128) : BitVec 8 :=
  codeOf (mixAll H S ⟨q.val / 2, by omega⟩ r ⟨q.val % 2 * 128 + l.val, by omega⟩) (Ideal.div (Ideal.ofBits FTy.f32 1003554284#32) (scaleOf (amax H S r)))

theorem code_eq (H : S12x12.Idx → EReal) (S : S96x32x256.Idx → EReal) (r : Fin 32) (q : Fin 192) (l : Fin 128) (X : EReal)
    (h : X = mixAll H S ⟨q.val / 2, by omega⟩ r ⟨q.val % 2 * 128 + l.val, by omega⟩) :
    codeOf X (Ideal.div (Ideal.ofBits FTy.f32 1003554284#32) (scaleOf (amax H S r))) = code H S r q l := by
  subst h
  rfl

/-- One store of 128 columns of codes. -/
theorem stepc (v : View sig .tc .vmem S32x24576 .i8) (f : BufTy.Contents (Elt Ideal) v.ty) {off : Fin 2 → ℕ} (inb : ∀ a, off a + (![32, 128] : Fin 2 → ℕ) a ≤ S32x24576.size a)
    (w : S32x128.Idx → BitVec 8) (L : List (View.Piece (Elt Ideal) S32x24576 .i8))
    (M : Fin 32 → Fin 192 → Fin 128 → BitVec 8) (j : ℕ) (hj : j < 192) (hoff : off = ![0, 128 * j])
    (hw : ∀ (r : Fin 32) (l : Fin 128), w (ix2 r l) = M r ⟨j, hj⟩ l)
    (hL : ∀ (r : Fin 32) (q : Fin 192) (l : Fin 128), q.val < j → v.read (Elt Ideal) (v.writes (Elt Ideal) f L) (ix2 r ⟨128 * q.val + l.val, by omega⟩) = M r q l)
    (r : Fin 32) (q : Fin 192) (l : Fin 128) (ha : q.val < j + 1) :
    v.read (Elt Ideal) (v.writes (Elt Ideal) f ((⟨Rect.unit off ![32, 128] inb, w⟩ : View.Piece (Elt Ideal) S32x24576 .i8) :: L)) (ix2 r ⟨128 * q.val + l.val, by omega⟩)
      = M r q l := by
  by_cases h : q.val = j
  · obtain rfl : q = ⟨j, hj⟩ := Fin.ext h
    refine (View.read_writes_cons_unit_of_mem (off' := ![0, 128 * j]) v f inb w L _ (ix2 r l) hoff ?_).trans (hw _ _)
    intro ax
    match ax with
    | ⟨0, _⟩ => show r.val = 0 + r.val; omega
    | ⟨1, _⟩ => rfl
  · refine (View.read_writes_cons_unit_of_not_mem (off' := ![0, 128 * j]) v f inb w L _ hoff 1 ?_).trans (hL r q l (by omega))
    show 128 * q.val + l.val < 128 * j ∨ 128 * j + 128 ≤ 128 * q.val + l.val
    omega

end Cert.RotateIdeal.Hand

end
-- ==== Proof.RotateCodes0.lean ====
module

public import proofs.«01_k».proof.Proof.Gen.RotateIdeal.Value
public import Idealize.ShloMosaic.Lib.Pointwise
public import Idealize.ShloMosaic.Lib.Pipeline.ValueKit
public import Idealize.ShloMosaic.Lib.Pipeline.ReadBack
public import Idealize.ShloMosaic.Lib.WritesUnit
public import proofs.«01_k».proof.Proof.RotateCode
set_option maxHeartbeats 4000000

@[expose] public section

set_option maxRecDepth 16384

noncomputable section

namespace Cert.RotateIdeal.Hand

open Cert.RotateIdeal Cert.RotateIdeal.Gen
open Idealize.ShloMosaic Idealize.ShloMosaic.TcCoe Idealize.SL.Sem

/-- The codes of the first 192 pieces of 128 columns, the last 48 of them stored here. -/
theorem codes0 (c : Dev nD) (i : grid0.Coords) (arg1 : Memref sig .tc .smem S12x12 .f32) (harg1 : arg1.IsWhole) (arg2 : Memref sig .tc .vmem S32x24576 .bf16) (harg2 : arg2.IsWhole) (arg3 : Memref sig .tc .vmem S256x256 .bf16) (harg3 : arg3.IsWhole) (arg4 : Memref sig .tc .vmem S32x24576 .i8) (harg4 : arg4.IsWhole) (arg5 : Memref sig .tc .vmem S32x128 .f32) (harg5 : arg5.IsWhole) (arg6 : Memref sig .tc .vmem S96x32x256 .f32) (harg6 : arg6.IsWhole) (x0 : Vec Ideal S12x12 .f32) (x1 : Vec Ideal S32x24576 .bf16) (x2 : Vec Ideal S256x256 .bf16) (v : View sig .tc .vmem S32x24576 .i8) (f : BufTy.Contents (Elt Ideal) v.ty)
    (h : ∀ (r : Fin 32) (q : Fin 192) (l : Fin 128), q.val < 144 → v.read (Elt Ideal) (v.writes (Elt Ideal) f ((kernelRun0_A (F := Ideal) c i arg1 harg1 arg2 harg2 arg3 harg3 arg4 harg4 arg5 harg5 arg6 harg6 x0 x1 x2).1.drop 48)) (ix2 r ⟨128 * q.val + l.val, by omega⟩) = code x0 (halfS x1 x2) r q l)
    (r : Fin 32) (q : Fin 192) (l : Fin 128) (ha : q.val < 192) :
    v.read (Elt Ideal) (v.writes (Elt Ideal) f ((kernelRun0_A (F := Ideal) c i arg1 harg1 arg2 harg2 arg3 harg3 arg4 harg4 arg5 harg5 arg6 harg6 x0 x1 x2).1.drop 0)) (ix2 r ⟨128 * q.val + l.val, by omega⟩) = code x0 (halfS x1 x2) r q l := by
  unfold kernelRun0_A at h ⊢
  dsimp only [List.drop_succ_cons, List.drop_zero] at h ⊢
  revert r q l
  refine stepc v f _ _ _ (code x0 (halfS x1 x2)) 191 (by omega) rfl ?_ ?_
  · intro r l
    have e := v_at c i arg1 harg1 arg2 harg2 arg3 harg3 arg4 harg4 arg5 harg5 arg6 harg6 x0 x1 x2 ⟨191, by omega⟩ 95 128 rfl rfl inb_S96x32x256_S1x32x128_95_0_128 r l
    have e' : kernelRun0_A.sl.v2998 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨191, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 190 (by omega) rfl ?_ ?_
  · intro r l
    have e := v_at c i arg1 harg1 arg2 harg2 arg3 harg3 arg4 harg4 arg5 harg5 arg6 harg6 x0 x1 x2 ⟨190, by omega⟩ 95 0 rfl rfl inb_S96x32x256_S1x32x128_95_0_0 r l
    have e' : kernelRun0_A.sl.v2988 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨190, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 189 (by omega) rfl ?_ ?_
  · intro r l
    have e := v_at c i arg1 harg1 arg2 harg2 arg3 harg3 arg4 harg4 arg5 harg5 arg6 harg6 x0 x1 x2 ⟨189, by omega⟩ 94 128 rfl rfl inb_S96x32x256_S1x32x128_94_0_128 r l
    have e' : kernelRun0_A.sl.v2978 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨189, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 188 (by omega) rfl ?_ ?_
  · intro r l
    have e := v_at c i arg1 harg1 arg2 harg2 arg3 harg3 arg4 harg4 arg5 harg5 arg6 harg6 x0 x1 x2 ⟨188, by omega⟩ 94 0 rfl rfl inb_S96x32x256_S1x32x128_94_0_0 r l
    have e' : kernelRun0_A.sl.v2968 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨188, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 187 (by omega) rfl ?_ ?_
  · intro r l
    have e := v_at c i arg1 harg1 arg2 harg2 arg3 harg3 arg4 harg4 arg5 harg5 arg6 harg6 x0 x1 x2 ⟨187, by omega⟩ 93 128 rfl rfl inb_S96x32x256_S1x32x128_93_0_128 r l
    have e' : kernelRun0_A.sl.v2958 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨187, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 186 (by omega) rfl ?_ ?_
  · intro r l
    have e := v_at c i arg1 harg1 arg2 harg2 arg3 harg3 arg4 harg4 arg5 harg5 arg6 harg6 x0 x1 x2 ⟨186, by omega⟩ 93 0 rfl rfl inb_S96x32x256_S1x32x128_93_0_0 r l
    have e' : kernelRun0_A.sl.v2948 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨186, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 185 (by omega) rfl ?_ ?_
  · intro r l
    have e := v_at c i arg1 harg1 arg2 harg2 arg3 harg3 arg4 harg4 arg5 harg5 arg6 harg6 x0 x1 x2 ⟨185, by omega⟩ 92 128 rfl rfl inb_S96x32x256_S1x32x128_92_0_128 r l
    have e' : kernelRun0_A.sl.v2938 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨185, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 184 (by omega) rfl ?_ ?_
  · intro r l
    have e := v_at c i arg1 harg1 arg2 harg2 arg3 harg3 arg4 harg4 arg5 harg5 arg6 harg6 x0 x1 x2 ⟨184, by omega⟩ 92 0 rfl rfl inb_S96x32x256_S1x32x128_92_0_0 r l
    have e' : kernelRun0_A.sl.v2928 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨184, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 183 (by omega) rfl ?_ ?_
  · intro r l
    have e := v_at c i arg1 harg1 arg2 harg2 arg3 harg3 arg4 harg4 arg5 harg5 arg6 harg6 x0 x1 x2 ⟨183, by omega⟩ 91 128 rfl rfl inb_S96x32x256_S1x32x128_91_0_128 r l
    have e' : kernelRun0_A.sl.v2918 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨183, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 182 (by omega) rfl ?_ ?_
  · intro r l
    have e := v_at c i arg1 harg1 arg2 harg2 arg3 harg3 arg4 harg4 arg5 harg5 arg6 harg6 x0 x1 x2 ⟨182, by omega⟩ 91 0 rfl rfl inb_S96x32x256_S1x32x128_91_0_0 r l
    have e' : kernelRun0_A.sl.v2908 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨182, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 181 (by omega) rfl ?_ ?_
  · intro r l
    have e := v_at c i arg1 harg1 arg2 harg2 arg3 harg3 arg4 harg4 arg5 harg5 arg6 harg6 x0 x1 x2 ⟨181, by omega⟩ 90 128 rfl rfl inb_S96x32x256_S1x32x128_90_0_128 r l
    have e' : kernelRun0_A.sl.v2898 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨181, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 180 (by omega) rfl ?_ ?_
  · intro r l
    have e := v_at c i arg1 harg1 arg2 harg2 arg3 harg3 arg4 harg4 arg5 harg5 arg6 harg6 x0 x1 x2 ⟨180, by omega⟩ 90 0 rfl rfl inb_S96x32x256_S1x32x128_90_0_0 r l
    have e' : kernelRun0_A.sl.v2888 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨180, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 179 (by omega) rfl ?_ ?_
  · intro r l
    have e := v_at c i arg1 harg1 arg2 harg2 arg3 harg3 arg4 harg4 arg5 harg5 arg6 harg6 x0 x1 x2 ⟨179, by omega⟩ 89 128 rfl rfl inb_S96x32x256_S1x32x128_89_0_128 r l
    have e' : kernelRun0_A.sl.v2878 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨179, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 178 (by omega) rfl ?_ ?_
  · intro r l
    have e := v_at c i arg1 harg1 arg2 harg2 arg3 harg3 arg4 harg4 arg5 harg5 arg6 harg6 x0 x1 x2 ⟨178, by omega⟩ 89 0 rfl rfl inb_S96x32x256_S1x32x128_89_0_0 r l
    have e' : kernelRun0_A.sl.v2868 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨178, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 177 (by omega) rfl ?_ ?_
  · intro r l
    have e := v_at c i arg1 harg1 arg2 harg2 arg3 harg3 arg4 harg4 arg5 harg5 arg6 harg6 x0 x1 x2 ⟨177, by omega⟩ 88 128 rfl rfl inb_S96x32x256_S1x32x128_88_0_128 r l
    have e' : kernelRun0_A.sl.v2858 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨177, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 176 (by omega) rfl ?_ ?_
  · intro r l
    have e := v_at c i arg1 harg1 arg2 harg2 arg3 harg3 arg4 harg4 arg5 harg5 arg6 harg6 x0 x1 x2 ⟨176, by omega⟩ 88 0 rfl rfl inb_S96x32x256_S1x32x128_88_0_0 r l
    have e' : kernelRun0_A.sl.v2848 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨176, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 175 (by omega) rfl ?_ ?_
  · intro r l
    have e := v_at c i arg1 harg1 arg2 harg2 arg3 harg3 arg4 harg4 arg5 harg5 arg6 harg6 x0 x1 x2 ⟨175, by omega⟩ 87 128 rfl rfl inb_S96x32x256_S1x32x128_87_0_128 r l
    have e' : kernelRun0_A.sl.v2838 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨175, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 174 (by omega) rfl ?_ ?_
  · intro r l
    have e := v_at c i arg1 harg1 arg2 harg2 arg3 harg3 arg4 harg4 arg5 harg5 arg6 harg6 x0 x1 x2 ⟨174, by omega⟩ 87 0 rfl rfl inb_S96x32x256_S1x32x128_87_0_0 r l
    have e' : kernelRun0_A.sl.v2828 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨174, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 173 (by omega) rfl ?_ ?_
  · intro r l
    have e := v_at c i arg1 harg1 arg2 harg2 arg3 harg3 arg4 harg4 arg5 harg5 arg6 harg6 x0 x1 x2 ⟨173, by omega⟩ 86 128 rfl rfl inb_S96x32x256_S1x32x128_86_0_128 r l
    have e' : kernelRun0_A.sl.v2818 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨173, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 172 (by omega) rfl ?_ ?_
  · intro r l
    have e := v_at c i arg1 harg1 arg2 harg2 arg3 harg3 arg4 harg4 arg5 harg5 arg6 harg6 x0 x1 x2 ⟨172, by omega⟩ 86 0 rfl rfl inb_S96x32x256_S1x32x128_86_0_0 r l
    have e' : kernelRun0_A.sl.v2808 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨172, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 171 (by omega) rfl ?_ ?_
  · intro r l
    have e := v_at c i arg1 harg1 arg2 harg2 arg3 harg3 arg4 harg4 arg5 harg5 arg6 harg6 x0 x1 x2 ⟨171, by omega⟩ 85 128 rfl rfl inb_S96x32x256_S1x32x128_85_0_128 r l
    have e' : kernelRun0_A.sl.v2798 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨171, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 170 (by omega) rfl ?_ ?_
  · intro r l
    have e := v_at c i arg1 harg1 arg2 harg2 arg3 harg3 arg4 harg4 arg5 harg5 arg6 harg6 x0 x1 x2 ⟨170, by omega⟩ 85 0 rfl rfl inb_S96x32x256_S1x32x128_85_0_0 r l
    have e' : kernelRun0_A.sl.v2788 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨170, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 169 (by omega) rfl ?_ ?_
  · intro r l
    have e := v_at c i arg1 harg1 arg2 harg2 arg3 harg3 arg4 harg4 arg5 harg5 arg6 harg6 x0 x1 x2 ⟨169, by omega⟩ 84 128 rfl rfl inb_S96x32x256_S1x32x128_84_0_128 r l
    have e' : kernelRun0_A.sl.v2778 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨169, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 168 (by omega) rfl ?_ ?_
  · intro r l
    have e := v_at c i arg1 harg1 arg2 harg2 arg3 harg3 arg4 harg4 arg5 harg5 arg6 harg6 x0 x1 x2 ⟨168, by omega⟩ 84 0 rfl rfl inb_S96x32x256_S1x32x128_84_0_0 r l
    have e' : kernelRun0_A.sl.v2768 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨168, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 167 (by omega) rfl ?_ ?_
  · intro r l
    have e := v_at c i arg1 harg1 arg2 harg2 arg3 harg3 arg4 harg4 arg5 harg5 arg6 harg6 x0 x1 x2 ⟨167, by omega⟩ 83 128 rfl rfl inb_S96x32x256_S1x32x128_83_0_128 r l
    have e' : kernelRun0_A.sl.v2758 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨167, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 166 (by omega) rfl ?_ ?_
  · intro r l
    have e := v_at c i arg1 harg1 arg2 harg2 arg3 harg3 arg4 harg4 arg5 harg5 arg6 harg6 x0 x1 x2 ⟨166, by omega⟩ 83 0 rfl rfl inb_S96x32x256_S1x32x128_83_0_0 r l
    have e' : kernelRun0_A.sl.v2748 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨166, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 165 (by omega) rfl ?_ ?_
  · intro r l
    have e := v_at c i arg1 harg1 arg2 harg2 arg3 harg3 arg4 harg4 arg5 harg5 arg6 harg6 x0 x1 x2 ⟨165, by omega⟩ 82 128 rfl rfl inb_S96x32x256_S1x32x128_82_0_128 r l
    have e' : kernelRun0_A.sl.v2738 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨165, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 164 (by omega) rfl ?_ ?_
  · intro r l
    have e := v_at c i arg1 harg1 arg2 harg2 arg3 harg3 arg4 harg4 arg5 harg5 arg6 harg6 x0 x1 x2 ⟨164, by omega⟩ 82 0 rfl rfl inb_S96x32x256_S1x32x128_82_0_0 r l
    have e' : kernelRun0_A.sl.v2728 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨164, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 163 (by omega) rfl ?_ ?_
  · intro r l
    have e := v_at c i arg1 harg1 arg2 harg2 arg3 harg3 arg4 harg4 arg5 harg5 arg6 harg6 x0 x1 x2 ⟨163, by omega⟩ 81 128 rfl rfl inb_S96x32x256_S1x32x128_81_0_128 r l
    have e' : kernelRun0_A.sl.v2718 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨163, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 162 (by omega) rfl ?_ ?_
  · intro r l
    have e := v_at c i arg1 harg1 arg2 harg2 arg3 harg3 arg4 harg4 arg5 harg5 arg6 harg6 x0 x1 x2 ⟨162, by omega⟩ 81 0 rfl rfl inb_S96x32x256_S1x32x128_81_0_0 r l
    have e' : kernelRun0_A.sl.v2708 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨162, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 161 (by omega) rfl ?_ ?_
  · intro r l
    have e := v_at c i arg1 harg1 arg2 harg2 arg3 harg3 arg4 harg4 arg5 harg5 arg6 harg6 x0 x1 x2 ⟨161, by omega⟩ 80 128 rfl rfl inb_S96x32x256_S1x32x128_80_0_128 r l
    have e' : kernelRun0_A.sl.v2698 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨161, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 160 (by omega) rfl ?_ ?_
  · intro r l
    have e := v_at c i arg1 harg1 arg2 harg2 arg3 harg3 arg4 harg4 arg5 harg5 arg6 harg6 x0 x1 x2 ⟨160, by omega⟩ 80 0 rfl rfl inb_S96x32x256_S1x32x128_80_0_0 r l
    have e' : kernelRun0_A.sl.v2688 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨160, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 159 (by omega) rfl ?_ ?_
  · intro r l
    have e := v_at c i arg1 harg1 arg2 harg2 arg3 harg3 arg4 harg4 arg5 harg5 arg6 harg6 x0 x1 x2 ⟨159, by omega⟩ 79 128 rfl rfl inb_S96x32x256_S1x32x128_79_0_128 r l
    have e' : kernelRun0_A.sl.v2678 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨159, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 158 (by omega) rfl ?_ ?_
  · intro r l
    have e := v_at c i arg1 harg1 arg2 harg2 arg3 harg3 arg4 harg4 arg5 harg5 arg6 harg6 x0 x1 x2 ⟨158, by omega⟩ 79 0 rfl rfl inb_S96x32x256_S1x32x128_79_0_0 r l
    have e' : kernelRun0_A.sl.v2668 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨158, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 157 (by omega) rfl ?_ ?_
  · intro r l
    have e := v_at c i arg1 harg1 arg2 harg2 arg3 harg3 arg4 harg4 arg5 harg5 arg6 harg6 x0 x1 x2 ⟨157, by omega⟩ 78 128 rfl rfl inb_S96x32x256_S1x32x128_78_0_128 r l
    have e' : kernelRun0_A.sl.v2658 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨157, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 156 (by omega) rfl ?_ ?_
  · intro r l
    have e := v_at c i arg1 harg1 arg2 harg2 arg3 harg3 arg4 harg4 arg5 harg5 arg6 harg6 x0 x1 x2 ⟨156, by omega⟩ 78 0 rfl rfl inb_S96x32x256_S1x32x128_78_0_0 r l
    have e' : kernelRun0_A.sl.v2648 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨156, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 155 (by omega) rfl ?_ ?_
  · intro r l
    have e := v_at c i arg1 harg1 arg2 harg2 arg3 harg3 arg4 harg4 arg5 harg5 arg6 harg6 x0 x1 x2 ⟨155, by omega⟩ 77 128 rfl rfl inb_S96x32x256_S1x32x128_77_0_128 r l
    have e' : kernelRun0_A.sl.v2638 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨155, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 154 (by omega) rfl ?_ ?_
  · intro r l
    have e := v_at c i arg1 harg1 arg2 harg2 arg3 harg3 arg4 harg4 arg5 harg5 arg6 harg6 x0 x1 x2 ⟨154, by omega⟩ 77 0 rfl rfl inb_S96x32x256_S1x32x128_77_0_0 r l
    have e' : kernelRun0_A.sl.v2628 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨154, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 153 (by omega) rfl ?_ ?_
  · intro r l
    have e := v_at c i arg1 harg1 arg2 harg2 arg3 harg3 arg4 harg4 arg5 harg5 arg6 harg6 x0 x1 x2 ⟨153, by omega⟩ 76 128 rfl rfl inb_S96x32x256_S1x32x128_76_0_128 r l
    have e' : kernelRun0_A.sl.v2618 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨153, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 152 (by omega) rfl ?_ ?_
  · intro r l
    have e := v_at c i arg1 harg1 arg2 harg2 arg3 harg3 arg4 harg4 arg5 harg5 arg6 harg6 x0 x1 x2 ⟨152, by omega⟩ 76 0 rfl rfl inb_S96x32x256_S1x32x128_76_0_0 r l
    have e' : kernelRun0_A.sl.v2608 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨152, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 151 (by omega) rfl ?_ ?_
  · intro r l
    have e := v_at c i arg1 harg1 arg2 harg2 arg3 harg3 arg4 harg4 arg5 harg5 arg6 harg6 x0 x1 x2 ⟨151, by omega⟩ 75 128 rfl rfl inb_S96x32x256_S1x32x128_75_0_128 r l
    have e' : kernelRun0_A.sl.v2598 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨151, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 150 (by omega) rfl ?_ ?_
  · intro r l
    have e := v_at c i arg1 harg1 arg2 harg2 arg3 harg3 arg4 harg4 arg5 harg5 arg6 harg6 x0 x1 x2 ⟨150, by omega⟩ 75 0 rfl rfl inb_S96x32x256_S1x32x128_75_0_0 r l
    have e' : kernelRun0_A.sl.v2588 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨150, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 149 (by omega) rfl ?_ ?_
  · intro r l
    have e := v_at c i arg1 harg1 arg2 harg2 arg3 harg3 arg4 harg4 arg5 harg5 arg6 harg6 x0 x1 x2 ⟨149, by omega⟩ 74 128 rfl rfl inb_S96x32x256_S1x32x128_74_0_128 r l
    have e' : kernelRun0_A.sl.v2578 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨149, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 148 (by omega) rfl ?_ ?_
  · intro r l
    have e := v_at c i arg1 harg1 arg2 harg2 arg3 harg3 arg4 harg4 arg5 harg5 arg6 harg6 x0 x1 x2 ⟨148, by omega⟩ 74 0 rfl rfl inb_S96x32x256_S1x32x128_74_0_0 r l
    have e' : kernelRun0_A.sl.v2568 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨148, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 147 (by omega) rfl ?_ ?_
  · intro r l
    have e := v_at c i arg1 harg1 arg2 harg2 arg3 harg3 arg4 harg4 arg5 harg5 arg6 harg6 x0 x1 x2 ⟨147, by omega⟩ 73 128 rfl rfl inb_S96x32x256_S1x32x128_73_0_128 r l
    have e' : kernelRun0_A.sl.v2558 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨147, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 146 (by omega) rfl ?_ ?_
  · intro r l
    have e := v_at c i arg1 harg1 arg2 harg2 arg3 harg3 arg4 harg4 arg5 harg5 arg6 harg6 x0 x1 x2 ⟨146, by omega⟩ 73 0 rfl rfl inb_S96x32x256_S1x32x128_73_0_0 r l
    have e' : kernelRun0_A.sl.v2548 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨146, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 145 (by omega) rfl ?_ ?_
  · intro r l
    have e := v_at c i arg1 harg1 arg2 harg2 arg3 harg3 arg4 harg4 arg5 harg5 arg6 harg6 x0 x1 x2 ⟨145, by omega⟩ 72 128 rfl rfl inb_S96x32x256_S1x32x128_72_0_128 r l
    have e' : kernelRun0_A.sl.v2538 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨145, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 144 (by omega) rfl ?_ ?_
  · intro r l
    have e := v_at c i arg1 harg1 arg2 harg2 arg3 harg3 arg4 harg4 arg5 harg5 arg6 harg6 x0 x1 x2 ⟨144, by omega⟩ 72 0 rfl rfl inb_S96x32x256_S1x32x128_72_0_0 r l
    have e' : kernelRun0_A.sl.v2528 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨144, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  exact h

end Cert.RotateIdeal.Hand

end
-- ==== Proof.RotateCodes1.lean ====
module

public import proofs.«01_k».proof.Proof.Gen.RotateIdeal.Value
public import Idealize.ShloMosaic.Lib.Pointwise
public import Idealize.ShloMosaic.Lib.Pipeline.ValueKit
public import Idealize.ShloMosaic.Lib.Pipeline.ReadBack
public import Idealize.ShloMosaic.Lib.WritesUnit
public import proofs.«01_k».proof.Proof.RotateCode
set_option maxHeartbeats 4000000

@[expose] public section

set_option maxRecDepth 16384

noncomputable section

namespace Cert.RotateIdeal.Hand

open Cert.RotateIdeal Cert.RotateIdeal.Gen
open Idealize.ShloMosaic Idealize.ShloMosaic.TcCoe Idealize.SL.Sem

/-- The codes of the first 144 pieces of 128 columns, the last 48 of them stored here. -/
theorem codes1 (c : Dev nD) (i : grid0.Coords) (arg1 : Memref sig .tc .smem S12x12 .f32) (harg1 : arg1.IsWhole) (arg2 : Memref sig .tc .vmem S32x24576 .bf16) (harg2 : arg2.IsWhole) (arg3 : Memref sig .tc .vmem S256x256 .bf16) (harg3 : arg3.IsWhole) (arg4 : Memref sig .tc .vmem S32x24576 .i8) (harg4 : arg4.IsWhole) (arg5 : Memref sig .tc .vmem S32x128 .f32) (harg5 : arg5.IsWhole) (arg6 : Memref sig .tc .vmem S96x32x256 .f32) (harg6 : arg6.IsWhole) (x0 : Vec Ideal S12x12 .f32) (x1 : Vec Ideal S32x24576 .bf16) (x2 : Vec Ideal S256x256 .bf16) (v : View sig .tc .vmem S32x24576 .i8) (f : BufTy.Contents (Elt Ideal) v.ty)
    (h : ∀ (r : Fin 32) (q : Fin 192) (l : Fin 128), q.val < 96 → v.read (Elt Ideal) (v.writes (Elt Ideal) f ((kernelRun0_A (F := Ideal) c i arg1 harg1 arg2 harg2 arg3 harg3 arg4 harg4 arg5 harg5 arg6 harg6 x0 x1 x2).1.drop 96)) (ix2 r ⟨128 * q.val + l.val, by omega⟩) = code x0 (halfS x1 x2) r q l)
    (r : Fin 32) (q : Fin 192) (l : Fin 128) (ha : q.val < 144) :
    v.read (Elt Ideal) (v.writes (Elt Ideal) f ((kernelRun0_A (F := Ideal) c i arg1 harg1 arg2 harg2 arg3 harg3 arg4 harg4 arg5 harg5 arg6 harg6 x0 x1 x2).1.drop 48)) (ix2 r ⟨128 * q.val + l.val, by omega⟩) = code x0 (halfS x1 x2) r q l := by
  unfold kernelRun0_A at h ⊢
  dsimp only [List.drop_succ_cons, List.drop_zero] at h ⊢
  revert r q l
  refine stepc v f _ _ _ (code x0 (halfS x1 x2)) 143 (by omega) rfl ?_ ?_
  · intro r l
    have e := v_at c i arg1 harg1 arg2 harg2 arg3 harg3 arg4 harg4 arg5 harg5 arg6 harg6 x0 x1 x2 ⟨143, by omega⟩ 71 128 rfl rfl inb_S96x32x256_S1x32x128_71_0_128 r l
    have e' : kernelRun0_A.sl.v2518 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨143, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 142 (by omega) rfl ?_ ?_
  · intro r l
    have e := v_at c i arg1 harg1 arg2 harg2 arg3 harg3 arg4 harg4 arg5 harg5 arg6 harg6 x0 x1 x2 ⟨142, by omega⟩ 71 0 rfl rfl inb_S96x32x256_S1x32x128_71_0_0 r l
    have e' : kernelRun0_A.sl.v2508 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨142, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 141 (by omega) rfl ?_ ?_
  · intro r l
    have e := v_at c i arg1 harg1 arg2 harg2 arg3 harg3 arg4 harg4 arg5 harg5 arg6 harg6 x0 x1 x2 ⟨141, by omega⟩ 70 128 rfl rfl inb_S96x32x256_S1x32x128_70_0_128 r l
    have e' : kernelRun0_A.sl.v2498 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨141, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 140 (by omega) rfl ?_ ?_
  · intro r l
    have e := v_at c i arg1 harg1 arg2 harg2 arg3 harg3 arg4 harg4 arg5 harg5 arg6 harg6 x0 x1 x2 ⟨140, by omega⟩ 70 0 rfl rfl inb_S96x32x256_S1x32x128_70_0_0 r l
    have e' : kernelRun0_A.sl.v2488 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨140, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 139 (by omega) rfl ?_ ?_
  · intro r l
    have e := v_at c i arg1 harg1 arg2 harg2 arg3 harg3 arg4 harg4 arg5 harg5 arg6 harg6 x0 x1 x2 ⟨139, by omega⟩ 69 128 rfl rfl inb_S96x32x256_S1x32x128_69_0_128 r l
    have e' : kernelRun0_A.sl.v2478 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨139, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 138 (by omega) rfl ?_ ?_
  · intro r l
    have e := v_at c i arg1 harg1 arg2 harg2 arg3 harg3 arg4 harg4 arg5 harg5 arg6 harg6 x0 x1 x2 ⟨138, by omega⟩ 69 0 rfl rfl inb_S96x32x256_S1x32x128_69_0_0 r l
    have e' : kernelRun0_A.sl.v2468 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨138, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 137 (by omega) rfl ?_ ?_
  · intro r l
    have e := v_at c i arg1 harg1 arg2 harg2 arg3 harg3 arg4 harg4 arg5 harg5 arg6 harg6 x0 x1 x2 ⟨137, by omega⟩ 68 128 rfl rfl inb_S96x32x256_S1x32x128_68_0_128 r l
    have e' : kernelRun0_A.sl.v2458 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨137, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 136 (by omega) rfl ?_ ?_
  · intro r l
    have e := v_at c i arg1 harg1 arg2 harg2 arg3 harg3 arg4 harg4 arg5 harg5 arg6 harg6 x0 x1 x2 ⟨136, by omega⟩ 68 0 rfl rfl inb_S96x32x256_S1x32x128_68_0_0 r l
    have e' : kernelRun0_A.sl.v2448 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨136, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 135 (by omega) rfl ?_ ?_
  · intro r l
    have e := v_at c i arg1 harg1 arg2 harg2 arg3 harg3 arg4 harg4 arg5 harg5 arg6 harg6 x0 x1 x2 ⟨135, by omega⟩ 67 128 rfl rfl inb_S96x32x256_S1x32x128_67_0_128 r l
    have e' : kernelRun0_A.sl.v2438 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨135, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 134 (by omega) rfl ?_ ?_
  · intro r l
    have e := v_at c i arg1 harg1 arg2 harg2 arg3 harg3 arg4 harg4 arg5 harg5 arg6 harg6 x0 x1 x2 ⟨134, by omega⟩ 67 0 rfl rfl inb_S96x32x256_S1x32x128_67_0_0 r l
    have e' : kernelRun0_A.sl.v2428 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨134, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 133 (by omega) rfl ?_ ?_
  · intro r l
    have e := v_at c i arg1 harg1 arg2 harg2 arg3 harg3 arg4 harg4 arg5 harg5 arg6 harg6 x0 x1 x2 ⟨133, by omega⟩ 66 128 rfl rfl inb_S96x32x256_S1x32x128_66_0_128 r l
    have e' : kernelRun0_A.sl.v2418 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨133, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 132 (by omega) rfl ?_ ?_
  · intro r l
    have e := v_at c i arg1 harg1 arg2 harg2 arg3 harg3 arg4 harg4 arg5 harg5 arg6 harg6 x0 x1 x2 ⟨132, by omega⟩ 66 0 rfl rfl inb_S96x32x256_S1x32x128_66_0_0 r l
    have e' : kernelRun0_A.sl.v2408 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨132, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 131 (by omega) rfl ?_ ?_
  · intro r l
    have e := v_at c i arg1 harg1 arg2 harg2 arg3 harg3 arg4 harg4 arg5 harg5 arg6 harg6 x0 x1 x2 ⟨131, by omega⟩ 65 128 rfl rfl inb_S96x32x256_S1x32x128_65_0_128 r l
    have e' : kernelRun0_A.sl.v2398 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨131, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 130 (by omega) rfl ?_ ?_
  · intro r l
    have e := v_at c i arg1 harg1 arg2 harg2 arg3 harg3 arg4 harg4 arg5 harg5 arg6 harg6 x0 x1 x2 ⟨130, by omega⟩ 65 0 rfl rfl inb_S96x32x256_S1x32x128_65_0_0 r l
    have e' : kernelRun0_A.sl.v2388 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨130, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 129 (by omega) rfl ?_ ?_
  · intro r l
    have e := v_at c i arg1 harg1 arg2 harg2 arg3 harg3 arg4 harg4 arg5 harg5 arg6 harg6 x0 x1 x2 ⟨129, by omega⟩ 64 128 rfl rfl inb_S96x32x256_S1x32x128_64_0_128 r l
    have e' : kernelRun0_A.sl.v2378 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨129, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 128 (by omega) rfl ?_ ?_
  · intro r l
    have e := v_at c i arg1 harg1 arg2 harg2 arg3 harg3 arg4 harg4 arg5 harg5 arg6 harg6 x0 x1 x2 ⟨128, by omega⟩ 64 0 rfl rfl inb_S96x32x256_S1x32x128_64_0_0 r l
    have e' : kernelRun0_A.sl.v2368 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨128, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 127 (by omega) rfl ?_ ?_
  · intro r l
    have e := v_at c i arg1 harg1 arg2 harg2 arg3 harg3 arg4 harg4 arg5 harg5 arg6 harg6 x0 x1 x2 ⟨127, by omega⟩ 63 128 rfl rfl inb_S96x32x256_S1x32x128_63_0_128 r l
    have e' : kernelRun0_A.sl.v2358 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨127, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 126 (by omega) rfl ?_ ?_
  · intro r l
    have e := v_at c i arg1 harg1 arg2 harg2 arg3 harg3 arg4 harg4 arg5 harg5 arg6 harg6 x0 x1 x2 ⟨126, by omega⟩ 63 0 rfl rfl inb_S96x32x256_S1x32x128_63_0_0 r l
    have e' : kernelRun0_A.sl.v2348 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨126, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 125 (by omega) rfl ?_ ?_
  · intro r l
    have e := v_at c i arg1 harg1 arg2 harg2 arg3 harg3 arg4 harg4 arg5 harg5 arg6 harg6 x0 x1 x2 ⟨125, by omega⟩ 62 128 rfl rfl inb_S96x32x256_S1x32x128_62_0_128 r l
    have e' : kernelRun0_A.sl.v2338 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨125, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 124 (by omega) rfl ?_ ?_
  · intro r l
    have e := v_at c i arg1 harg1 arg2 harg2 arg3 harg3 arg4 harg4 arg5 harg5 arg6 harg6 x0 x1 x2 ⟨124, by omega⟩ 62 0 rfl rfl inb_S96x32x256_S1x32x128_62_0_0 r l
    have e' : kernelRun0_A.sl.v2328 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨124, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 123 (by omega) rfl ?_ ?_
  · intro r l
    have e := v_at c i arg1 harg1 arg2 harg2 arg3 harg3 arg4 harg4 arg5 harg5 arg6 harg6 x0 x1 x2 ⟨123, by omega⟩ 61 128 rfl rfl inb_S96x32x256_S1x32x128_61_0_128 r l
    have e' : kernelRun0_A.sl.v2318 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨123, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 122 (by omega) rfl ?_ ?_
  · intro r l
    have e := v_at c i arg1 harg1 arg2 harg2 arg3 harg3 arg4 harg4 arg5 harg5 arg6 harg6 x0 x1 x2 ⟨122, by omega⟩ 61 0 rfl rfl inb_S96x32x256_S1x32x128_61_0_0 r l
    have e' : kernelRun0_A.sl.v2308 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨122, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 121 (by omega) rfl ?_ ?_
  · intro r l
    have e := v_at c i arg1 harg1 arg2 harg2 arg3 harg3 arg4 harg4 arg5 harg5 arg6 harg6 x0 x1 x2 ⟨121, by omega⟩ 60 128 rfl rfl inb_S96x32x256_S1x32x128_60_0_128 r l
    have e' : kernelRun0_A.sl.v2298 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨121, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 120 (by omega) rfl ?_ ?_
  · intro r l
    have e := v_at c i arg1 harg1 arg2 harg2 arg3 harg3 arg4 harg4 arg5 harg5 arg6 harg6 x0 x1 x2 ⟨120, by omega⟩ 60 0 rfl rfl inb_S96x32x256_S1x32x128_60_0_0 r l
    have e' : kernelRun0_A.sl.v2288 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨120, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 119 (by omega) rfl ?_ ?_
  · intro r l
    have e := v_at c i arg1 harg1 arg2 harg2 arg3 harg3 arg4 harg4 arg5 harg5 arg6 harg6 x0 x1 x2 ⟨119, by omega⟩ 59 128 rfl rfl inb_S96x32x256_S1x32x128_59_0_128 r l
    have e' : kernelRun0_A.sl.v2278 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨119, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 118 (by omega) rfl ?_ ?_
  · intro r l
    have e := v_at c i arg1 harg1 arg2 harg2 arg3 harg3 arg4 harg4 arg5 harg5 arg6 harg6 x0 x1 x2 ⟨118, by omega⟩ 59 0 rfl rfl inb_S96x32x256_S1x32x128_59_0_0 r l
    have e' : kernelRun0_A.sl.v2268 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨118, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 117 (by omega) rfl ?_ ?_
  · intro r l
    have e := v_at c i arg1 harg1 arg2 harg2 arg3 harg3 arg4 harg4 arg5 harg5 arg6 harg6 x0 x1 x2 ⟨117, by omega⟩ 58 128 rfl rfl inb_S96x32x256_S1x32x128_58_0_128 r l
    have e' : kernelRun0_A.sl.v2258 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨117, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 116 (by omega) rfl ?_ ?_
  · intro r l
    have e := v_at c i arg1 harg1 arg2 harg2 arg3 harg3 arg4 harg4 arg5 harg5 arg6 harg6 x0 x1 x2 ⟨116, by omega⟩ 58 0 rfl rfl inb_S96x32x256_S1x32x128_58_0_0 r l
    have e' : kernelRun0_A.sl.v2248 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨116, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 115 (by omega) rfl ?_ ?_
  · intro r l
    have e := v_at c i arg1 harg1 arg2 harg2 arg3 harg3 arg4 harg4 arg5 harg5 arg6 harg6 x0 x1 x2 ⟨115, by omega⟩ 57 128 rfl rfl inb_S96x32x256_S1x32x128_57_0_128 r l
    have e' : kernelRun0_A.sl.v2238 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨115, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 114 (by omega) rfl ?_ ?_
  · intro r l
    have e := v_at c i arg1 harg1 arg2 harg2 arg3 harg3 arg4 harg4 arg5 harg5 arg6 harg6 x0 x1 x2 ⟨114, by omega⟩ 57 0 rfl rfl inb_S96x32x256_S1x32x128_57_0_0 r l
    have e' : kernelRun0_A.sl.v2228 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨114, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 113 (by omega) rfl ?_ ?_
  · intro r l
    have e := v_at c i arg1 harg1 arg2 harg2 arg3 harg3 arg4 harg4 arg5 harg5 arg6 harg6 x0 x1 x2 ⟨113, by omega⟩ 56 128 rfl rfl inb_S96x32x256_S1x32x128_56_0_128 r l
    have e' : kernelRun0_A.sl.v2218 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨113, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 112 (by omega) rfl ?_ ?_
  · intro r l
    have e := v_at c i arg1 harg1 arg2 harg2 arg3 harg3 arg4 harg4 arg5 harg5 arg6 harg6 x0 x1 x2 ⟨112, by omega⟩ 56 0 rfl rfl inb_S96x32x256_S1x32x128_56_0_0 r l
    have e' : kernelRun0_A.sl.v2208 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨112, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 111 (by omega) rfl ?_ ?_
  · intro r l
    have e := v_at c i arg1 harg1 arg2 harg2 arg3 harg3 arg4 harg4 arg5 harg5 arg6 harg6 x0 x1 x2 ⟨111, by omega⟩ 55 128 rfl rfl inb_S96x32x256_S1x32x128_55_0_128 r l
    have e' : kernelRun0_A.sl.v2198 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨111, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 110 (by omega) rfl ?_ ?_
  · intro r l
    have e := v_at c i arg1 harg1 arg2 harg2 arg3 harg3 arg4 harg4 arg5 harg5 arg6 harg6 x0 x1 x2 ⟨110, by omega⟩ 55 0 rfl rfl inb_S96x32x256_S1x32x128_55_0_0 r l
    have e' : kernelRun0_A.sl.v2188 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨110, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 109 (by omega) rfl ?_ ?_
  · intro r l
    have e := v_at c i arg1 harg1 arg2 harg2 arg3 harg3 arg4 harg4 arg5 harg5 arg6 harg6 x0 x1 x2 ⟨109, by omega⟩ 54 128 rfl rfl inb_S96x32x256_S1x32x128_54_0_128 r l
    have e' : kernelRun0_A.sl.v2178 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨109, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 108 (by omega) rfl ?_ ?_
  · intro r l
    have e := v_at c i arg1 harg1 arg2 harg2 arg3 harg3 arg4 harg4 arg5 harg5 arg6 harg6 x0 x1 x2 ⟨108, by omega⟩ 54 0 rfl rfl inb_S96x32x256_S1x32x128_54_0_0 r l
    have e' : kernelRun0_A.sl.v2168 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨108, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 107 (by omega) rfl ?_ ?_
  · intro r l
    have e := v_at c i arg1 harg1 arg2 harg2 arg3 harg3 arg4 harg4 arg5 harg5 arg6 harg6 x0 x1 x2 ⟨107, by omega⟩ 53 128 rfl rfl inb_S96x32x256_S1x32x128_53_0_128 r l
    have e' : kernelRun0_A.sl.v2158 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨107, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 106 (by omega) rfl ?_ ?_
  · intro r l
    have e := v_at c i arg1 harg1 arg2 harg2 arg3 harg3 arg4 harg4 arg5 harg5 arg6 harg6 x0 x1 x2 ⟨106, by omega⟩ 53 0 rfl rfl inb_S96x32x256_S1x32x128_53_0_0 r l
    have e' : kernelRun0_A.sl.v2148 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨106, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 105 (by omega) rfl ?_ ?_
  · intro r l
    have e := v_at c i arg1 harg1 arg2 harg2 arg3 harg3 arg4 harg4 arg5 harg5 arg6 harg6 x0 x1 x2 ⟨105, by omega⟩ 52 128 rfl rfl inb_S96x32x256_S1x32x128_52_0_128 r l
    have e' : kernelRun0_A.sl.v2138 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨105, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 104 (by omega) rfl ?_ ?_
  · intro r l
    have e := v_at c i arg1 harg1 arg2 harg2 arg3 harg3 arg4 harg4 arg5 harg5 arg6 harg6 x0 x1 x2 ⟨104, by omega⟩ 52 0 rfl rfl inb_S96x32x256_S1x32x128_52_0_0 r l
    have e' : kernelRun0_A.sl.v2128 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨104, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 103 (by omega) rfl ?_ ?_
  · intro r l
    have e := v_at c i arg1 harg1 arg2 harg2 arg3 harg3 arg4 harg4 arg5 harg5 arg6 harg6 x0 x1 x2 ⟨103, by omega⟩ 51 128 rfl rfl inb_S96x32x256_S1x32x128_51_0_128 r l
    have e' : kernelRun0_A.sl.v2118 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨103, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 102 (by omega) rfl ?_ ?_
  · intro r l
    have e := v_at c i arg1 harg1 arg2 harg2 arg3 harg3 arg4 harg4 arg5 harg5 arg6 harg6 x0 x1 x2 ⟨102, by omega⟩ 51 0 rfl rfl inb_S96x32x256_S1x32x128_51_0_0 r l
    have e' : kernelRun0_A.sl.v2108 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨102, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 101 (by omega) rfl ?_ ?_
  · intro r l
    have e := v_at c i arg1 harg1 arg2 harg2 arg3 harg3 arg4 harg4 arg5 harg5 arg6 harg6 x0 x1 x2 ⟨101, by omega⟩ 50 128 rfl rfl inb_S96x32x256_S1x32x128_50_0_128 r l
    have e' : kernelRun0_A.sl.v2098 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨101, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 100 (by omega) rfl ?_ ?_
  · intro r l
    have e := v_at c i arg1 harg1 arg2 harg2 arg3 harg3 arg4 harg4 arg5 harg5 arg6 harg6 x0 x1 x2 ⟨100, by omega⟩ 50 0 rfl rfl inb_S96x32x256_S1x32x128_50_0_0 r l
    have e' : kernelRun0_A.sl.v2088 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨100, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 99 (by omega) rfl ?_ ?_
  · intro r l
    have e := v_at c i arg1 harg1 arg2 harg2 arg3 harg3 arg4 harg4 arg5 harg5 arg6 harg6 x0 x1 x2 ⟨99, by omega⟩ 49 128 rfl rfl inb_S96x32x256_S1x32x128_49_0_128 r l
    have e' : kernelRun0_A.sl.v2078 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨99, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 98 (by omega) rfl ?_ ?_
  · intro r l
    have e := v_at c i arg1 harg1 arg2 harg2 arg3 harg3 arg4 harg4 arg5 harg5 arg6 harg6 x0 x1 x2 ⟨98, by omega⟩ 49 0 rfl rfl inb_S96x32x256_S1x32x128_49_0_0 r l
    have e' : kernelRun0_A.sl.v2068 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨98, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 97 (by omega) rfl ?_ ?_
  · intro r l
    have e := v_at c i arg1 harg1 arg2 harg2 arg3 harg3 arg4 harg4 arg5 harg5 arg6 harg6 x0 x1 x2 ⟨97, by omega⟩ 48 128 rfl rfl inb_S96x32x256_S1x32x128_48_0_128 r l
    have e' : kernelRun0_A.sl.v2058 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨97, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 96 (by omega) rfl ?_ ?_
  · intro r l
    have e := v_at c i arg1 harg1 arg2 harg2 arg3 harg3 arg4 harg4 arg5 harg5 arg6 harg6 x0 x1 x2 ⟨96, by omega⟩ 48 0 rfl rfl inb_S96x32x256_S1x32x128_48_0_0 r l
    have e' : kernelRun0_A.sl.v2048 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨96, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  exact h

end Cert.RotateIdeal.Hand

end
-- ==== Proof.RotateCodes2.lean ====
module

public import proofs.«01_k».proof.Proof.Gen.RotateIdeal.Value
public import Idealize.ShloMosaic.Lib.Pointwise
public import Idealize.ShloMosaic.Lib.Pipeline.ValueKit
public import Idealize.ShloMosaic.Lib.Pipeline.ReadBack
public import Idealize.ShloMosaic.Lib.WritesUnit
public import proofs.«01_k».proof.Proof.RotateCode
set_option maxHeartbeats 4000000

@[expose] public section

set_option maxRecDepth 16384

noncomputable section

namespace Cert.RotateIdeal.Hand

open Cert.RotateIdeal Cert.RotateIdeal.Gen
open Idealize.ShloMosaic Idealize.ShloMosaic.TcCoe Idealize.SL.Sem

/-- The codes of the first 96 pieces of 128 columns, the last 48 of them stored here. -/
theorem codes2 (c : Dev nD) (i : grid0.Coords) (arg1 : Memref sig .tc .smem S12x12 .f32) (harg1 : arg1.IsWhole) (arg2 : Memref sig .tc .vmem S32x24576 .bf16) (harg2 : arg2.IsWhole) (arg3 : Memref sig .tc .vmem S256x256 .bf16) (harg3 : arg3.IsWhole) (arg4 : Memref sig .tc .vmem S32x24576 .i8) (harg4 : arg4.IsWhole) (arg5 : Memref sig .tc .vmem S32x128 .f32) (harg5 : arg5.IsWhole) (arg6 : Memref sig .tc .vmem S96x32x256 .f32) (harg6 : arg6.IsWhole) (x0 : Vec Ideal S12x12 .f32) (x1 : Vec Ideal S32x24576 .bf16) (x2 : Vec Ideal S256x256 .bf16) (v : View sig .tc .vmem S32x24576 .i8) (f : BufTy.Contents (Elt Ideal) v.ty)
    (h : ∀ (r : Fin 32) (q : Fin 192) (l : Fin 128), q.val < 48 → v.read (Elt Ideal) (v.writes (Elt Ideal) f ((kernelRun0_A (F := Ideal) c i arg1 harg1 arg2 harg2 arg3 harg3 arg4 harg4 arg5 harg5 arg6 harg6 x0 x1 x2).1.drop 144)) (ix2 r ⟨128 * q.val + l.val, by omega⟩) = code x0 (halfS x1 x2) r q l)
    (r : Fin 32) (q : Fin 192) (l : Fin 128) (ha : q.val < 96) :
    v.read (Elt Ideal) (v.writes (Elt Ideal) f ((kernelRun0_A (F := Ideal) c i arg1 harg1 arg2 harg2 arg3 harg3 arg4 harg4 arg5 harg5 arg6 harg6 x0 x1 x2).1.drop 96)) (ix2 r ⟨128 * q.val + l.val, by omega⟩) = code x0 (halfS x1 x2) r q l := by
  unfold kernelRun0_A at h ⊢
  dsimp only [List.drop_succ_cons, List.drop_zero] at h ⊢
  revert r q l
  refine stepc v f _ _ _ (code x0 (halfS x1 x2)) 95 (by omega) rfl ?_ ?_
  · intro r l
    have e := v_at c i arg1 harg1 arg2 harg2 arg3 harg3 arg4 harg4 arg5 harg5 arg6 harg6 x0 x1 x2 ⟨95, by omega⟩ 47 128 rfl rfl inb_S96x32x256_S1x32x128_47_0_128 r l
    have e' : kernelRun0_A.sl.v2038 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨95, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 94 (by omega) rfl ?_ ?_
  · intro r l
    have e := v_at c i arg1 harg1 arg2 harg2 arg3 harg3 arg4 harg4 arg5 harg5 arg6 harg6 x0 x1 x2 ⟨94, by omega⟩ 47 0 rfl rfl inb_S96x32x256_S1x32x128_47_0_0 r l
    have e' : kernelRun0_A.sl.v2028 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨94, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 93 (by omega) rfl ?_ ?_
  · intro r l
    have e := v_at c i arg1 harg1 arg2 harg2 arg3 harg3 arg4 harg4 arg5 harg5 arg6 harg6 x0 x1 x2 ⟨93, by omega⟩ 46 128 rfl rfl inb_S96x32x256_S1x32x128_46_0_128 r l
    have e' : kernelRun0_A.sl.v2018 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨93, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 92 (by omega) rfl ?_ ?_
  · intro r l
    have e := v_at c i arg1 harg1 arg2 harg2 arg3 harg3 arg4 harg4 arg5 harg5 arg6 harg6 x0 x1 x2 ⟨92, by omega⟩ 46 0 rfl rfl inb_S96x32x256_S1x32x128_46_0_0 r l
    have e' : kernelRun0_A.sl.v2008 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨92, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 91 (by omega) rfl ?_ ?_
  · intro r l
    have e := v_at c i arg1 harg1 arg2 harg2 arg3 harg3 arg4 harg4 arg5 harg5 arg6 harg6 x0 x1 x2 ⟨91, by omega⟩ 45 128 rfl rfl inb_S96x32x256_S1x32x128_45_0_128 r l
    have e' : kernelRun0_A.sl.v1998 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨91, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 90 (by omega) rfl ?_ ?_
  · intro r l
    have e := v_at c i arg1 harg1 arg2 harg2 arg3 harg3 arg4 harg4 arg5 harg5 arg6 harg6 x0 x1 x2 ⟨90, by omega⟩ 45 0 rfl rfl inb_S96x32x256_S1x32x128_45_0_0 r l
    have e' : kernelRun0_A.sl.v1988 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨90, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 89 (by omega) rfl ?_ ?_
  · intro r l
    have e := v_at c i arg1 harg1 arg2 harg2 arg3 harg3 arg4 harg4 arg5 harg5 arg6 harg6 x0 x1 x2 ⟨89, by omega⟩ 44 128 rfl rfl inb_S96x32x256_S1x32x128_44_0_128 r l
    have e' : kernelRun0_A.sl.v1978 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨89, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 88 (by omega) rfl ?_ ?_
  · intro r l
    have e := v_at c i arg1 harg1 arg2 harg2 arg3 harg3 arg4 harg4 arg5 harg5 arg6 harg6 x0 x1 x2 ⟨88, by omega⟩ 44 0 rfl rfl inb_S96x32x256_S1x32x128_44_0_0 r l
    have e' : kernelRun0_A.sl.v1968 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨88, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 87 (by omega) rfl ?_ ?_
  · intro r l
    have e := v_at c i arg1 harg1 arg2 harg2 arg3 harg3 arg4 harg4 arg5 harg5 arg6 harg6 x0 x1 x2 ⟨87, by omega⟩ 43 128 rfl rfl inb_S96x32x256_S1x32x128_43_0_128 r l
    have e' : kernelRun0_A.sl.v1958 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨87, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 86 (by omega) rfl ?_ ?_
  · intro r l
    have e := v_at c i arg1 harg1 arg2 harg2 arg3 harg3 arg4 harg4 arg5 harg5 arg6 harg6 x0 x1 x2 ⟨86, by omega⟩ 43 0 rfl rfl inb_S96x32x256_S1x32x128_43_0_0 r l
    have e' : kernelRun0_A.sl.v1948 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨86, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 85 (by omega) rfl ?_ ?_
  · intro r l
    have e := v_at c i arg1 harg1 arg2 harg2 arg3 harg3 arg4 harg4 arg5 harg5 arg6 harg6 x0 x1 x2 ⟨85, by omega⟩ 42 128 rfl rfl inb_S96x32x256_S1x32x128_42_0_128 r l
    have e' : kernelRun0_A.sl.v1938 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨85, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 84 (by omega) rfl ?_ ?_
  · intro r l
    have e := v_at c i arg1 harg1 arg2 harg2 arg3 harg3 arg4 harg4 arg5 harg5 arg6 harg6 x0 x1 x2 ⟨84, by omega⟩ 42 0 rfl rfl inb_S96x32x256_S1x32x128_42_0_0 r l
    have e' : kernelRun0_A.sl.v1928 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨84, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 83 (by omega) rfl ?_ ?_
  · intro r l
    have e := v_at c i arg1 harg1 arg2 harg2 arg3 harg3 arg4 harg4 arg5 harg5 arg6 harg6 x0 x1 x2 ⟨83, by omega⟩ 41 128 rfl rfl inb_S96x32x256_S1x32x128_41_0_128 r l
    have e' : kernelRun0_A.sl.v1918 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨83, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 82 (by omega) rfl ?_ ?_
  · intro r l
    have e := v_at c i arg1 harg1 arg2 harg2 arg3 harg3 arg4 harg4 arg5 harg5 arg6 harg6 x0 x1 x2 ⟨82, by omega⟩ 41 0 rfl rfl inb_S96x32x256_S1x32x128_41_0_0 r l
    have e' : kernelRun0_A.sl.v1908 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨82, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 81 (by omega) rfl ?_ ?_
  · intro r l
    have e := v_at c i arg1 harg1 arg2 harg2 arg3 harg3 arg4 harg4 arg5 harg5 arg6 harg6 x0 x1 x2 ⟨81, by omega⟩ 40 128 rfl rfl inb_S96x32x256_S1x32x128_40_0_128 r l
    have e' : kernelRun0_A.sl.v1898 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨81, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 80 (by omega) rfl ?_ ?_
  · intro r l
    have e := v_at c i arg1 harg1 arg2 harg2 arg3 harg3 arg4 harg4 arg5 harg5 arg6 harg6 x0 x1 x2 ⟨80, by omega⟩ 40 0 rfl rfl inb_S96x32x256_S1x32x128_40_0_0 r l
    have e' : kernelRun0_A.sl.v1888 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨80, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 79 (by omega) rfl ?_ ?_
  · intro r l
    have e := v_at c i arg1 harg1 arg2 harg2 arg3 harg3 arg4 harg4 arg5 harg5 arg6 harg6 x0 x1 x2 ⟨79, by omega⟩ 39 128 rfl rfl inb_S96x32x256_S1x32x128_39_0_128 r l
    have e' : kernelRun0_A.sl.v1878 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨79, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 78 (by omega) rfl ?_ ?_
  · intro r l
    have e := v_at c i arg1 harg1 arg2 harg2 arg3 harg3 arg4 harg4 arg5 harg5 arg6 harg6 x0 x1 x2 ⟨78, by omega⟩ 39 0 rfl rfl inb_S96x32x256_S1x32x128_39_0_0 r l
    have e' : kernelRun0_A.sl.v1868 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨78, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 77 (by omega) rfl ?_ ?_
  · intro r l
    have e := v_at c i arg1 harg1 arg2 harg2 arg3 harg3 arg4 harg4 arg5 harg5 arg6 harg6 x0 x1 x2 ⟨77, by omega⟩ 38 128 rfl rfl inb_S96x32x256_S1x32x128_38_0_128 r l
    have e' : kernelRun0_A.sl.v1858 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨77, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 76 (by omega) rfl ?_ ?_
  · intro r l
    have e := v_at c i arg1 harg1 arg2 harg2 arg3 harg3 arg4 harg4 arg5 harg5 arg6 harg6 x0 x1 x2 ⟨76, by omega⟩ 38 0 rfl rfl inb_S96x32x256_S1x32x128_38_0_0 r l
    have e' : kernelRun0_A.sl.v1848 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨76, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 75 (by omega) rfl ?_ ?_
  · intro r l
    have e := v_at c i arg1 harg1 arg2 harg2 arg3 harg3 arg4 harg4 arg5 harg5 arg6 harg6 x0 x1 x2 ⟨75, by omega⟩ 37 128 rfl rfl inb_S96x32x256_S1x32x128_37_0_128 r l
    have e' : kernelRun0_A.sl.v1838 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨75, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 74 (by omega) rfl ?_ ?_
  · intro r l
    have e := v_at c i arg1 harg1 arg2 harg2 arg3 harg3 arg4 harg4 arg5 harg5 arg6 harg6 x0 x1 x2 ⟨74, by omega⟩ 37 0 rfl rfl inb_S96x32x256_S1x32x128_37_0_0 r l
    have e' : kernelRun0_A.sl.v1828 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨74, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 73 (by omega) rfl ?_ ?_
  · intro r l
    have e := v_at c i arg1 harg1 arg2 harg2 arg3 harg3 arg4 harg4 arg5 harg5 arg6 harg6 x0 x1 x2 ⟨73, by omega⟩ 36 128 rfl rfl inb_S96x32x256_S1x32x128_36_0_128 r l
    have e' : kernelRun0_A.sl.v1818 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨73, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 72 (by omega) rfl ?_ ?_
  · intro r l
    have e := v_at c i arg1 harg1 arg2 harg2 arg3 harg3 arg4 harg4 arg5 harg5 arg6 harg6 x0 x1 x2 ⟨72, by omega⟩ 36 0 rfl rfl inb_S96x32x256_S1x32x128_36_0_0 r l
    have e' : kernelRun0_A.sl.v1808 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨72, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 71 (by omega) rfl ?_ ?_
  · intro r l
    have e := v_at c i arg1 harg1 arg2 harg2 arg3 harg3 arg4 harg4 arg5 harg5 arg6 harg6 x0 x1 x2 ⟨71, by omega⟩ 35 128 rfl rfl inb_S96x32x256_S1x32x128_35_0_128 r l
    have e' : kernelRun0_A.sl.v1798 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨71, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 70 (by omega) rfl ?_ ?_
  · intro r l
    have e := v_at c i arg1 harg1 arg2 harg2 arg3 harg3 arg4 harg4 arg5 harg5 arg6 harg6 x0 x1 x2 ⟨70, by omega⟩ 35 0 rfl rfl inb_S96x32x256_S1x32x128_35_0_0 r l
    have e' : kernelRun0_A.sl.v1788 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨70, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 69 (by omega) rfl ?_ ?_
  · intro r l
    have e := v_at c i arg1 harg1 arg2 harg2 arg3 harg3 arg4 harg4 arg5 harg5 arg6 harg6 x0 x1 x2 ⟨69, by omega⟩ 34 128 rfl rfl inb_S96x32x256_S1x32x128_34_0_128 r l
    have e' : kernelRun0_A.sl.v1778 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨69, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 68 (by omega) rfl ?_ ?_
  · intro r l
    have e := v_at c i arg1 harg1 arg2 harg2 arg3 harg3 arg4 harg4 arg5 harg5 arg6 harg6 x0 x1 x2 ⟨68, by omega⟩ 34 0 rfl rfl inb_S96x32x256_S1x32x128_34_0_0 r l
    have e' : kernelRun0_A.sl.v1768 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨68, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 67 (by omega) rfl ?_ ?_
  · intro r l
    have e := v_at c i arg1 harg1 arg2 harg2 arg3 harg3 arg4 harg4 arg5 harg5 arg6 harg6 x0 x1 x2 ⟨67, by omega⟩ 33 128 rfl rfl inb_S96x32x256_S1x32x128_33_0_128 r l
    have e' : kernelRun0_A.sl.v1758 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨67, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 66 (by omega) rfl ?_ ?_
  · intro r l
    have e := v_at c i arg1 harg1 arg2 harg2 arg3 harg3 arg4 harg4 arg5 harg5 arg6 harg6 x0 x1 x2 ⟨66, by omega⟩ 33 0 rfl rfl inb_S96x32x256_S1x32x128_33_0_0 r l
    have e' : kernelRun0_A.sl.v1748 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨66, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 65 (by omega) rfl ?_ ?_
  · intro r l
    have e := v_at c i arg1 harg1 arg2 harg2 arg3 harg3 arg4 harg4 arg5 harg5 arg6 harg6 x0 x1 x2 ⟨65, by omega⟩ 32 128 rfl rfl inb_S96x32x256_S1x32x128_32_0_128 r l
    have e' : kernelRun0_A.sl.v1738 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨65, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 64 (by omega) rfl ?_ ?_
  · intro r l
    have e := v_at c i arg1 harg1 arg2 harg2 arg3 harg3 arg4 harg4 arg5 harg5 arg6 harg6 x0 x1 x2 ⟨64, by omega⟩ 32 0 rfl rfl inb_S96x32x256_S1x32x128_32_0_0 r l
    have e' : kernelRun0_A.sl.v1728 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨64, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 63 (by omega) rfl ?_ ?_
  · intro r l
    have e := v_at c i arg1 harg1 arg2 harg2 arg3 harg3 arg4 harg4 arg5 harg5 arg6 harg6 x0 x1 x2 ⟨63, by omega⟩ 31 128 rfl rfl inb_S96x32x256_S1x32x128_31_0_128 r l
    have e' : kernelRun0_A.sl.v1718 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨63, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 62 (by omega) rfl ?_ ?_
  · intro r l
    have e := v_at c i arg1 harg1 arg2 harg2 arg3 harg3 arg4 harg4 arg5 harg5 arg6 harg6 x0 x1 x2 ⟨62, by omega⟩ 31 0 rfl rfl inb_S96x32x256_S1x32x128_31_0_0 r l
    have e' : kernelRun0_A.sl.v1708 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨62, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 61 (by omega) rfl ?_ ?_
  · intro r l
    have e := v_at c i arg1 harg1 arg2 harg2 arg3 harg3 arg4 harg4 arg5 harg5 arg6 harg6 x0 x1 x2 ⟨61, by omega⟩ 30 128 rfl rfl inb_S96x32x256_S1x32x128_30_0_128 r l
    have e' : kernelRun0_A.sl.v1698 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨61, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 60 (by omega) rfl ?_ ?_
  · intro r l
    have e := v_at c i arg1 harg1 arg2 harg2 arg3 harg3 arg4 harg4 arg5 harg5 arg6 harg6 x0 x1 x2 ⟨60, by omega⟩ 30 0 rfl rfl inb_S96x32x256_S1x32x128_30_0_0 r l
    have e' : kernelRun0_A.sl.v1688 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨60, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 59 (by omega) rfl ?_ ?_
  · intro r l
    have e := v_at c i arg1 harg1 arg2 harg2 arg3 harg3 arg4 harg4 arg5 harg5 arg6 harg6 x0 x1 x2 ⟨59, by omega⟩ 29 128 rfl rfl inb_S96x32x256_S1x32x128_29_0_128 r l
    have e' : kernelRun0_A.sl.v1678 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨59, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 58 (by omega) rfl ?_ ?_
  · intro r l
    have e := v_at c i arg1 harg1 arg2 harg2 arg3 harg3 arg4 harg4 arg5 harg5 arg6 harg6 x0 x1 x2 ⟨58, by omega⟩ 29 0 rfl rfl inb_S96x32x256_S1x32x128_29_0_0 r l
    have e' : kernelRun0_A.sl.v1668 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨58, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 57 (by omega) rfl ?_ ?_
  · intro r l
    have e := v_at c i arg1 harg1 arg2 harg2 arg3 harg3 arg4 harg4 arg5 harg5 arg6 harg6 x0 x1 x2 ⟨57, by omega⟩ 28 128 rfl rfl inb_S96x32x256_S1x32x128_28_0_128 r l
    have e' : kernelRun0_A.sl.v1658 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨57, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 56 (by omega) rfl ?_ ?_
  · intro r l
    have e := v_at c i arg1 harg1 arg2 harg2 arg3 harg3 arg4 harg4 arg5 harg5 arg6 harg6 x0 x1 x2 ⟨56, by omega⟩ 28 0 rfl rfl inb_S96x32x256_S1x32x128_28_0_0 r l
    have e' : kernelRun0_A.sl.v1648 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨56, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 55 (by omega) rfl ?_ ?_
  · intro r l
    have e := v_at c i arg1 harg1 arg2 harg2 arg3 harg3 arg4 harg4 arg5 harg5 arg6 harg6 x0 x1 x2 ⟨55, by omega⟩ 27 128 rfl rfl inb_S96x32x256_S1x32x128_27_0_128 r l
    have e' : kernelRun0_A.sl.v1638 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨55, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 54 (by omega) rfl ?_ ?_
  · intro r l
    have e := v_at c i arg1 harg1 arg2 harg2 arg3 harg3 arg4 harg4 arg5 harg5 arg6 harg6 x0 x1 x2 ⟨54, by omega⟩ 27 0 rfl rfl inb_S96x32x256_S1x32x128_27_0_0 r l
    have e' : kernelRun0_A.sl.v1628 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨54, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 53 (by omega) rfl ?_ ?_
  · intro r l
    have e := v_at c i arg1 harg1 arg2 harg2 arg3 harg3 arg4 harg4 arg5 harg5 arg6 harg6 x0 x1 x2 ⟨53, by omega⟩ 26 128 rfl rfl inb_S96x32x256_S1x32x128_26_0_128 r l
    have e' : kernelRun0_A.sl.v1618 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨53, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 52 (by omega) rfl ?_ ?_
  · intro r l
    have e := v_at c i arg1 harg1 arg2 harg2 arg3 harg3 arg4 harg4 arg5 harg5 arg6 harg6 x0 x1 x2 ⟨52, by omega⟩ 26 0 rfl rfl inb_S96x32x256_S1x32x128_26_0_0 r l
    have e' : kernelRun0_A.sl.v1608 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨52, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 51 (by omega) rfl ?_ ?_
  · intro r l
    have e := v_at c i arg1 harg1 arg2 harg2 arg3 harg3 arg4 harg4 arg5 harg5 arg6 harg6 x0 x1 x2 ⟨51, by omega⟩ 25 128 rfl rfl inb_S96x32x256_S1x32x128_25_0_128 r l
    have e' : kernelRun0_A.sl.v1598 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨51, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 50 (by omega) rfl ?_ ?_
  · intro r l
    have e := v_at c i arg1 harg1 arg2 harg2 arg3 harg3 arg4 harg4 arg5 harg5 arg6 harg6 x0 x1 x2 ⟨50, by omega⟩ 25 0 rfl rfl inb_S96x32x256_S1x32x128_25_0_0 r l
    have e' : kernelRun0_A.sl.v1588 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨50, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 49 (by omega) rfl ?_ ?_
  · intro r l
    have e := v_at c i arg1 harg1 arg2 harg2 arg3 harg3 arg4 harg4 arg5 harg5 arg6 harg6 x0 x1 x2 ⟨49, by omega⟩ 24 128 rfl rfl inb_S96x32x256_S1x32x128_24_0_128 r l
    have e' : kernelRun0_A.sl.v1578 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨49, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 48 (by omega) rfl ?_ ?_
  · intro r l
    have e := v_at c i arg1 harg1 arg2 harg2 arg3 harg3 arg4 harg4 arg5 harg5 arg6 harg6 x0 x1 x2 ⟨48, by omega⟩ 24 0 rfl rfl inb_S96x32x256_S1x32x128_24_0_0 r l
    have e' : kernelRun0_A.sl.v1568 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨48, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  exact h

end Cert.RotateIdeal.Hand

end
-- ==== Proof.RotateCodes3.lean ====
module

public import proofs.«01_k».proof.Proof.Gen.RotateIdeal.Value
public import Idealize.ShloMosaic.Lib.Pointwise
public import Idealize.ShloMosaic.Lib.Pipeline.ValueKit
public import Idealize.ShloMosaic.Lib.Pipeline.ReadBack
public import Idealize.ShloMosaic.Lib.WritesUnit
public import proofs.«01_k».proof.Proof.RotateCode
set_option maxHeartbeats 4000000

@[expose] public section

set_option maxRecDepth 16384

noncomputable section

namespace Cert.RotateIdeal.Hand

open Cert.RotateIdeal Cert.RotateIdeal.Gen
open Idealize.ShloMosaic Idealize.ShloMosaic.TcCoe Idealize.SL.Sem

/-- The codes of the first 48 pieces of 128 columns, the last 48 of them stored here. -/
theorem codes3 (c : Dev nD) (i : grid0.Coords) (arg1 : Memref sig .tc .smem S12x12 .f32) (harg1 : arg1.IsWhole) (arg2 : Memref sig .tc .vmem S32x24576 .bf16) (harg2 : arg2.IsWhole) (arg3 : Memref sig .tc .vmem S256x256 .bf16) (harg3 : arg3.IsWhole) (arg4 : Memref sig .tc .vmem S32x24576 .i8) (harg4 : arg4.IsWhole) (arg5 : Memref sig .tc .vmem S32x128 .f32) (harg5 : arg5.IsWhole) (arg6 : Memref sig .tc .vmem S96x32x256 .f32) (harg6 : arg6.IsWhole) (x0 : Vec Ideal S12x12 .f32) (x1 : Vec Ideal S32x24576 .bf16) (x2 : Vec Ideal S256x256 .bf16) (v : View sig .tc .vmem S32x24576 .i8) (f : BufTy.Contents (Elt Ideal) v.ty)
    (r : Fin 32) (q : Fin 192) (l : Fin 128) (ha : q.val < 48) :
    v.read (Elt Ideal) (v.writes (Elt Ideal) f ((kernelRun0_A (F := Ideal) c i arg1 harg1 arg2 harg2 arg3 harg3 arg4 harg4 arg5 harg5 arg6 harg6 x0 x1 x2).1.drop 144)) (ix2 r ⟨128 * q.val + l.val, by omega⟩) = code x0 (halfS x1 x2) r q l := by
  unfold kernelRun0_A
  dsimp only [List.drop_succ_cons, List.drop_zero]
  revert r q l
  refine stepc v f _ _ _ (code x0 (halfS x1 x2)) 47 (by omega) rfl ?_ ?_
  · intro r l
    have e := v_at c i arg1 harg1 arg2 harg2 arg3 harg3 arg4 harg4 arg5 harg5 arg6 harg6 x0 x1 x2 ⟨47, by omega⟩ 23 128 rfl rfl inb_S96x32x256_S1x32x128_23_0_128 r l
    have e' : kernelRun0_A.sl.v1558 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨47, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 46 (by omega) rfl ?_ ?_
  · intro r l
    have e := v_at c i arg1 harg1 arg2 harg2 arg3 harg3 arg4 harg4 arg5 harg5 arg6 harg6 x0 x1 x2 ⟨46, by omega⟩ 23 0 rfl rfl inb_S96x32x256_S1x32x128_23_0_0 r l
    have e' : kernelRun0_A.sl.v1548 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨46, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 45 (by omega) rfl ?_ ?_
  · intro r l
    have e := v_at c i arg1 harg1 arg2 harg2 arg3 harg3 arg4 harg4 arg5 harg5 arg6 harg6 x0 x1 x2 ⟨45, by omega⟩ 22 128 rfl rfl inb_S96x32x256_S1x32x128_22_0_128 r l
    have e' : kernelRun0_A.sl.v1538 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨45, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 44 (by omega) rfl ?_ ?_
  · intro r l
    have e := v_at c i arg1 harg1 arg2 harg2 arg3 harg3 arg4 harg4 arg5 harg5 arg6 harg6 x0 x1 x2 ⟨44, by omega⟩ 22 0 rfl rfl inb_S96x32x256_S1x32x128_22_0_0 r l
    have e' : kernelRun0_A.sl.v1528 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨44, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 43 (by omega) rfl ?_ ?_
  · intro r l
    have e := v_at c i arg1 harg1 arg2 harg2 arg3 harg3 arg4 harg4 arg5 harg5 arg6 harg6 x0 x1 x2 ⟨43, by omega⟩ 21 128 rfl rfl inb_S96x32x256_S1x32x128_21_0_128 r l
    have e' : kernelRun0_A.sl.v1518 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨43, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 42 (by omega) rfl ?_ ?_
  · intro r l
    have e := v_at c i arg1 harg1 arg2 harg2 arg3 harg3 arg4 harg4 arg5 harg5 arg6 harg6 x0 x1 x2 ⟨42, by omega⟩ 21 0 rfl rfl inb_S96x32x256_S1x32x128_21_0_0 r l
    have e' : kernelRun0_A.sl.v1508 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨42, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 41 (by omega) rfl ?_ ?_
  · intro r l
    have e := v_at c i arg1 harg1 arg2 harg2 arg3 harg3 arg4 harg4 arg5 harg5 arg6 harg6 x0 x1 x2 ⟨41, by omega⟩ 20 128 rfl rfl inb_S96x32x256_S1x32x128_20_0_128 r l
    have e' : kernelRun0_A.sl.v1498 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨41, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 40 (by omega) rfl ?_ ?_
  · intro r l
    have e := v_at c i arg1 harg1 arg2 harg2 arg3 harg3 arg4 harg4 arg5 harg5 arg6 harg6 x0 x1 x2 ⟨40, by omega⟩ 20 0 rfl rfl inb_S96x32x256_S1x32x128_20_0_0 r l
    have e' : kernelRun0_A.sl.v1488 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨40, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 39 (by omega) rfl ?_ ?_
  · intro r l
    have e := v_at c i arg1 harg1 arg2 harg2 arg3 harg3 arg4 harg4 arg5 harg5 arg6 harg6 x0 x1 x2 ⟨39, by omega⟩ 19 128 rfl rfl inb_S96x32x256_S1x32x128_19_0_128 r l
    have e' : kernelRun0_A.sl.v1478 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨39, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 38 (by omega) rfl ?_ ?_
  · intro r l
    have e := v_at c i arg1 harg1 arg2 harg2 arg3 harg3 arg4 harg4 arg5 harg5 arg6 harg6 x0 x1 x2 ⟨38, by omega⟩ 19 0 rfl rfl inb_S96x32x256_S1x32x128_19_0_0 r l
    have e' : kernelRun0_A.sl.v1468 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨38, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 37 (by omega) rfl ?_ ?_
  · intro r l
    have e := v_at c i arg1 harg1 arg2 harg2 arg3 harg3 arg4 harg4 arg5 harg5 arg6 harg6 x0 x1 x2 ⟨37, by omega⟩ 18 128 rfl rfl inb_S96x32x256_S1x32x128_18_0_128 r l
    have e' : kernelRun0_A.sl.v1458 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨37, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 36 (by omega) rfl ?_ ?_
  · intro r l
    have e := v_at c i arg1 harg1 arg2 harg2 arg3 harg3 arg4 harg4 arg5 harg5 arg6 harg6 x0 x1 x2 ⟨36, by omega⟩ 18 0 rfl rfl inb_S96x32x256_S1x32x128_18_0_0 r l
    have e' : kernelRun0_A.sl.v1448 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨36, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 35 (by omega) rfl ?_ ?_
  · intro r l
    have e := v_at c i arg1 harg1 arg2 harg2 arg3 harg3 arg4 harg4 arg5 harg5 arg6 harg6 x0 x1 x2 ⟨35, by omega⟩ 17 128 rfl rfl inb_S96x32x256_S1x32x128_17_0_128 r l
    have e' : kernelRun0_A.sl.v1438 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨35, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 34 (by omega) rfl ?_ ?_
  · intro r l
    have e := v_at c i arg1 harg1 arg2 harg2 arg3 harg3 arg4 harg4 arg5 harg5 arg6 harg6 x0 x1 x2 ⟨34, by omega⟩ 17 0 rfl rfl inb_S96x32x256_S1x32x128_17_0_0 r l
    have e' : kernelRun0_A.sl.v1428 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨34, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 33 (by omega) rfl ?_ ?_
  · intro r l
    have e := v_at c i arg1 harg1 arg2 harg2 arg3 harg3 arg4 harg4 arg5 harg5 arg6 harg6 x0 x1 x2 ⟨33, by omega⟩ 16 128 rfl rfl inb_S96x32x256_S1x32x128_16_0_128 r l
    have e' : kernelRun0_A.sl.v1418 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨33, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 32 (by omega) rfl ?_ ?_
  · intro r l
    have e := v_at c i arg1 harg1 arg2 harg2 arg3 harg3 arg4 harg4 arg5 harg5 arg6 harg6 x0 x1 x2 ⟨32, by omega⟩ 16 0 rfl rfl inb_S96x32x256_S1x32x128_16_0_0 r l
    have e' : kernelRun0_A.sl.v1408 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨32, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 31 (by omega) rfl ?_ ?_
  · intro r l
    have e := v_at c i arg1 harg1 arg2 harg2 arg3 harg3 arg4 harg4 arg5 harg5 arg6 harg6 x0 x1 x2 ⟨31, by omega⟩ 15 128 rfl rfl inb_S96x32x256_S1x32x128_15_0_128 r l
    have e' : kernelRun0_A.sl.v1398 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨31, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 30 (by omega) rfl ?_ ?_
  · intro r l
    have e := v_at c i arg1 harg1 arg2 harg2 arg3 harg3 arg4 harg4 arg5 harg5 arg6 harg6 x0 x1 x2 ⟨30, by omega⟩ 15 0 rfl rfl inb_S96x32x256_S1x32x128_15_0_0 r l
    have e' : kernelRun0_A.sl.v1388 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨30, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 29 (by omega) rfl ?_ ?_
  · intro r l
    have e := v_at c i arg1 harg1 arg2 harg2 arg3 harg3 arg4 harg4 arg5 harg5 arg6 harg6 x0 x1 x2 ⟨29, by omega⟩ 14 128 rfl rfl inb_S96x32x256_S1x32x128_14_0_128 r l
    have e' : kernelRun0_A.sl.v1378 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨29, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 28 (by omega) rfl ?_ ?_
  · intro r l
    have e := v_at c i arg1 harg1 arg2 harg2 arg3 harg3 arg4 harg4 arg5 harg5 arg6 harg6 x0 x1 x2 ⟨28, by omega⟩ 14 0 rfl rfl inb_S96x32x256_S1x32x128_14_0_0 r l
    have e' : kernelRun0_A.sl.v1368 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨28, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 27 (by omega) rfl ?_ ?_
  · intro r l
    have e := v_at c i arg1 harg1 arg2 harg2 arg3 harg3 arg4 harg4 arg5 harg5 arg6 harg6 x0 x1 x2 ⟨27, by omega⟩ 13 128 rfl rfl inb_S96x32x256_S1x32x128_13_0_128 r l
    have e' : kernelRun0_A.sl.v1358 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨27, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 26 (by omega) rfl ?_ ?_
  · intro r l
    have e := v_at c i arg1 harg1 arg2 harg2 arg3 harg3 arg4 harg4 arg5 harg5 arg6 harg6 x0 x1 x2 ⟨26, by omega⟩ 13 0 rfl rfl inb_S96x32x256_S1x32x128_13_0_0 r l
    have e' : kernelRun0_A.sl.v1348 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨26, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 25 (by omega) rfl ?_ ?_
  · intro r l
    have e := v_at c i arg1 harg1 arg2 harg2 arg3 harg3 arg4 harg4 arg5 harg5 arg6 harg6 x0 x1 x2 ⟨25, by omega⟩ 12 128 rfl rfl inb_S96x32x256_S1x32x128_12_0_128 r l
    have e' : kernelRun0_A.sl.v1338 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨25, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 24 (by omega) rfl ?_ ?_
  · intro r l
    have e := v_at c i arg1 harg1 arg2 harg2 arg3 harg3 arg4 harg4 arg5 harg5 arg6 harg6 x0 x1 x2 ⟨24, by omega⟩ 12 0 rfl rfl inb_S96x32x256_S1x32x128_12_0_0 r l
    have e' : kernelRun0_A.sl.v1328 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨24, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 23 (by omega) rfl ?_ ?_
  · intro r l
    have e := v_at c i arg1 harg1 arg2 harg2 arg3 harg3 arg4 harg4 arg5 harg5 arg6 harg6 x0 x1 x2 ⟨23, by omega⟩ 11 128 rfl rfl inb_S96x32x256_S1x32x128_11_0_128 r l
    have e' : kernelRun0_A.sl.v1318 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨23, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 22 (by omega) rfl ?_ ?_
  · intro r l
    have e := v_at c i arg1 harg1 arg2 harg2 arg3 harg3 arg4 harg4 arg5 harg5 arg6 harg6 x0 x1 x2 ⟨22, by omega⟩ 11 0 rfl rfl inb_S96x32x256_S1x32x128_11_0_0 r l
    have e' : kernelRun0_A.sl.v1308 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨22, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 21 (by omega) rfl ?_ ?_
  · intro r l
    have e := v_at c i arg1 harg1 arg2 harg2 arg3 harg3 arg4 harg4 arg5 harg5 arg6 harg6 x0 x1 x2 ⟨21, by omega⟩ 10 128 rfl rfl inb_S96x32x256_S1x32x128_10_0_128 r l
    have e' : kernelRun0_A.sl.v1298 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨21, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 20 (by omega) rfl ?_ ?_
  · intro r l
    have e := v_at c i arg1 harg1 arg2 harg2 arg3 harg3 arg4 harg4 arg5 harg5 arg6 harg6 x0 x1 x2 ⟨20, by omega⟩ 10 0 rfl rfl inb_S96x32x256_S1x32x128_10_0_0 r l
    have e' : kernelRun0_A.sl.v1288 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨20, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 19 (by omega) rfl ?_ ?_
  · intro r l
    have e := v_at c i arg1 harg1 arg2 harg2 arg3 harg3 arg4 harg4 arg5 harg5 arg6 harg6 x0 x1 x2 ⟨19, by omega⟩ 9 128 rfl rfl inb_S96x32x256_S1x32x128_9_0_128 r l
    have e' : kernelRun0_A.sl.v1278 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨19, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 18 (by omega) rfl ?_ ?_
  · intro r l
    have e := v_at c i arg1 harg1 arg2 harg2 arg3 harg3 arg4 harg4 arg5 harg5 arg6 harg6 x0 x1 x2 ⟨18, by omega⟩ 9 0 rfl rfl inb_S96x32x256_S1x32x128_9_0_0 r l
    have e' : kernelRun0_A.sl.v1268 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨18, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 17 (by omega) rfl ?_ ?_
  · intro r l
    have e := v_at c i arg1 harg1 arg2 harg2 arg3 harg3 arg4 harg4 arg5 harg5 arg6 harg6 x0 x1 x2 ⟨17, by omega⟩ 8 128 rfl rfl inb_S96x32x256_S1x32x128_8_0_128 r l
    have e' : kernelRun0_A.sl.v1258 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨17, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 16 (by omega) rfl ?_ ?_
  · intro r l
    have e := v_at c i arg1 harg1 arg2 harg2 arg3 harg3 arg4 harg4 arg5 harg5 arg6 harg6 x0 x1 x2 ⟨16, by omega⟩ 8 0 rfl rfl inb_S96x32x256_S1x32x128_8_0_0 r l
    have e' : kernelRun0_A.sl.v1248 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨16, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 15 (by omega) rfl ?_ ?_
  · intro r l
    have e := v_at c i arg1 harg1 arg2 harg2 arg3 harg3 arg4 harg4 arg5 harg5 arg6 harg6 x0 x1 x2 ⟨15, by omega⟩ 7 128 rfl rfl inb_S96x32x256_S1x32x128_7_0_128 r l
    have e' : kernelRun0_A.sl.v1238 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨15, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 14 (by omega) rfl ?_ ?_
  · intro r l
    have e := v_at c i arg1 harg1 arg2 harg2 arg3 harg3 arg4 harg4 arg5 harg5 arg6 harg6 x0 x1 x2 ⟨14, by omega⟩ 7 0 rfl rfl inb_S96x32x256_S1x32x128_7_0_0 r l
    have e' : kernelRun0_A.sl.v1228 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨14, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 13 (by omega) rfl ?_ ?_
  · intro r l
    have e := v_at c i arg1 harg1 arg2 harg2 arg3 harg3 arg4 harg4 arg5 harg5 arg6 harg6 x0 x1 x2 ⟨13, by omega⟩ 6 128 rfl rfl inb_S96x32x256_S1x32x128_6_0_128 r l
    have e' : kernelRun0_A.sl.v1218 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨13, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 12 (by omega) rfl ?_ ?_
  · intro r l
    have e := v_at c i arg1 harg1 arg2 harg2 arg3 harg3 arg4 harg4 arg5 harg5 arg6 harg6 x0 x1 x2 ⟨12, by omega⟩ 6 0 rfl rfl inb_S96x32x256_S1x32x128_6_0_0 r l
    have e' : kernelRun0_A.sl.v1208 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨12, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 11 (by omega) rfl ?_ ?_
  · intro r l
    have e := v_at c i arg1 harg1 arg2 harg2 arg3 harg3 arg4 harg4 arg5 harg5 arg6 harg6 x0 x1 x2 ⟨11, by omega⟩ 5 128 rfl rfl inb_S96x32x256_S1x32x128_5_0_128 r l
    have e' : kernelRun0_A.sl.v1198 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨11, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 10 (by omega) rfl ?_ ?_
  · intro r l
    have e := v_at c i arg1 harg1 arg2 harg2 arg3 harg3 arg4 harg4 arg5 harg5 arg6 harg6 x0 x1 x2 ⟨10, by omega⟩ 5 0 rfl rfl inb_S96x32x256_S1x32x128_5_0_0 r l
    have e' : kernelRun0_A.sl.v1188 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨10, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 9 (by omega) rfl ?_ ?_
  · intro r l
    have e := v_at c i arg1 harg1 arg2 harg2 arg3 harg3 arg4 harg4 arg5 harg5 arg6 harg6 x0 x1 x2 ⟨9, by omega⟩ 4 128 rfl rfl inb_S96x32x256_S1x32x128_4_0_128 r l
    have e' : kernelRun0_A.sl.v1178 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨9, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 8 (by omega) rfl ?_ ?_
  · intro r l
    have e := v_at c i arg1 harg1 arg2 harg2 arg3 harg3 arg4 harg4 arg5 harg5 arg6 harg6 x0 x1 x2 ⟨8, by omega⟩ 4 0 rfl rfl inb_S96x32x256_S1x32x128_4_0_0 r l
    have e' : kernelRun0_A.sl.v1168 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨8, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 7 (by omega) rfl ?_ ?_
  · intro r l
    have e := v_at c i arg1 harg1 arg2 harg2 arg3 harg3 arg4 harg4 arg5 harg5 arg6 harg6 x0 x1 x2 ⟨7, by omega⟩ 3 128 rfl rfl inb_S96x32x256_S1x32x128_3_0_128 r l
    have e' : kernelRun0_A.sl.v1158 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨7, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 6 (by omega) rfl ?_ ?_
  · intro r l
    have e := v_at c i arg1 harg1 arg2 harg2 arg3 harg3 arg4 harg4 arg5 harg5 arg6 harg6 x0 x1 x2 ⟨6, by omega⟩ 3 0 rfl rfl inb_S96x32x256_S1x32x128_3_0_0 r l
    have e' : kernelRun0_A.sl.v1148 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨6, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 5 (by omega) rfl ?_ ?_
  · intro r l
    have e := v_at c i arg1 harg1 arg2 harg2 arg3 harg3 arg4 harg4 arg5 harg5 arg6 harg6 x0 x1 x2 ⟨5, by omega⟩ 2 128 rfl rfl inb_S96x32x256_S1x32x128_2_0_128 r l
    have e' : kernelRun0_A.sl.v1138 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨5, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 4 (by omega) rfl ?_ ?_
  · intro r l
    have e := v_at c i arg1 harg1 arg2 harg2 arg3 harg3 arg4 harg4 arg5 harg5 arg6 harg6 x0 x1 x2 ⟨4, by omega⟩ 2 0 rfl rfl inb_S96x32x256_S1x32x128_2_0_0 r l
    have e' : kernelRun0_A.sl.v1128 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨4, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 3 (by omega) rfl ?_ ?_
  · intro r l
    have e := v_at c i arg1 harg1 arg2 harg2 arg3 harg3 arg4 harg4 arg5 harg5 arg6 harg6 x0 x1 x2 ⟨3, by omega⟩ 1 128 rfl rfl inb_S96x32x256_S1x32x128_1_0_128 r l
    have e' : kernelRun0_A.sl.v1118 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨3, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 2 (by omega) rfl ?_ ?_
  · intro r l
    have e := v_at c i arg1 harg1 arg2 harg2 arg3 harg3 arg4 harg4 arg5 harg5 arg6 harg6 x0 x1 x2 ⟨2, by omega⟩ 1 0 rfl rfl inb_S96x32x256_S1x32x128_1_0_0 r l
    have e' : kernelRun0_A.sl.v1108 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨2, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 1 (by omega) rfl ?_ ?_
  · intro r l
    have e := v_at c i arg1 harg1 arg2 harg2 arg3 harg3 arg4 harg4 arg5 harg5 arg6 harg6 x0 x1 x2 ⟨1, by omega⟩ 0 128 rfl rfl inb_S96x32x256_S1x32x128_0_0_128 r l
    have e' : kernelRun0_A.sl.v1098 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨1, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  refine stepc v f _ _ _ (code x0 (halfS x1 x2)) 0 (by omega) rfl ?_ ?_
  · intro r l
    have e := v_at c i arg1 harg1 arg2 harg2 arg3 harg3 arg4 harg4 arg5 harg5 arg6 harg6 x0 x1 x2 ⟨0, by omega⟩ 0 0 rfl rfl inb_S96x32x256_S1x32x128_0_0_0 r l
    have e' : kernelRun0_A.sl.v1088 (F := Ideal) c i arg1 harg1 arg2 harg2 arg3 harg3 arg4 harg4 arg5 harg5 arg6 harg6 x0 x1 x2 (ix3 0 r l) = _ := e
    have e3 := scale_at c i arg1 harg1 arg2 harg2 arg3 harg3 arg4 harg4 arg5 harg5 arg6 harg6 x0 x1 x2 r l
    have e2 := inv_at c i arg1 harg1 arg2 harg2 arg3 harg3 arg4 harg4 arg5 harg5 arg6 harg6 x0 x1 x2 r l
    refine Eq.trans ?_ (code_eq x0 (halfS x1 x2) r ⟨0, by omega⟩ l _ e')
    try simp only [kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.cst_388]
    open_payloads
    pointwise [e2, e3]
    rfl
  exact fun r q l ha => absurd ha (by omega)

end Cert.RotateIdeal.Hand

end
-- ==== Proof.RotateFinal.lean ====
module

public import proofs.«01_k».proof.Proof.Gen.RotateIdeal.Value
public import Idealize.ShloMosaic.Lib.Pointwise
public import Idealize.ShloMosaic.Lib.Pipeline.ValueKit
public import Idealize.ShloMosaic.Lib.Pipeline.ReadBack
public import Idealize.ShloMosaic.Lib.WritesUnit
public import proofs.«01_k».proof.Proof.RotateCodes0
public import proofs.«01_k».proof.Proof.RotateCodes1
public import proofs.«01_k».proof.Proof.RotateCodes2
public import proofs.«01_k».proof.Proof.RotateCodes3
@[expose] public section

set_option maxRecDepth 16384

noncomputable section

namespace Cert.RotateIdeal.Hand

open Cert.RotateIdeal Cert.RotateIdeal.Gen
open Idealize.ShloMosaic Idealize.ShloMosaic.TcCoe Idealize.SL.Sem

/-- What a run leaves as the codes of its rows. -/
theorem codes_out (c : Dev nD) (i : grid0.Coords) (arg1 : Memref sig .tc .smem S12x12 .f32) (harg1 : arg1.IsWhole) (arg2 : Memref sig .tc .vmem S32x24576 .bf16) (harg2 : arg2.IsWhole) (arg3 : Memref sig .tc .vmem S256x256 .bf16) (harg3 : arg3.IsWhole) (arg4 : Memref sig .tc .vmem S32x24576 .i8) (harg4 : arg4.IsWhole) (arg5 : Memref sig .tc .vmem S32x128 .f32) (harg5 : arg5.IsWhole) (arg6 : Memref sig .tc .vmem S96x32x256 .f32) (harg6 : arg6.IsWhole) (x0 : Vec Ideal S12x12 .f32) (x1 : Vec Ideal S32x24576 .bf16) (x2 : Vec Ideal S256x256 .bf16) (v : View sig .tc .vmem S32x24576 .i8) (f : BufTy.Contents (Elt Ideal) v.ty) (r : Fin 32) (q : Fin 192) (l : Fin 128) :
    v.read (Elt Ideal) (v.writes (Elt Ideal) f ((kernelRun0_A (F := Ideal) c i arg1 harg1 arg2 harg2 arg3 harg3 arg4 harg4 arg5 harg5 arg6 harg6 x0 x1 x2).1)) (ix2 r ⟨128 * q.val + l.val, by omega⟩) = code x0 (halfS x1 x2) r q l :=
  codes0 c i arg1 harg1 arg2 harg2 arg3 harg3 arg4 harg4 arg5 harg5 arg6 harg6 x0 x1 x2 v f
    (fun r q l h => codes1 c i arg1 harg1 arg2 harg2 arg3 harg3 arg4 harg4 arg5 harg5 arg6 harg6 x0 x1 x2 v f
      (fun r q l h => codes2 c i arg1 harg1 arg2 harg2 arg3 harg3 arg4 harg4 arg5 harg5 arg6 harg6 x0 x1 x2 v f
        (fun r q l h => codes3 c i arg1 harg1 arg2 harg2 arg3 harg3 arg4 harg4 arg5 harg5 arg6 harg6 x0 x1 x2 v f r q l h) r q l h) r q l h) r q l q.isLt

theorem codes_out' (c : Dev nD) (i : grid0.Coords) (arg1 : Memref sig .tc .smem S12x12 .f32) (harg1 : arg1.IsWhole) (arg2 : Memref sig .tc .vmem S32x24576 .bf16) (harg2 : arg2.IsWhole) (arg3 : Memref sig .tc .vmem S256x256 .bf16) (harg3 : arg3.IsWhole) (arg4 : Memref sig .tc .vmem S32x24576 .i8) (harg4 : arg4.IsWhole) (arg5 : Memref sig .tc .vmem S32x128 .f32) (harg5 : arg5.IsWhole) (arg6 : Memref sig .tc .vmem S96x32x256 .f32) (harg6 : arg6.IsWhole) (x0 : Vec Ideal S12x12 .f32) (x1 : Vec Ideal S32x24576 .bf16) (x2 : Vec Ideal S256x256 .bf16) (v : View sig .tc .vmem S32x24576 .i8) (f : BufTy.Contents (Elt Ideal) v.ty) (r : Fin 32) (k : Fin 24576) :
    v.read (Elt Ideal) (v.writes (Elt Ideal) f ((kernelRun0_A (F := Ideal) c i arg1 harg1 arg2 harg2 arg3 harg3 arg4 harg4 arg5 harg5 arg6 harg6 x0 x1 x2).1)) (ix2 r k) = code x0 (halfS x1 x2) r ⟨k.val / 128, by omega⟩ ⟨k.val % 128, by omega⟩ := by
  have h := codes_out c i arg1 harg1 arg2 harg2 arg3 harg3 arg4 harg4 arg5 harg5 arg6 harg6 x0 x1 x2 v f r ⟨k.val / 128, by omega⟩ ⟨k.val % 128, by omega⟩
  rwa [show (⟨128 * (k.val / 128) + k.val % 128, by omega⟩ : Fin 24576) = k from Fin.ext (Nat.div_add_mod _ _)] at h

theorem scale_out' (c : Dev nD) (i : grid0.Coords) (arg1 : Memref sig .tc .smem S12x12 .f32) (harg1 : arg1.IsWhole) (arg2 : Memref sig .tc .vmem S32x24576 .bf16) (harg2 : arg2.IsWhole) (arg3 : Memref sig .tc .vmem S256x256 .bf16) (harg3 : arg3.IsWhole) (arg4 : Memref sig .tc .vmem S32x24576 .i8) (harg4 : arg4.IsWhole) (arg5 : Memref sig .tc .vmem S32x128 .f32) (harg5 : arg5.IsWhole) (arg6 : Memref sig .tc .vmem S96x32x256 .f32) (harg6 : arg6.IsWhole) (x0 : Vec Ideal S12x12 .f32) (x1 : Vec Ideal S32x24576 .bf16) (x2 : Vec Ideal S256x256 .bf16) (v : View sig .tc .vmem S32x128 .f32) (r : Fin 32) (l : Fin 128) :
    v.read (Elt Ideal) (v.writes (Elt Ideal) v.junk ((kernelRun0_A (F := Ideal) c i arg1 harg1 arg2 harg2 arg3 harg3 arg4 harg4 arg5 harg5 arg6 harg6 x0 x1 x2).2.1)) (ix2 r l) = scaleOf (amax x0 (halfS x1 x2) r) := by
  rw [View.read_writes_junk_eq_canon]
  exact scale_out c i arg1 harg1 arg2 harg2 arg3 harg3 arg4 harg4 arg5 harg5 arg6 harg6 x0 x1 x2 r l

theorem idx : ∀ t : Fin grid0.N,
    win0_0.index t = ![0, 0] ∧ win0_1.index t = ![t.val, 0] ∧ win0_2.index t = ![0, 0] ∧ win0_3.index t = ![t.val, 0]
    ∧ win0_4.index t = ![t.val, 0] := by decide +kernel

/-- The sign at row `p`, column `q`: one, or minus one if the numbers share an odd number of binary digits one. -/
def sign (p q : ℕ) : EReal :=
  (((1#32 - 2#32 * (IntOp.ctpop (BitVec.ofNat 32 p &&& BitVec.ofNat 32 q) &&& 1#32)).toInt : ℝ) : EReal)

/-- The matrix of signs the 256-wide transform multiplies with. -/
def signs : S256x256.Idx → EReal := fun j => sign (j 0).val (j 1).val

/-- Rows `32 t` to `32 t + 31` of the input. -/
def rowsOf (x : Vec Ideal S6x1024x24576 .bf16) (t : ℕ) (ht : t < 192) : S32x24576.Idx → EReal := fun y =>
  x (ix3 ⟨(32 * t + (y 0).val) / 1024, by have h : (y 0).val < 32 := (y 0).isLt; omega⟩ ⟨(32 * t + (y 0).val) % 1024, by omega⟩ (y 1))

theorem rowsOf_congr (x : Vec Ideal S6x1024x24576 .bf16) (t t' : ℕ) (ht : t < 192) (ht' : t' < 192) (h : t = t') : rowsOf x t ht = rowsOf x t' ht' := by
  subst h
  rfl

variable (m : (ℓ : Loc nD τ sig) → Buf (Elt Ideal) ℓ)

theorem blk0 (c : Dev nD) (t : Fin cfg0.N) : iblk m c 0 t = m ((c : Thread nD τ).loc main_arg1) := by
  funext y
  idx_vars y
  blk_point [iblk, V, idx t]

theorem blk2 (c : Dev nD) (t : Fin cfg0.N) : iblk m c 2 t = signs := by
  funext y
  idx_vars y
  blk_simp [iblk, V, idx t]
  entry_read
  pointwise []
  have e0 : (((View.whole main_v11).slice (win0_2.rect t)).emb (ix2 y0 y1) 0).val = y0.val := by blk_simp [idx t]
  have e1 : (((View.whole main_v11).slice (win0_2.rect t)).emb (ix2 y0 y1) 1).val = y1.val := by blk_simp [idx t]
  rw [e0, e1]
  rfl

theorem blk1 (c : Dev nD) (t : Fin cfg0.N) (ht : t.val < 192) : iblk m c 1 t = rowsOf (m ((c : Thread nD τ).loc main_arg0)) t.val ht := by
  funext y
  idx_vars y
  unfold rowsOf
  blk_point [iblk, V, idx t]

/-- The codes the kernel leaves, entry by entry. -/
theorem final3 (c : Dev nD) : (dats m 0 c).arrAt 3 cfg0.N = fun j : S6144x24576.Idx =>
    code (m ((c : Thread nD τ).loc main_arg1)) (halfS (rowsOf (m ((c : Thread nD τ).loc main_arg0)) ((j 0).val / 32) (by have h : (j 0).val < 6144 := (j 0).isLt; omega)) signs)
      ⟨(j 0).val % 32, by omega⟩ ⟨(j 1).val / 128, by have h : (j 1).val < 24576 := (j 1).isLt; omega⟩ ⟨(j 1).val % 128, by omega⟩ := by
  refine (dats m 0 c).arrAt_eq_of_covers 3 _ (by decide +kernel) fun t hf y => ?_
  have ht : t.val < 192 := lt_of_lt_of_eq t.isLt N_0
  blk_simp
  rw [after0_3]
  idx_vars y
  unfold outsAt0 out0_A_3
  dsimp only
  rw [codes_out', blk0, blk1 m c t ht, blk2]
  blk_simp [idx t]
  have e0 : (((View.whole main_v12_0).slice ((win0 3).rect t)).emb (ix2 y0 y1) 0).val = t.val * 32 + y0.val := by blk_simp [idx t]
  exact congrArg₂ (fun S (r : Fin 32) => code _ (halfS S signs) r _ _) (rowsOf_congr _ _ _ _ _ (by rw [e0]; omega)) (Fin.ext (show y0.val = (t.val * 32 + y0.val) % 32 by omega))

/-- The scales the kernel leaves, entry by entry. -/
theorem final4 (c : Dev nD) : (dats m 0 c).arrAt 4 cfg0.N = fun j : S6144x128.Idx =>
    scaleOf (amax (m ((c : Thread nD τ).loc main_arg1)) (halfS (rowsOf (m ((c : Thread nD τ).loc main_arg0)) ((j 0).val / 32) (by have h : (j 0).val < 6144 := (j 0).isLt; omega)) signs) ⟨(j 0).val % 32, by omega⟩) := by
  refine (dats m 0 c).arrAt_eq_of_covers 4 _ (by decide +kernel) fun t hf y => ?_
  have ht : t.val < 192 := lt_of_lt_of_eq t.isLt N_0
  blk_simp
  rw [after0_4]
  idx_vars y
  unfold outsAt0 out0_A_4
  dsimp only
  rw [scale_out', blk0, blk1 m c t ht, blk2]
  blk_simp [idx t]
  have e0 : (((View.whole main_v12_1).slice ((win0 4).rect t)).emb (ix2 y0 y1) 0).val = t.val * 32 + y0.val := by blk_simp [idx t]
  exact congrArg₂ (fun S (r : Fin 32) => scaleOf (amax _ (halfS S signs) r)) (rowsOf_congr _ _ _ _ _ (by rw [e0]; omega)) (Fin.ext (show y0.val = (t.val * 32 + y0.val) % 32 by omega))

end Cert.RotateIdeal.Hand

end
-- ==== Proof.RotateSign.lean ====
/-
  The signs of the Walsh matrix, and the 2048-wide transform of a segment as the 256-wide transforms of its eight pieces
  followed by sums and differences.
-/
module

public import proofs.«01_k».proof.Proof.RotateFinal

@[expose] public section

set_option maxRecDepth 16384

noncomputable section

namespace Cert.RotateIdeal.Hand

open Cert.RotateIdeal Cert.RotateIdeal.Gen
open Idealize.ShloMosaic Idealize.ShloMosaic.TcCoe Idealize.SL.Sem

/-- One, or minus one if `n` has an odd number of binary digits one. -/
def parity (n : ℕ) : ℤ := (1#32 - 2#32 * (IntOp.ctpop (BitVec.ofNat 32 n) &&& 1#32)).toInt

theorem sign_eq (p q : ℕ) : sign p q = ((parity (p &&& q) : ℝ) : EReal) := by
  unfold sign parity
  rw [BitVec.ofNat_and]

theorem sign_comm (p q : ℕ) : sign p q = sign q p := by
  rw [sign_eq, sign_eq, Nat.and_comm]

theorem parity_split : ∀ u : Fin 8, ∀ v : Fin 256, parity (256 * u.val + v.val) = parity u.val * parity v.val := by
  decide +kernel

theorem parity_unit : ∀ v : Fin 2048, parity v.val = 1 ∨ parity v.val = -1 := by decide +kernel

theorem and_split (a c l p : ℕ) (hl : l < 256) (hp : p < 256) :
    (256 * a + l) &&& (256 * c + p) = 256 * (a &&& c) + (l &&& p) := by
  have hlp : l &&& p < 2 ^ 8 := Nat.and_lt_two_pow _ hp
  refine Nat.eq_of_testBit_eq fun i => ?_
  have h1 := Nat.testBit_two_pow_mul_add a (i := 8) (b := l) hl i
  have h2 := Nat.testBit_two_pow_mul_add c (i := 8) (b := p) hp i
  have h3 := Nat.testBit_two_pow_mul_add (a &&& c) (i := 8) (b := l &&& p) hlp i
  rw [Nat.testBit_and, show (256 : ℕ) = 2 ^ 8 from rfl, h1, h2, h3]
  by_cases h : i < 8
  · simp [h]
  · simp [h]

theorem parity_and (a c l p : ℕ) (ha : a < 8) (hl : l < 256) (hp : p < 256) :
    parity ((256 * a + l) &&& (256 * c + p)) = parity (a &&& c) * parity (l &&& p) := by
  rw [and_split a c l p hl hp]
  exact parity_split ⟨a &&& c, lt_of_le_of_lt Nat.and_le_left ha⟩ ⟨l &&& p, lt_of_le_of_lt Nat.and_le_left hl⟩

/-- A value that is neither plus nor minus infinity. -/
def IsR (a : EReal) : Prop := a ≠ ⊤ ∧ a ≠ ⊥

theorem isR_coe (r : ℝ) : IsR (r : EReal) := ⟨EReal.coe_ne_top r, EReal.coe_ne_bot r⟩

theorem isR_iff (a : EReal) : IsR a ↔ ∃ r : ℝ, a = r := by
  constructor
  · intro h
    exact ⟨a.toReal, (EReal.coe_toReal h.1 h.2).symm⟩
  · rintro ⟨r, rfl⟩
    exact isR_coe r

theorem isR_add (a b : EReal) : IsR (a + b) ↔ IsR a ∧ IsR b := by
  unfold IsR
  induction a <;> induction b <;> simp [← EReal.coe_add]

theorem isR_sub (a b : EReal) : IsR (a - b) ↔ IsR a ∧ IsR b := by
  unfold IsR
  induction a <;> induction b <;> simp [← EReal.coe_sub]

theorem isR_sum {ι : Type*} (s : Finset ι) (f : ι → EReal) : IsR (∑ i ∈ s, f i) ↔ ∀ i ∈ s, IsR (f i) := by
  classical
  induction s using Finset.induction_on with
  | empty => simp [IsR]
  | insert a s ha ih => rw [Finset.sum_insert ha, isR_add, ih]; simp

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem isR_mul_sign (a : EReal) (p q : ℕ) (hp : p < 2048) : IsR (a * sign p q) ↔ IsR a := by
  rw [sign_eq]
  rcases parity_unit ⟨p &&& q, lt_of_le_of_lt Nat.and_le_left hp⟩ with h | h
  · rw [show parity (p &&& q) = 1 from h]; simp
  · rw [show parity (p &&& q) = -1 from h]
    simp only [Int.cast_neg, Int.cast_one, EReal.coe_neg, EReal.coe_one, mul_neg, mul_one]
    unfold IsR
    simp [EReal.neg_eq_top_iff, EReal.neg_eq_bot_iff, and_comm]

/-- Two values that are equal or both infinite. -/
def E (a b : EReal) : Prop := a = b ∨ (¬ IsR a ∧ ¬ IsR b)

theorem E_add (a b c d : EReal) (h : E a b) (h' : E c d) : E (a + c) (b + d) := by
  rcases h with rfl | ⟨h1, h2⟩
  · rcases h' with rfl | ⟨h3, h4⟩
    · exact .inl rfl
    · exact .inr ⟨fun h => h3 ((isR_add _ _).1 h).2, fun h => h4 ((isR_add _ _).1 h).2⟩
  · exact .inr ⟨fun h => h1 ((isR_add _ _).1 h).1, fun h => h2 ((isR_add _ _).1 h).1⟩

theorem E_sum {ι : Type*} (s : Finset ι) (f g : ι → EReal) (h : ∀ i, E (f i) (g i)) : E (∑ i ∈ s, f i) (∑ i ∈ s, g i) := by
  classical
  induction s using Finset.induction_on with
  | empty => exact .inl (by simp)
  | insert a s ha ih => rw [Finset.sum_insert ha, Finset.sum_insert ha]; exact E_add _ _ _ _ (h a) ih

theorem not_isR (a : EReal) : ¬ IsR a ↔ a = ⊤ ∨ a = ⊥ := by
  unfold IsR
  tauto

theorem not_isR_mul (a h : EReal) (ha : ¬ IsR a) (hh : h ≠ 0) : ¬ IsR (a * h) := by
  rw [not_isR] at ha ⊢
  rcases lt_or_gt_of_ne hh with h0 | h0 <;> rcases ha with rfl | rfl
  · exact .inr (EReal.top_mul_of_neg h0)
  · exact .inl (EReal.bot_mul_of_neg h0)
  · exact .inl (EReal.top_mul_of_pos h0)
  · exact .inr (EReal.bot_mul_of_pos h0)

theorem E_mul (a b h : EReal) (hab : E a b) : E (a * h) (b * h) := by
  rcases hab with rfl | ⟨h1, h2⟩
  · exact .inl rfl
  · by_cases hh : h = 0
    · subst hh; exact .inl (by simp)
    · exact .inr ⟨not_isR_mul a h h1 hh, not_isR_mul b h h2 hh⟩

theorem E_abs (a b : EReal) (hab : E a b) : max a (-a) = max b (-b) := by
  rcases hab with rfl | ⟨h1, h2⟩
  · rfl
  · rw [not_isR] at h1 h2
    rcases h1 with rfl | rfl <;> rcases h2 with rfl | rfl <;> simp

theorem sum_2048 {M : Type*} [AddCommMonoid M] (f : Fin 2048 → M) :
    ∑ p : Fin 2048, f p = ∑ k : Fin 8, ∑ p : Fin 256, f ⟨256 * k.val + p.val, by omega⟩ := by
  rw [← Fintype.sum_prod_type', ← Equiv.sum_comp (finProdFinEquiv (m := 8) (n := 256))]
  refine Finset.sum_congr rfl fun x _ => congrArg f (Fin.ext ?_)
  simp [finProdFinEquiv, Nat.add_comm]

/-- The sums and differences of eight real numbers are their sum with the signs of the 8-wide Walsh matrix. -/
theorem bfly_real (T : Fin 8 → ℝ) (d : Fin 8) :
    bfly (T 0) (T 1) (T 2) (T 3) (T 4) (T 5) (T 6) (T 7) d = ((∑ k : Fin 8, T k * (parity (d.val &&& k.val) : ℝ) : ℝ) : EReal) := by
  have tab : ∀ d k : Fin 8, parity (d.val &&& k.val) = (![![1,1,1,1,1,1,1,1], ![1,-1,1,-1,1,-1,1,-1], ![1,1,-1,-1,1,1,-1,-1],
    ![1,-1,-1,1,1,-1,-1,1], ![1,1,1,1,-1,-1,-1,-1], ![1,-1,1,-1,-1,1,-1,1], ![1,1,-1,-1,-1,-1,1,1], ![1,-1,-1,1,-1,1,1,-1]] : Fin 8 → Fin 8 → ℤ) d k := by
    decide +kernel
  simp only [tab]
  match d with
  | 0 | 1 | 2 | 3 | 4 | 5 | 6 | 7 =>
    simp only [bfly, ← EReal.coe_add, ← EReal.coe_sub]
    congr 1
    simp [Fin.sum_univ_succ]
    ring

theorem isR_bfly (t0 t1 t2 t3 t4 t5 t6 t7 : EReal) (d : Fin 8) : IsR (bfly t0 t1 t2 t3 t4 t5 t6 t7 d) ↔
    IsR t0 ∧ IsR t1 ∧ IsR t2 ∧ IsR t3 ∧ IsR t4 ∧ IsR t5 ∧ IsR t6 ∧ IsR t7 := by
  match d with
  | 0 | 1 | 2 | 3 | 4 | 5 | 6 | 7 =>
    simp only [bfly, isR_add, isR_sub, and_assoc]

/-- The eight pieces' transforms, summed and differenced, are the segment's transform, or both are infinite. -/
theorem segment (f : Fin 2048 → EReal) (d : Fin 8) (l : Fin 256) (t : Fin 8 → EReal)
    (ht : ∀ k : Fin 8, t k = ∑ p : Fin 256, f ⟨256 * k.val + p.val, by omega⟩ * sign p.val l.val) :
    E (bfly (t 0) (t 1) (t 2) (t 3) (t 4) (t 5) (t 6) (t 7) d) (∑ p : Fin 2048, f p * sign (256 * d.val + l.val) p.val) := by
  have hr : IsR (∑ p : Fin 2048, f p * sign (256 * d.val + l.val) p.val) ↔ ∀ p, IsR (f p) := by
    rw [isR_sum]
    exact ⟨fun h p => (isR_mul_sign _ _ _ (by omega)).1 (h p (Finset.mem_univ _)), fun h p _ => (isR_mul_sign _ _ _ (by omega)).2 (h p)⟩
  have hk : ∀ k, IsR (t k) ↔ ∀ p : Fin 256, IsR (f ⟨256 * k.val + p.val, by omega⟩) := by
    intro k
    rw [ht k, isR_sum]
    exact ⟨fun h p => (isR_mul_sign _ _ _ (by omega)).1 (h p (Finset.mem_univ _)), fun h p _ => (isR_mul_sign _ _ _ (by omega)).2 (h p)⟩
  have hall : (∀ k, IsR (t k)) ↔ ∀ p, IsR (f p) := by
    constructor
    · intro h p
      have := (hk ⟨p.val / 256, by omega⟩).1 (h _) ⟨p.val % 256, by omega⟩
      rwa [show (⟨256 * (p.val / 256) + p.val % 256, by omega⟩ : Fin 2048) = p from Fin.ext (Nat.div_add_mod _ _)] at this
    · intro h k
      exact (hk k).2 fun p => h _
  have h8 : IsR (bfly (t 0) (t 1) (t 2) (t 3) (t 4) (t 5) (t 6) (t 7) d) ↔ ∀ k, IsR (t k) := by
    rw [isR_bfly]
    simp [Fin.forall_fin_succ]
  by_cases hf : ∀ p, IsR (f p)
  · refine .inl ?_
    have hx : ∀ p, ∃ r : ℝ, f p = r := fun p => (isR_iff _).1 (hf p)
    choose ξ hξ using hx
    have et : ∀ k, t k = ((∑ p : Fin 256, ξ ⟨256 * k.val + p.val, by omega⟩ * (parity (p.val &&& l.val) : ℝ) : ℝ) : EReal) := by
      intro k
      rw [ht k, coe_sum]
      refine Finset.sum_congr rfl fun p _ => ?_
      rw [hξ, sign_eq, EReal.coe_mul]
    simp only [et]
    refine (bfly_real (fun k => ∑ p : Fin 256, ξ ⟨256 * k.val + p.val, by omega⟩ * (parity (p.val &&& l.val) : ℝ)) d).trans ?_
    have er : ∀ p : Fin 2048, f p * sign (256 * d.val + l.val) p.val = ((ξ p * (parity ((256 * d.val + l.val) &&& p.val) : ℝ) : ℝ) : EReal) := by
      intro p
      rw [hξ, sign_eq, EReal.coe_mul]
    simp only [er]
    rw [← coe_sum, sum_2048]
    congr 1
    refine Finset.sum_congr rfl fun k _ => ?_
    rw [Finset.sum_mul]
    refine Finset.sum_congr rfl fun p _ => ?_
    rw [parity_and d.val k.val l.val p.val d.isLt l.isLt p.isLt, Nat.and_comm p.val l.val]
    push_cast
    ring
  · exact .inr ⟨fun h => hf (hall.1 (h8.1 h)), fun h => hf (hr.1 h)⟩

end Cert.RotateIdeal.Hand

end
-- ==== Proof.RefRotate.lean ====
/-
  The result arrays of the rotate reference, entry by entry.
-/
module

public import proofs.«01_k».proof.Proof.Gen.RefRotateIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.RefRotateIdeal.Hand

open Cert.RefRotateIdeal Cert.RefRotateIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem idx : ∀ t : Fin grid0.N,
    win0_0.index t = ![0, 0] ∧ win0_1.index t = ![0, 0] ∧ win0_2.index t = ![0, 0] := by decide +kernel

/-- The sign at row `q`, column `p`: one, or minus one if the numbers share an odd number of binary digits one. -/
def sign (q p : ℕ) : EReal :=
  (((1#32 - 2#32 * (IntOp.ctpop (BitVec.ofNat 32 q &&& BitVec.ofNat 32 p) &&& 1#32)).toInt : ℝ) : EReal)

/-- The rotated array: every 2048-wide segment of a row through the signs, the twelve segments mixed, brought to the orthonormal size. -/
def rot (x : Vec Ideal S6x1024x24576 .bf16) (h : Vec Ideal S12x12 .f32) : S6144x24576.Idx → EReal := fun j =>
  (∑ k : Fin 12, (∑ p : Fin 2048, x (ix3 ⟨(j 0).val / 1024, by have h : (j 0).val < 6144 := (j 0).isLt; omega⟩ ⟨(j 0).val % 1024, by omega⟩ ⟨k.val * 2048 + p.val, by omega⟩)
      * sign ((j 1).val % 2048) p.val)
    * h (ix2 ⟨(j 1).val / 2048, by have h : (j 1).val < 24576 := (j 1).isLt; omega⟩ k)) * Ideal.ofBits FTy.f32 1003554284#32

/-- The largest magnitude of a row. -/
def rowMax (P : S6144x24576.Idx → EReal) (r : Fin 6144) : EReal :=
  Finset.fold max (Ideal.ofBits FTy.f32 4286578688#32) (fun x : Fin 24576 => FloatOps.absf (F := Ideal) (φ := .f32) (P (ix2 r x))) Finset.univ

/-- The scale of a row whose largest magnitude is `a`. -/
def scaleOf (a : EReal) : EReal := if a = 0 then 1 else Ideal.div a (Ideal.ofBits FTy.f32 1088421888#32)

/-- The code of a value at a scale. -/
def codeOf (v s : EReal) : BitVec 8 :=
  FloatOps.fptosi (F := Ideal) (φ := .f32) 8 (min (Ideal.ofBits FTy.f32 1088421888#32) (max (Ideal.ofBits FTy.f32 3235905536#32) (FloatOps.roundeven (F := Ideal) (φ := .f32) (Ideal.div v s))))

theorem red_at (P : Vec Ideal S6144x24576 .f32) (i : S6144.Idx) (r : Fin 6144) (hi : i = ix1 r) : multiReduction (F := Ideal) .maximumf [1] S6144 (absf (shapeCast S6144x24576 P shapeCasts_S6144x24576_S6144x24576)) 0xFF800000#32 reduces_S6144x24576_S6144 (.inl rfl) rfl i = rowMax P r := by
  subst hi
  unfold rowMax
  pointwise []

theorem pay3_at (P : Vec Ideal S6144x24576 .f32) (r : Fin 6144) (k : Fin 24576) : k0_pay3 P (ix2 r k) = codeOf (P (ix2 r k)) (scaleOf (rowMax P r)) := by
  rw [Value.piece1_0]
  dsimp only [Value.E1]
  rw [red_at P _ r]
  · generalize rowMax P r = a
    generalize e : P (Value.ix1_0 _) = p
    have e' : P (ix2 r k) = p := by
      rw [← e]
      refine congrArg P (funext fun ax => Fin.ext ?_)
      match ax with
      | ⟨0, _⟩ => show r.val = 0 + 1 * r.val; omega
      | ⟨1, _⟩ => show k.val = 0 + 1 * k.val; omega
    rw [e']
    unfold codeOf scaleOf
    pointwise []
  · refine funext fun ax => Fin.ext ?_
    match ax with
    | ⟨0, _⟩ => show 0 + 1 * r.val = r.val; omega

theorem pay4_at (P : Vec Ideal S6144x24576 .f32) (r : Fin 6144) (l : Fin 128) : k0_pay4 P (ix2 r l) = scaleOf (rowMax P r) := by
  rw [Value.piece2_0]
  dsimp only [Value.E2]
  rw [red_at P _ r]
  · generalize rowMax P r = a
    unfold scaleOf
    pointwise []
  · refine funext fun ax => Fin.ext ?_
    match ax with
    | ⟨0, _⟩ => show 0 + 1 * r.val = r.val; omega

theorem out_1 (P : Vec Ideal S6144x24576 .f32) : out0_1 P = k0_pay3 P := by
  funext y
  idx_vars y
  frame_out

theorem out_2 (P : Vec Ideal S6144x24576 .f32) : out0_2 P = k0_pay4 P := by
  funext y
  idx_vars y
  frame_out

theorem blk0 (c : Dev nD) (t : Fin cfg0.N) : iblk m c 0 t = rot (m ((c : Thread nD τ).loc main_arg0)) (m ((c : Thread nD τ).loc main_arg1)) := by
  funext y
  idx_vars y
  blk_simp [iblk, V, idx t]
  entry_read
  pointwise []
  have e : ((View.whole main_v18).slice (win0_0.rect t)).emb (ix2 y0 y1) = ix2 y0 y1 := by
    blk_ext [idx t]
  simp only [e]
  rfl

/-- The codes the reference leaves, entry by entry. -/
theorem final1 (c : Dev nD) : (dats m 0 c).arrAt 1 cfg0.N = fun j : S6144x24576.Idx =>
    codeOf (rot (m ((c : Thread nD τ).loc main_arg0)) (m ((c : Thread nD τ).loc main_arg1)) j)
      (scaleOf (rowMax (rot (m ((c : Thread nD τ).loc main_arg0)) (m ((c : Thread nD τ).loc main_arg1))) (j 0))) := by
  refine (dats m 0 c).arrAt_eq_of_covers 1 _ (by decide +kernel) fun t hf y => ?_
  blk_simp
  rw [after0_1, blk0, out_1]
  idx_vars y
  rw [pay3_at]
  have e : ((View.whole main_v19_0).slice ((win0 1).rect t)).emb (ix2 y0 y1) = ix2 y0 y1 := by
    blk_ext [idx t]
  beta_reduce
  rw [e]
  rfl

/-- The scales the reference leaves, entry by entry. -/
theorem final2 (c : Dev nD) : (dats m 0 c).arrAt 2 cfg0.N = fun j : S6144x128.Idx =>
    scaleOf (rowMax (rot (m ((c : Thread nD τ).loc main_arg0)) (m ((c : Thread nD τ).loc main_arg1))) (j 0)) := by
  refine (dats m 0 c).arrAt_eq_of_covers 2 _ (by decide +kernel) fun t hf y => ?_
  blk_simp
  rw [after0_2, blk0, out_2]
  idx_vars y
  rw [pay4_at]
  have e : ((View.whole main_v19_1).slice ((win0 2).rect t)).emb (ix2 y0 y1) = ix2 y0 y1 := by
    blk_ext [idx t]
  beta_reduce
  rw [e]
  rfl

end Cert.RefRotateIdeal.Hand

end
-- ==== Proof.RotateClaim.lean ====
/-
  The rotate-and-quantise kernel and its reference end at equal codes and equal scales.
-/
module

public import proofs.«01_k».proof.Defs
public import proofs.«01_k».proof.Proof.RotateSign
public import proofs.«01_k».proof.Proof.RefRotate

@[expose] public section

set_option maxRecDepth 16384

noncomputable section

namespace Cert.RotateIdeal.Hand

open Cert.RotateIdeal Cert.RotateIdeal.Gen
open Idealize.ShloMosaic Idealize.ShloMosaic.TcCoe Idealize.SL.Sem

/-- The mix of twelve blocks as a sum. -/
theorem mixd_sum (H : S12x12.Idx → EReal) (S : S96x32x256.Idx → EReal) (j : Fin 12) (d : Fin 8) (r : Fin 32) (l : Fin 256) :
    mixd H S j d r l = ∑ s : Fin 12, S (ix3 ⟨8 * s.val + d.val, by omega⟩ r l) * H (ix2 j s) := by
  have e := Fin.sum_univ_eq_sum_range (fun n : ℕ => if hn : n < 12 then S (ix3 ⟨8 * n + d.val, by omega⟩ r l) * H (ix2 j ⟨n, hn⟩) else 0) 12
  simp only [Fin.is_lt, dite_true, Fin.eta] at e
  rw [e]
  unfold mixd
  simp [Finset.sum_range_succ]

/-- Row `R` of the input, segment `s`, position `p`. -/
def seg (x : Vec Ideal S6x1024x24576 .bf16) (R : Fin 6144) (s : Fin 12) (p : Fin 2048) : EReal :=
  x (ix3 ⟨R.val / 1024, by omega⟩ ⟨R.val % 1024, by omega⟩ ⟨s.val * 2048 + p.val, by omega⟩)

/-- The rotated value before it is brought to the orthonormal size. -/
def raw (x : Vec Ideal S6x1024x24576 .bf16) (h : Vec Ideal S12x12 .f32) (R : Fin 6144) (K : Fin 24576) : EReal :=
  ∑ s : Fin 12, (∑ p : Fin 2048, seg x R s p * sign (K.val % 2048) p.val) * h (ix2 ⟨K.val / 2048, by omega⟩ s)

/-- The rows of the input a run takes in, as segments. -/
theorem rowsOf_seg (x : Vec Ideal S6x1024x24576 .bf16) (R : Fin 6144) (s : Fin 12) (k : Fin 8) (p : Fin 256) :
    rowsOf x (R.val / 32) (by omega) (ix2 ⟨R.val % 32, by omega⟩ ⟨256 * (8 * s.val + k.val) + p.val, by omega⟩)
      = seg x R s ⟨256 * k.val + p.val, by omega⟩ := by
  unfold rowsOf seg
  refine congrArg x (funext fun ax => Fin.ext ?_)
  match ax with
  | ⟨0, _⟩ => show (32 * (R.val / 32) + R.val % 32) / 1024 = R.val / 1024; rw [Nat.div_add_mod]
  | ⟨1, _⟩ => show (32 * (R.val / 32) + R.val % 32) % 1024 = R.val % 1024; rw [Nat.div_add_mod]
  | ⟨2, _⟩ => show 256 * (8 * s.val + k.val) + p.val = s.val * 2048 + (256 * k.val + p.val); omega

/-- A half-transformed block is the transform of its segment, or both are infinite. -/
theorem half_seg (x : Vec Ideal S6x1024x24576 .bf16) (R : Fin 6144) (s : Fin 12) (d : Fin 8) (l : Fin 256) :
    E (halfS (rowsOf x (R.val / 32) (by omega)) signs (ix3 ⟨8 * s.val + d.val, by omega⟩ ⟨R.val % 32, by omega⟩ l))
      (∑ p : Fin 2048, seg x R s p * sign (256 * d.val + l.val) p.val) := by
  have h := segment (seg x R s) d l (fun k => pieceDot (rowsOf x (R.val / 32) (by omega)) signs ⟨8 * s.val + k.val, by omega⟩ ⟨R.val % 32, by omega⟩ l) (by
    intro k
    refine Finset.sum_congr rfl fun p _ => ?_
    rw [rowsOf_seg]
    rfl)
  have e : halfS (rowsOf x (R.val / 32) (by omega)) signs (ix3 ⟨8 * s.val + d.val, by omega⟩ ⟨R.val % 32, by omega⟩ l)
      = half (rowsOf x (R.val / 32) (by omega)) signs ⟨8 * s.val + d.val, by omega⟩ ⟨R.val % 32, by omega⟩ l := rfl
  rw [e]
  unfold half
  simp only [show (8 * s.val + d.val) / 8 = s.val by omega, show (8 * s.val + d.val) % 8 = d.val by omega]
  exact h

/-- A mixed value of the kernel is the rotated value of the reference, or both are infinite. -/
theorem mix_raw (x : Vec Ideal S6x1024x24576 .bf16) (h : Vec Ideal S12x12 .f32) (R : Fin 6144) (a : Fin 96) (l : Fin 256) :
    E (mixAll h (halfS (rowsOf x (R.val / 32) (by omega)) signs) a ⟨R.val % 32, by omega⟩ l) (raw x h R ⟨256 * a.val + l.val, by omega⟩) := by
  unfold mixAll raw
  rw [mixd_sum]
  refine E_sum _ _ _ fun s => ?_
  have e1 : (⟨(256 * a.val + l.val) / 2048, by omega⟩ : Fin 12) = ⟨a.val / 8, by omega⟩ := Fin.ext (by show (256 * a.val + l.val) / 2048 = a.val / 8; omega)
  have e2 : (256 * a.val + l.val) % 2048 = 256 * (a.val % 8) + l.val := by omega
  simp only [e1, e2]
  exact E_mul _ _ _ (half_seg x R s ⟨a.val % 8, by omega⟩ l)

/-- The orthonormal factor. -/
def fac : EReal := Ideal.ofBits FTy.f32 1003554284#32

theorem fac_real : ∃ c : ℝ, 0 < c ∧ fac = (c : EReal) := by
  refine ⟨_, ?_, by unfold fac; simp [Ideal.ofBits, Ideal.ieee]; rfl⟩
  positivity

theorem fac_pos : 0 < fac := by
  obtain ⟨c, h, e⟩ := fac_real
  rw [e]; exact_mod_cast h

theorem fac_ne_top : fac ≠ ⊤ := by
  obtain ⟨c, h, e⟩ := fac_real
  rw [e]; exact EReal.coe_ne_top c

theorem seven : Ideal.ofBits FTy.f32 1088421888#32 = ((7 : ℝ) : EReal) := by
  simp [Ideal.ofBits, Ideal.ieee]
  rw [← EReal.coe_mul]
  norm_num

theorem abs_fac (u : EReal) : max (u * fac) (-(u * fac)) = max u (-u) * fac := by
  rw [← EReal.neg_mul]
  rcases le_total u (-u) with h | h
  · rw [max_eq_right h, max_eq_right (mul_le_mul_of_nonneg_right h fac_pos.le)]
  · rw [max_eq_left h, max_eq_left (mul_le_mul_of_nonneg_right h fac_pos.le)]

/-- The reference's rotated array, by rows and columns. -/
theorem rot_eq (x : Vec Ideal S6x1024x24576 .bf16) (h : Vec Ideal S12x12 .f32) (R : Fin 6144) (K : Fin 24576) :
    Cert.RefRotateIdeal.Hand.rot x h (ix2 R K) = raw x h R K * fac := rfl

/-- The largest magnitude of a row of the reference is the kernel's, brought to the orthonormal size. -/
theorem rowMax_eq (x : Vec Ideal S6x1024x24576 .bf16) (h : Vec Ideal S12x12 .f32) (R : Fin 6144) :
    Cert.RefRotateIdeal.Hand.rowMax (Cert.RefRotateIdeal.Hand.rot x h) R
      = amax h (halfS (rowsOf x (R.val / 32) (by omega)) signs) ⟨R.val % 32, by omega⟩ * fac := by
  have key : ∀ z, Cert.RefRotateIdeal.Hand.rowMax (Cert.RefRotateIdeal.Hand.rot x h) R ≤ z ↔
      amax h (halfS (rowsOf x (R.val / 32) (by omega)) signs) ⟨R.val % 32, by omega⟩ * fac ≤ z := by
    intro z
    have e : Ideal.ofBits FTy.f32 4286578688#32 = ⊥ := by
      simp [Ideal.ofBits, Ideal.ieee]
    unfold Cert.RefRotateIdeal.Hand.rowMax
    rw [Finset.fold_max_le, e, ← EReal.le_div_iff_mul_le fac_pos fac_ne_top]
    unfold amax
    simp only [iSup_le_iff, bot_le, true_and, Finset.mem_univ, forall_true_left]
    have step : ∀ K : Fin 24576, FloatOps.absf (F := Ideal) (φ := .f32) (Cert.RefRotateIdeal.Hand.rot x h (ix2 R K)) ≤ z ↔
        max (raw x h R K) (-(raw x h R K)) ≤ z / fac := by
      intro K
      rw [EReal.le_div_iff_mul_le fac_pos fac_ne_top, ← abs_fac, rot_eq]
      rfl
    simp only [step]
    constructor
    · intro H a l
      rw [E_abs _ _ (mix_raw x h R a l)]
      exact H _
    · intro H K
      have := H ⟨K.val / 256, by omega⟩ ⟨K.val % 256, by omega⟩
      rw [E_abs _ _ (mix_raw x h R _ _)] at this
      rwa [show (⟨256 * (K.val / 256) + K.val % 256, by omega⟩ : Fin 24576) = K from Fin.ext (Nat.div_add_mod _ _)] at this
  exact le_antisymm ((key _).2 le_rfl) ((key _).1 le_rfl)

/-- The scales agree. -/
theorem scale_eq (x : Vec Ideal S6x1024x24576 .bf16) (h : Vec Ideal S12x12 .f32) (R : Fin 6144) :
    Cert.RefRotateIdeal.Hand.scaleOf (Cert.RefRotateIdeal.Hand.rowMax (Cert.RefRotateIdeal.Hand.rot x h) R)
      = scaleOf (amax h (halfS (rowsOf x (R.val / 32) (by omega)) signs) ⟨R.val % 32, by omega⟩) := by
  rw [rowMax_eq]
  rfl

theorem scale_ne_zero (A : EReal) : scaleOf A ≠ 0 := by
  unfold scaleOf
  split
  · exact one_ne_zero
  · rename_i hA
    rw [seven]
    unfold Ideal.div
    rw [if_neg (by exact_mod_cast (by norm_num : (7 : ℝ) ≠ 0)), ← EReal.coe_inv]
    intro h0
    rcases mul_eq_zero.1 h0 with h | h
    · exact hA h
    · have : (7 : ℝ)⁻¹ = 0 := by exact_mod_cast h
      norm_num at this

theorem scale_top : scaleOf ⊤ = ⊤ := by
  have e : (⊤ : EReal) * fac = ⊤ := EReal.top_mul_of_pos fac_pos
  unfold scaleOf
  rw [show Ideal.ofBits FTy.f32 1003554284#32 = fac from rfl, e, if_neg (by simp), seven]
  unfold Ideal.div
  rw [if_neg (by exact_mod_cast (by norm_num : (7 : ℝ) ≠ 0)), ← EReal.coe_inv]
  exact EReal.top_mul_of_pos (by exact_mod_cast (by norm_num : (0 : ℝ) < 7⁻¹))

/-- A value times the quotient of factor and scale is its quotient by the scale. -/
theorem div_eq (m u A : EReal) (hE : E m u) (hA : max m (-m) ≤ A) :
    m * Ideal.div fac (scaleOf A) = Ideal.div (u * fac) (scaleOf A) := by
  unfold Ideal.div
  rw [if_neg (scale_ne_zero A), if_neg (scale_ne_zero A)]
  by_cases hT : A = ⊤
  · subst hT
    rw [scale_top, EReal.inv_top, mul_zero, mul_zero, mul_zero]
  · rcases hE with rfl | ⟨h1, h2⟩
    · rw [mul_assoc]
    · exfalso
      rw [not_isR] at h1
      rcases h1 with rfl | rfl <;> · simp at hA; exact hT hA

/-- The codes agree. -/
theorem code_ref (x : Vec Ideal S6x1024x24576 .bf16) (h : Vec Ideal S12x12 .f32) (R : Fin 6144) (K : Fin 24576) :
    Cert.RefRotateIdeal.Hand.codeOf (Cert.RefRotateIdeal.Hand.rot x h (ix2 R K))
        (Cert.RefRotateIdeal.Hand.scaleOf (Cert.RefRotateIdeal.Hand.rowMax (Cert.RefRotateIdeal.Hand.rot x h) R))
      = code h (halfS (rowsOf x (R.val / 32) (by omega)) signs) ⟨R.val % 32, by omega⟩ ⟨K.val / 128, by omega⟩ ⟨K.val % 128, by omega⟩ := by
  rw [scale_eq, rot_eq]
  have e1 : (⟨K.val / 128 / 2, by omega⟩ : Fin 96) = ⟨K.val / 256, by omega⟩ := Fin.ext (by show K.val / 128 / 2 = K.val / 256; omega)
  have e2 : (⟨K.val / 128 % 2 * 128 + K.val % 128, by omega⟩ : Fin 256) = ⟨K.val % 256, by omega⟩ :=
    Fin.ext (by show K.val / 128 % 2 * 128 + K.val % 128 = K.val % 256; omega)
  have hE := mix_raw x h R ⟨K.val / 256, by omega⟩ ⟨K.val % 256, by omega⟩
  simp only [Nat.div_add_mod, Fin.eta] at hE
  have hA : max (mixAll h (halfS (rowsOf x (R.val / 32) (by omega)) signs) ⟨K.val / 256, by omega⟩ ⟨R.val % 32, by omega⟩ ⟨K.val % 256, by omega⟩)
      (-(mixAll h (halfS (rowsOf x (R.val / 32) (by omega)) signs) ⟨K.val / 256, by omega⟩ ⟨R.val % 32, by omega⟩ ⟨K.val % 256, by omega⟩))
      ≤ amax h (halfS (rowsOf x (R.val / 32) (by omega)) signs) ⟨R.val % 32, by omega⟩ := by
    unfold amax
    exact le_iSup_of_le ⟨K.val / 256, by omega⟩ (le_iSup_of_le ⟨K.val % 256, by omega⟩ le_rfl)
  have hd := div_eq _ _ _ hE hA
  unfold code
  simp only [e1, e2]
  unfold Cert.RefRotateIdeal.Hand.codeOf codeOf
  rw [← hd]
  rfl

end Cert.RotateIdeal.Hand

namespace Cert.Proof.RotateClaim

open Idealize.ShloMosaic Idealize.ShloMosaic.TcCoe Idealize.SL.Sem

/-- From arguments that agree, kernel and reference end at the same codes and the same scales. -/
theorem algebraic [hRotateIdeal : Cert.RotateIdeal.Facts] [hRefRotateIdeal : Cert.RefRotateIdeal.Facts] :
    Cert.algebraic_RotateIdeal_RefRotateIdeal := by
  intro m ρ m' ρ' _ hagree
  refine ⟨fun c => (Cert.RotateIdeal.Gen.dats m 0 c).arrAt 3 Cert.RotateIdeal.cfg0.N,
    fun c => (Cert.RotateIdeal.Gen.dats m 0 c).arrAt 4 Cert.RotateIdeal.cfg0.N, Cert.RotateIdeal.Value.run_blocks m ρ, ?_⟩
  refine (θ_run Cert.RefRotateIdeal.defs _ _).mono (fun _ h c => ⟨(h c).1.trans ?_, (h c).2.1.trans ?_, (h c).2.2⟩)
    (Cert.RefRotateIdeal.Value.run_blocks (F := Ideal) m' ρ')
  · have e := hagree c
    beta_reduce
    rw [Cert.RefRotateIdeal.Hand.final1, Cert.RotateIdeal.Hand.final3, e.1, e.2]
    funext j
    idx_vars j
    exact Cert.RotateIdeal.Hand.code_ref _ _ j0 j1
  · have e := hagree c
    beta_reduce
    rw [Cert.RefRotateIdeal.Hand.final2, Cert.RotateIdeal.Hand.final4, e.1, e.2]
    funext j
    idx_vars j
    exact Cert.RotateIdeal.Hand.scale_eq _ _ j0

end Cert.Proof.RotateClaim

end
-- ==== Proof.DecodeBlocks.lean ====
/-
  The decode kernel, entry by entry: one run leaves 192 pieces of 128 columns, two to every piece of packed words.
-/
module

public import proofs.«01_k».proof.Proof.Gen.DecodeIdeal.Value
public import Idealize.ShloMosaic.Lib.Pointwise
public import Idealize.ShloMosaic.Lib.Pipeline.ValueKit

@[expose] public section

set_option maxRecDepth 65536

noncomputable section

namespace Cert.DecodeIdeal.Hand

open Cert.DecodeIdeal Cert.DecodeIdeal.Gen
open Idealize.ShloMosaic Idealize.ShloMosaic.TcCoe Idealize.SL.Sem

theorem slices_col (o : ℕ) (h : o < 192) : S64x192.Slices ![0, o] S64x1 :=
  ⟨rfl, fun a => match a with
    | ⟨0, _⟩ => (by decide : 0 + 64 ≤ 64)
    | ⟨1, _⟩ => (by omega : o + 1 ≤ 192)⟩

theorem inb_words (o : ℕ) (h : o < 96) : ∀ a, (![0, 128 * o] : Fin 2 → Nat) a + S64x128.size a ≤ S64x12288.size a := fun a => match a with
  | ⟨0, _⟩ => (by decide : 0 + 64 ≤ 64)
  | ⟨1, _⟩ => (by omega : 128 * o + 128 ≤ 12288)

theorem inb_low (o : ℕ) (h : o < 96) : ∀ a, (![0, 128 * o] : Fin 2 → Nat) a + S64x128.size a ≤ S64x24576.size a := fun a => match a with
  | ⟨0, _⟩ => (by decide : 0 + 64 ≤ 64)
  | ⟨1, _⟩ => (by omega : 128 * o + 128 ≤ 24576)

theorem inb_high (o : ℕ) (h : o < 96) : ∀ a, (![0, 12288 + 128 * o] : Fin 2 → Nat) a + S64x128.size a ≤ S64x24576.size a := fun a => match a with
  | ⟨0, _⟩ => (by decide : 0 + 64 ≤ 64)
  | ⟨1, _⟩ => (by omega : 12288 + 128 * o + 128 ≤ 24576)

/-- 128 columns of weights: the words shifted left by `sh` and back by 28, times the factors of group `o`. -/
def piece (P : FVec Ideal S64x192 .f32) (w : Vec Ideal S64x128 .i8) (sh : BitVec 32) (o : ℕ) (ho : S64x192.Slices ![0, o] S64x1) :
    FVec Ideal S64x128 .fp8e4m3 :=
  truncf .fp8e4m3 (truncf .bf16 (mulf (sitofp .f32 (shrsi (shli (extui 32 w natLt_8_32) (broadcast S64x128 sh)) (broadcast S64x128 28#32)))
    (broadcastTo S64x128 (extractStridedSlice S64x1 ![0, o] P ho) broadcasts_S64x1_S64x128)) bitsLt_bf16_f32) bitsLt_fp8e4m3_bf16

/-- The first `2 n` pieces a run stores, the last one first. -/
def pieces (x0 : Vec Ideal S64x12288 .i8) (x1 : Vec Ideal S64x192 .i8) : (n : ℕ) → n ≤ 96 → List (View.Piece (Elt Ideal) S64x24576 .fp8e4m3)
  | 0, _ => []
  | n + 1, h =>
    ⟨Rect.unit (s := S64x24576) ![0, 12288 + 128 * n] S64x128.size (inb_high n (by omega)),
      piece (k0_pay5 (View.ld x1 r0_0)) (View.ld x0 (Rect.unit (s := S64x12288) ![0, 128 * n] S64x128.size (inb_words n (by omega)))) 24#32 (96 + n) (slices_col _ (by omega))⟩
    :: ⟨Rect.unit (s := S64x24576) ![0, 128 * n] S64x128.size (inb_low n (by omega)),
      piece (k0_pay5 (View.ld x1 r0_0)) (View.ld x0 (Rect.unit (s := S64x12288) ![0, 128 * n] S64x128.size (inb_words n (by omega)))) 28#32 n (slices_col _ (by omega))⟩
    :: pieces x0 x1 n (by omega)

set_option maxHeartbeats 2000000 in
theorem out_eq (x0 : Vec Ideal S64x12288 .i8) (x1 : Vec Ideal S64x192 .i8) : out0_2 x0 x1 = View.canon (pieces x0 x1 96 le_rfl) := by
  unfold out0_2 k0_pay366
  refine congrArg View.canon ?_
  rfl

/-- The signed code in a word: shifted left by `sh` and back by 28. -/
def code (sh : BitVec 32) (w : BitVec 8) : BitVec 32 := IntOp.shrsi .vector (IntOp.shli .vector (w.setWidth 32) sh) 28#32

/-- The factor of an exponent, by its bits. -/
def factor (e : BitVec 8) : EReal :=
  Ideal.ofBits FTy.f32 (IntOp.shli .vector (IntOp.subi 127#32 (IntOp.minsi (e.setWidth 32) 127#32)) 23#32)

/-- The weight at row `r`, column `k`: low half-bytes on the left, high ones on the right. -/
def weight {n : ℕ} (w : Fin n → Fin 12288 → BitVec 8) (e : Fin n → Fin 192 → BitVec 8) (r : Fin n) (k : Fin 24576) : EReal :=
  FloatOps.sitofp (F := Ideal) FTy.f32 (code (if k.val < 12288 then 28#32 else 24#32) (w r ⟨k.val % 12288, by omega⟩)) * factor (e r ⟨k.val / 128, by omega⟩)

theorem piece_at (P : FVec Ideal S64x192 .f32) (w : Vec Ideal S64x128 .i8) (sh : BitVec 32) (o : ℕ) (h : o < 192) (ho : S64x192.Slices ![0, o] S64x1)
    (r : Fin 64) (l : Fin 128) :
    piece P w sh o ho (ix2 r l) = FloatOps.sitofp (F := Ideal) FTy.f32 (code sh (w (ix2 r l))) * P (ix2 r ⟨o, h⟩) := by
  unfold piece code
  pointwise []

theorem factor_at (x1 : Vec Ideal S64x192 .i8) (r : Fin 64) (g : Fin 192) :
    k0_pay5 (View.ld x1 r0_0) (ix2 r g) = factor (x1 (ix2 r g)) := by
  have e : View.ld x1 r0_0 (ix2 r g) = x1 (ix2 r g) := by
    refine congrArg x1 (funext fun ax => Fin.ext ?_)
    match ax with
    | ⟨0, _⟩ => show 0 + 1 * r.val = r.val; omega
    | ⟨1, _⟩ => show 0 + 1 * g.val = g.val; omega
  rw [← e]
  rfl

theorem ld_words (x0 : Vec Ideal S64x12288 .i8) (n : ℕ) (h : n < 96) (r : Fin 64) (l : Fin 128) :
    View.ld x0 (Rect.unit (s := S64x12288) ![0, 128 * n] S64x128.size (inb_words n h)) (ix2 r l) = x0 (ix2 r ⟨128 * n + l.val, by omega⟩) := by
  refine congrArg x0 (funext fun ax => Fin.ext ?_)
  match ax with
  | ⟨0, _⟩ => show 0 + 1 * r.val = r.val; omega
  | ⟨1, _⟩ => show 128 * n + 1 * l.val = 128 * n + l.val; omega

/-- Each piece holds the weights of its columns. -/
theorem pieces_allAt (x0 : Vec Ideal S64x12288 .i8) (x1 : Vec Ideal S64x192 .i8) (r : Fin 64) (k : Fin 24576) : ∀ (n : ℕ) (h : n ≤ 96),
    View.AllAt (pieces x0 x1 n h) (ix2 r k) (weight (fun r k => x0 (ix2 r k)) (fun r g => x1 (ix2 r g)) r k)
  | 0, _ => View.allAt_nil _ _
  | n + 1, h => by
    unfold pieces
    refine View.allAt_cons_unit _ _ _ _ _ ?_ (View.allAt_cons_unit _ _ _ _ _ ?_ (pieces_allAt x0 x1 r k n (by omega)))
    · intro x hx
      obtain ⟨a, l, rfl⟩ : ∃ (a : Fin 64) (l : Fin 128), x = ix2 a l := ⟨x 0, x 1, (ix2_eta x).symm⟩
      have h0 : r.val = 0 + a.val := hx 0
      have h1 : k.val = 12288 + 128 * n + l.val := hx 1
      obtain rfl : r = a := Fin.ext (by omega)
      rw [piece_at _ _ _ _ (by omega), factor_at, ld_words x0 n (by omega)]
      unfold weight
      rw [if_neg (by omega)]
      have e1 : (⟨k.val % 12288, by omega⟩ : Fin 12288) = ⟨128 * n + l.val, by omega⟩ := Fin.ext (by show k.val % 12288 = 128 * n + l.val; omega)
      have e2 : (⟨k.val / 128, by omega⟩ : Fin 192) = ⟨96 + n, by omega⟩ := Fin.ext (by show k.val / 128 = 96 + n; omega)
      simp only [e1, e2]
    · intro x hx
      obtain ⟨a, l, rfl⟩ : ∃ (a : Fin 64) (l : Fin 128), x = ix2 a l := ⟨x 0, x 1, (ix2_eta x).symm⟩
      have h0 : r.val = 0 + a.val := hx 0
      have h1 : k.val = 128 * n + l.val := hx 1
      obtain rfl : r = a := Fin.ext (by omega)
      rw [piece_at _ _ _ _ (by omega), factor_at, ld_words x0 n (by omega)]
      unfold weight
      rw [if_pos (by omega)]
      have e1 : (⟨k.val % 12288, by omega⟩ : Fin 12288) = ⟨128 * n + l.val, by omega⟩ := Fin.ext (by show k.val % 12288 = 128 * n + l.val; omega)
      have e2 : (⟨k.val / 128, by omega⟩ : Fin 192) = ⟨n, by omega⟩ := Fin.ext (by show k.val / 128 = n; omega)
      simp only [e1, e2]

/-- Every column lies in some piece. -/
theorem pieces_cover (x0 : Vec Ideal S64x12288 .i8) (x1 : Vec Ideal S64x192 .i8) (r : Fin 64) (k : Fin 24576) : ∀ (n : ℕ) (h : n ≤ 96),
    k.val % 12288 < 128 * n → ∃ p ∈ pieces x0 x1 n h, (ix2 r k : S64x24576.Idx) ∈ p.1.set
  | 0, _, hk => absurd hk (by omega)
  | n + 1, h, hk => by
    unfold pieces
    by_cases hn : k.val % 12288 < 128 * n
    · obtain ⟨p, hp, hy⟩ := pieces_cover x0 x1 r k n (by omega) hn
      exact ⟨p, List.mem_cons_of_mem _ (List.mem_cons_of_mem _ hp), hy⟩
    · by_cases hl : k.val < 12288
      · refine ⟨_, List.mem_cons_of_mem _ List.mem_cons_self, (Rect.mem_set_unit (inb := inb_low n (by omega))).mpr fun ax => ?_⟩
        match ax with
        | ⟨0, _⟩ => show 0 ≤ r.val ∧ r.val < 0 + 64; omega
        | ⟨1, _⟩ => show 128 * n ≤ k.val ∧ k.val < 128 * n + 128; omega
      · refine ⟨_, List.mem_cons_self, (Rect.mem_set_unit (inb := inb_high n (by omega))).mpr fun ax => ?_⟩
        match ax with
        | ⟨0, _⟩ => show 0 ≤ r.val ∧ r.val < 0 + 64; omega
        | ⟨1, _⟩ => show 12288 + 128 * n ≤ k.val ∧ k.val < 12288 + 128 * n + 128; omega

/-- What a run leaves: the weights of its rows. -/
theorem out_at (x0 : Vec Ideal S64x12288 .i8) (x1 : Vec Ideal S64x192 .i8) (r : Fin 64) (k : Fin 24576) :
    out0_2 x0 x1 (ix2 r k) = weight (fun r k => x0 (ix2 r k)) (fun r g => x1 (ix2 r g)) r k := by
  rw [out_eq]
  exact View.canon_eq_of_allAt _ _ _ (pieces_cover x0 x1 r k 96 le_rfl (by omega)) (pieces_allAt x0 x1 r k 96 le_rfl)

variable (m : (ℓ : Loc nD τ sig) → Buf (Elt Ideal) ℓ)

theorem idx : ∀ t : Fin grid0.N, win0_0.index t = ![t.val, 0] ∧ win0_1.index t = ![t.val, 0] ∧ win0_2.index t = ![t.val, 0] := by decide +kernel

theorem blk0 (c : Dev nD) (t : Fin cfg0.N) : iblk m c 0 t = fun y : S64x12288.Idx =>
    m ((c : Thread nD τ).loc main_arg0) (ix2 ⟨64 * t.val + (y 0).val, by have h : (y 0).val < 64 := (y 0).isLt; have := t.isLt; have e : cfg0.N = 48 := rfl; omega⟩ (y 1)) := by
  funext y
  blk_point [iblk, V, idx t]

theorem blk1 (c : Dev nD) (t : Fin cfg0.N) : iblk m c 1 t = fun y : S64x192.Idx =>
    m ((c : Thread nD τ).loc main_arg1) (ix2 ⟨64 * t.val + (y 0).val, by have h : (y 0).val < 64 := (y 0).isLt; have := t.isLt; have e : cfg0.N = 48 := rfl; omega⟩ (y 1)) := by
  funext y
  blk_point [iblk, V, idx t]

/-- The weights the kernel leaves, entry by entry. -/
theorem final (c : Dev nD) : (dats m 0 c).arrAt 2 cfg0.N = fun j : S3072x24576.Idx =>
    weight (fun r k => m ((c : Thread nD τ).loc main_arg0) (ix2 r k)) (fun r g => m ((c : Thread nD τ).loc main_arg1) (ix2 r g)) (j 0) (j 1) := by
  refine (dats m 0 c).arrAt_eq_of_covers 2 _ (by decide +kernel) fun t hf y => ?_
  blk_simp
  rw [after0_2, blk0, blk1]
  idx_vars y
  rw [out_at]
  have e : ((View.whole main_v0).slice ((win0 2).rect t)).emb (ix2 y0 y1) = ix2 ⟨64 * t.val + y0.val, by have h : t.val < 48 := t.isLt; omega⟩ y1 := by
    blk_ext [idx t]
  beta_reduce
  rw [e]
  rfl

end Cert.DecodeIdeal.Hand

end
-- ==== Proof.RefDecode.lean ====
/-
  The weights the decode reference leaves, entry by entry.
-/
module

public import proofs.«01_k».proof.Proof.Gen.RefDecodeIdeal.Frame
public import Idealize.ShloMosaic.Lib.Pipeline.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.RefDecodeIdeal.Hand

open Cert.RefDecodeIdeal Cert.RefDecodeIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem idx : ∀ t : Fin grid0.N,
    win0_0.index t = ![0, 0] ∧ win0_1.index t = ![0, 0] ∧ win0_2.index t = ![0, 0] := by decide +kernel

/-- A half-byte, read as a number from minus eight to seven. -/
def signed (v : BitVec 32) : BitVec 32 := Scalar.select (IntOp.cmpi .sge v 8#32) (IntOp.subi v 16#32) v

/-- The low half-byte of a word. -/
def low (w : BitVec 8) : BitVec 32 := IntOp.andi (w.setWidth 32) 15#32

/-- The high half-byte of a word. -/
def high (w : BitVec 8) : BitVec 32 := IntOp.andi (IntOp.shrsi .vector (w.setWidth 32) 4#32) 15#32

/-- Two to the power of minus the exponent; zero from exponent 127 on. -/
def factor (e : BitVec 8) : EReal :=
  Scalar.select (IntOp.cmpi .slt (e.setWidth 32) 127#32)
    (Ideal.pow (Ideal.ofBits FTy.f32 0x40000000#32) (-(FloatOps.sitofp (F := Ideal) FTy.f32 (e.setWidth 32) : EReal)))
    0

/-- The code at row `r`, column `k`: low half-bytes on the left, high ones on the right. -/
def codeAt {n : ℕ} (w : Fin n → Fin 12288 → BitVec 8) (r : Fin n) (k : Fin 24576) : BitVec 32 :=
  if h : k.val < 12288 then signed (low (w r ⟨k.val, h⟩)) else signed (high (w r ⟨k.val - 12288, by omega⟩))

/-- The weight at row `r`, column `k`. -/
def weight {n : ℕ} (w : Fin n → Fin 12288 → BitVec 8) (e : Fin n → Fin 192 → BitVec 8) (r : Fin n) (k : Fin 24576) : EReal :=
  (FloatOps.sitofp (F := Ideal) FTy.bf16 (codeAt w r k) : EReal) * factor (e r ⟨k.val / 128, by omega⟩)

theorem pay_at (P0 : Vec Ideal S3072x12288 .i8) (P1 : Vec Ideal S3072x24576 .bf16) (r : Fin 3072) (k : Fin 24576) :
    k0_pay1 P0 P1 (ix2 r k)
      = (FloatOps.sitofp (F := Ideal) FTy.bf16 (codeAt (fun r k => P0 (ix2 r k)) r k) : EReal) * P1 (ix2 r k) := by
  unfold k0_pay1
  unfold codeAt signed low high
  pointwise []
  done

theorem out_2 (P0 : Vec Ideal S3072x12288 .i8) (P1 : Vec Ideal S3072x24576 .bf16) : out0_2 P0 P1 = k0_pay1 P0 P1 := by
  funext y
  idx_vars y
  frame_out

theorem blk0 (c : Dev nD) (t : Fin cfg0.N) : iblk m c 0 t = m ((c : Thread nD τ).loc main_arg0) := by
  funext y
  idx_vars y
  blk_point [iblk, V, idx t]

theorem blk1 (c : Dev nD) (t : Fin cfg0.N) : iblk m c 1 t = fun y : S3072x24576.Idx =>
    factor (m ((c : Thread nD τ).loc main_arg1) (ix2 (y 0) ⟨(y 1).val / 128, by have h : (y 1).val < 24576 := (y 1).isLt; omega⟩)) := by
  funext y
  idx_vars y
  blk_simp [iblk, V, idx t]
  entry_read
  pointwise []
  have e : ((View.whole main_v12).slice (win0_1.rect t)).emb (ix2 y0 y1) = ix2 y0 y1 := by
    blk_ext [idx t]
  simp only [e]
  rfl

/-- The weights the reference leaves, entry by entry. -/
theorem final (c : Dev nD) : (dats m 0 c).arrAt 2 cfg0.N = fun j : S3072x24576.Idx =>
    weight (fun r k => m ((c : Thread nD τ).loc main_arg0) (ix2 r k)) (fun r g => m ((c : Thread nD τ).loc main_arg1) (ix2 r g)) (j 0) (j 1) := by
  refine (dats m 0 c).arrAt_eq_of_covers 2 _ (by decide +kernel) fun t hf y => ?_
  blk_simp
  rw [after0_2, blk0, blk1, out_2]
  idx_vars y
  rw [pay_at]
  have e : ((View.whole main_v13).slice ((win0 2).rect t)).emb (ix2 y0 y1) = ix2 y0 y1 := by
    blk_ext [idx t]
  beta_reduce
  rw [e]
  rfl

/-- The run, with the array it leaves and the arguments unchanged. -/
theorem run_blocks : θ_run defs (onTc (τ := τ) (main (F := Ideal))) ⟨m, fun _ => 0, ρ⟩ fun r => ∀ c : Dev nD,
      r.2.mem ((c : Thread nD τ).loc main_v13) = (dats m 0 c).arrAt 2 cfg0.N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1 2,
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c)⟩)
    (run_main m ρ)

end Cert.RefDecodeIdeal.Hand

end
-- ==== Proof.DecodeFactor.lean ====
/-
  The two decodings of a byte and of an exponent are the same: codes and factors for every byte.
-/
module

public import proofs.«01_k».proof.Proof.DecodeBlocks
public import proofs.«01_k».proof.Proof.RefDecode

@[expose] public section

set_option maxRecDepth 16384

noncomputable section

namespace Cert.Proof.DecodeClaim

open Idealize.ShloMosaic

/-- Shifting the low half-byte to the top and back is reading it as signed. -/
theorem code_low : ∀ w : BitVec 8, Cert.DecodeIdeal.Hand.code 28#32 w = Cert.RefDecodeIdeal.Hand.signed (Cert.RefDecodeIdeal.Hand.low w) := by
  decide +kernel

/-- The same of the high half-byte. -/
theorem code_high : ∀ w : BitVec 8, Cert.DecodeIdeal.Hand.code 24#32 w = Cert.RefDecodeIdeal.Hand.signed (Cert.RefDecodeIdeal.Hand.high w) := by
  decide +kernel

/-- The word whose bits the kernel reads as the factor of an exponent. -/
def bits (e : BitVec 8) : BitVec 32 := IntOp.shli .vector (IntOp.subi 127#32 (IntOp.minsi (e.setWidth 32) 127#32)) 23#32

/-- Its fields: positive, biased exponent `127 - e`, no fraction. -/
theorem bits_fields : ∀ e : BitVec 8, e.toNat < 127 →
    (bits e).extractLsb' 31 1 = 0#1 ∧ ((bits e).extractLsb' 23 8).toNat = 127 - e.toNat ∧ ((bits e).extractLsb' 0 23).toNat = 0
    ∧ (e.setWidth 32).toInt = (e.toNat : ℤ) ∧ IntOp.cmpi .slt (e.setWidth 32) 127#32 = 1#1 := by
  decide +kernel

/-- From 127 on the word is zero. -/
theorem bits_zero : ∀ e : BitVec 8, ¬ e.toNat < 127 → bits e = 0#32 ∧ IntOp.cmpi .slt (e.setWidth 32) 127#32 = 0#1 := by
  decide +kernel

theorem two : Ideal.ofBits FTy.f32 0x40000000#32 = ((2 : ℝ) : EReal) := by
  simp [Ideal.ofBits, Ideal.ieee, -EReal.coe_mul]; norm_num

/-- A positive pattern without fraction is a power of two. -/
theorem ieee_pow (b : BitVec 32) (x : ℕ) (h1 : b.extractLsb' (8 + 23) 1 = 0#1) (h2 : (b.extractLsb' 23 8).toNat = x)
    (h3 : (b.extractLsb' 0 23).toNat = 0) (h0 : x ≠ 0) (hx : x ≠ 255) :
    Ideal.ieee 8 23 b = (((2 : ℝ) ^ ((x : ℤ) - 127) : ℝ) : EReal) := by
  unfold Ideal.ieee
  simp only [h1, h2, h3]
  rw [if_neg (by simpa using hx), if_neg h0]
  refine congrArg Real.toEReal ?_
  have e : (x : ℤ) - (2 ^ (8 - 1) - 1) - (23 : ℕ) = ((x : ℤ) - 127) - 23 := by norm_num
  rw [e, zpow_sub₀ (by norm_num)]
  norm_num
  ring

/-- The factor of an exponent is the value of its word. -/
theorem factor_bits (e : BitVec 8) : Cert.DecodeIdeal.Hand.factor e = Ideal.ieee 8 23 (bits e) := by
  unfold Cert.DecodeIdeal.Hand.factor bits Ideal.ofBits
  rfl

/-- The word's value is two to the power of minus the exponent, or zero from 127 on. -/
theorem factor_eq (e : BitVec 8) : Cert.DecodeIdeal.Hand.factor e = Cert.RefDecodeIdeal.Hand.factor e := by
  by_cases h : e.toNat < 127
  case neg =>
    obtain ⟨h1, h2⟩ := bits_zero e h
    unfold Cert.RefDecodeIdeal.Hand.factor
    rw [h2, factor_bits, h1]
    exact Ideal.ofBits_zero_f32
  obtain ⟨h1, h2, h3, h4, h5⟩ := bits_fields e h
  have hr : Cert.RefDecodeIdeal.Hand.factor e = ((Real.rpow 2 (-(e.toNat : ℝ)) : ℝ) : EReal) := by
    unfold Cert.RefDecodeIdeal.Hand.factor
    rw [two, h5]
    show Ideal.pow ((2 : ℝ) : EReal) (-((((e.setWidth 32).toInt : ℤ) : ℝ) : EReal)) = _
    rw [h4, ← EReal.coe_neg, Ideal.pow_coe_coe, Int.cast_natCast]
  rw [hr]
  rw [factor_bits, ieee_pow (bits e) (127 - e.toNat) h1 h2 h3 (by omega) (by omega)]
  refine congrArg Real.toEReal ?_
  rw [Real.rpow_eq_pow, Real.rpow_neg (by norm_num), Real.rpow_natCast, ← zpow_natCast, ← zpow_neg]
  have e1 : ((127 - e.toNat : ℕ) : ℤ) - 127 = -(e.toNat : ℤ) := by omega
  rw [e1]

end Cert.Proof.DecodeClaim

end
-- ==== Proof.DecodeClaim.lean ====
/-
  The decode kernel and its reference end at equal arrays.
-/
module

public import proofs.«01_k».proof.Defs
public import proofs.«01_k».proof.Proof.DecodeFactor

@[expose] public section

set_option maxRecDepth 16384

noncomputable section

namespace Cert.Proof.DecodeClaim

open Idealize.ShloMosaic Idealize.ShloMosaic.TcCoe Idealize.SL.Sem

/-- The weights agree entry by entry. -/
theorem weight_eq {n : ℕ} (w : Fin n → Fin 12288 → BitVec 8) (e : Fin n → Fin 192 → BitVec 8)
    (r : Fin n) (k : Fin 24576) : Cert.RefDecodeIdeal.Hand.weight w e r k = Cert.DecodeIdeal.Hand.weight w e r k := by
  unfold Cert.RefDecodeIdeal.Hand.weight Cert.DecodeIdeal.Hand.weight Cert.RefDecodeIdeal.Hand.codeAt
  rw [factor_eq]
  by_cases h : k.val < 12288
  · have e1 : (⟨k.val % 12288, by omega⟩ : Fin 12288) = ⟨k.val, h⟩ := Fin.ext (by show k.val % 12288 = k.val; omega)
    rw [dif_pos h, if_pos h, e1, code_low]
    rfl
  · have e1 : (⟨k.val % 12288, by omega⟩ : Fin 12288) = ⟨k.val - 12288, by omega⟩ := Fin.ext (by show k.val % 12288 = k.val - 12288; omega)
    rw [dif_neg h, if_neg h, e1, code_high]
    rfl

/-- From arguments that agree, kernel and reference end at the same weights. -/
theorem algebraic [hDecodeIdeal : Cert.DecodeIdeal.Facts] [hRefDecodeIdeal : Cert.RefDecodeIdeal.Facts] :
    Cert.algebraic_DecodeIdeal_RefDecodeIdeal := by
  intro m ρ m' ρ' _ hagree
  refine ⟨fun c => (Cert.DecodeIdeal.Gen.dats m 0 c).arrAt 2 Cert.DecodeIdeal.cfg0.N, Cert.DecodeIdeal.Value.run_blocks m ρ, ?_⟩
  refine (θ_run Cert.RefDecodeIdeal.defs _ _).mono (fun _ h c => ⟨(h c).1.trans ?_, (h c).2⟩)
    (Cert.RefDecodeIdeal.Hand.run_blocks m' ρ')
  have e := hagree c
  beta_reduce
  rw [Cert.RefDecodeIdeal.Hand.final, Cert.DecodeIdeal.Hand.final, e.1, e.2]
  funext j
  exact weight_eq _ _ (j 0) (j 1)

end Cert.Proof.DecodeClaim

end
-- ==== Proof.lean ====
module

public import proofs.«01_k».proof.Defs
public import proofs.«01_k».proof.Proof.Gen.Matmul.Frame
public import proofs.«01_k».proof.Proof.Gen.MatmulIdeal.Frame
public import proofs.«01_k».proof.Proof.Gen.RefMatmulIdeal.Frame
public import proofs.«01_k».proof.Proof.MatmulClaim
public import proofs.«01_k».proof.Proof.Gen.Rotate.Frame
public import proofs.«01_k».proof.Proof.Gen.RotateIdeal.Frame
public import proofs.«01_k».proof.Proof.Gen.RefRotateIdeal.Frame
public import proofs.«01_k».proof.Proof.RotateClaim
public import proofs.«01_k».proof.Proof.Gen.Decode.Frame
public import proofs.«01_k».proof.Proof.Gen.DecodeIdeal.Frame
public import proofs.«01_k».proof.Proof.Gen.RefDecodeIdeal.Frame
public import proofs.«01_k».proof.Proof.DecodeClaim

@[expose] public section

noncomputable section

namespace Cert.Proof

open Idealize.ShloMosaic Idealize.SL.Sem

/-- All claims of the certificate. -/
theorem claim : Cert.Claim :=
  ⟨Cert.Matmul.Gen.facts, Cert.MatmulIdeal.Gen.facts, Cert.RefMatmulIdeal.Gen.facts,
    Cert.Rotate.Gen.facts, Cert.RotateIdeal.Gen.facts, Cert.RefRotateIdeal.Gen.facts,
    Cert.Decode.Gen.facts, Cert.DecodeIdeal.Gen.facts, Cert.RefDecodeIdeal.Gen.facts,
    fun m ρ _ => Cert.Matmul.Gen.frame m ρ, fun m ρ _ => Cert.MatmulIdeal.Gen.frame m ρ,
    fun m ρ _ => Cert.RefMatmulIdeal.Gen.frame m ρ,
    fun m ρ _ => Cert.Rotate.Gen.frame m ρ, fun m ρ _ => Cert.RotateIdeal.Gen.frame m ρ,
    fun m ρ _ => Cert.RefRotateIdeal.Gen.frame m ρ,
    fun m ρ _ => Cert.Decode.Gen.frame m ρ, fun m ρ _ => Cert.DecodeIdeal.Gen.frame m ρ,
    fun m ρ _ => Cert.RefDecodeIdeal.Gen.frame m ρ,
    trivial, MatmulClaim.algebraic, trivial, RotateClaim.algebraic,
    trivial, DecodeClaim.algebraic⟩

end Cert.Proof

end
